-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_heads [hPre_finite_heads : Cert.Pre_finite_heads.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_heads.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_finite_heads.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_finite_heads.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_heads [hPre_finite_heads : Cert.Pre_finite_heads.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_heads.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_finite_heads.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_finite_heads.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_mixer [hPre_finite_mixer : Cert.Pre_finite_mixer.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_mixer.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).1 = (fun _ => 1#1)
    ∧ (Cert.Pre_finite_mixer.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).2.1 = (fun _ => 1#1)
    ∧ (Cert.Pre_finite_mixer.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).2.2.1 = (fun _ => 1#1)
    ∧ (Cert.Pre_finite_mixer.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_mixer [hPre_finite_mixer : Cert.Pre_finite_mixer.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_mixer.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).1 = (fun _ => 1#1)
    ∧ (Cert.Pre_finite_mixer.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).2.1 = (fun _ => 1#1)
    ∧ (Cert.Pre_finite_mixer.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).2.2.1 = (fun _ => 1#1)
    ∧ (Cert.Pre_finite_mixer.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_keys [hPre_finite_keys : Cert.Pre_finite_keys.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_keys.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).1 = (fun _ => 1#1)
    ∧ (Cert.Pre_finite_keys.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.1 = (fun _ => 1#1)
    ∧ (Cert.Pre_finite_keys.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2.1 = (fun _ => 1#1)
    ∧ (Cert.Pre_finite_keys.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_keys [hPre_finite_keys : Cert.Pre_finite_keys.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_keys.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).1 = (fun _ => 1#1)
    ∧ (Cert.Pre_finite_keys.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.1 = (fun _ => 1#1)
    ∧ (Cert.Pre_finite_keys.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2.1 = (fun _ => 1#1)
    ∧ (Cert.Pre_finite_keys.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite_heads [hKernel3Ideal : Cert.Kernel3Ideal.Facts] [hPre_finite_heads : Cert.Pre_finite_heads.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_heads m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite_heads [hReference3Ideal : Cert.Reference3Ideal.Facts] [hPre_finite_heads : Cert.Pre_finite_heads.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_heads m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Kernel4Ideal_pre_finite_mixer [hKernel4Ideal : Cert.Kernel4Ideal.Facts] [hPre_finite_mixer : Cert.Pre_finite_mixer.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_mixer m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Reference4Ideal_pre_finite_mixer [hReference4Ideal : Cert.Reference4Ideal.Facts] [hPre_finite_mixer : Cert.Pre_finite_mixer.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_mixer m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Kernel5Ideal_pre_finite_keys [hKernel5Ideal : Cert.Kernel5Ideal.Facts] [hPre_finite_keys : Cert.Pre_finite_keys.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_keys m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Reference5Ideal_pre_finite_keys [hReference5Ideal : Cert.Reference5Ideal.Facts] [hPre_finite_keys : Cert.Pre_finite_keys.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_keys m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def preserves_Kernel_KernelIdeal : Prop :=
  IdealRules.named_const.Statement Cert.KernelIdeal.κ "scale" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite_heads [hKernel3Ideal : Cert.Kernel3Ideal.Facts] [hReference3Ideal : Cert.Reference3Ideal.Facts] [hPre_finite_heads : Cert.Pre_finite_heads.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_heads m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v24)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v51) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite_mixer [hKernel4Ideal : Cert.Kernel4Ideal.Facts] [hReference4Ideal : Cert.Reference4Ideal.Facts] [hPre_finite_mixer : Cert.Pre_finite_mixer.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_mixer m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v15)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v62) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def preserves_Kernel5_Kernel5Ideal : Prop :=
  True

def algebraic_Kernel5Ideal_Reference5Ideal_pre_finite_keys [hKernel5Ideal : Cert.Kernel5Ideal.Facts] [hReference5Ideal : Cert.Reference5Ideal.Facts] [hPre_finite_keys : Cert.Pre_finite_keys.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_keys m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v33_0)) (v1 : (c : Dev Cert.Kernel5Ideal.nD) → Buf (Elt Ideal) ((c.tc : Thread Cert.Kernel5Ideal.nD Cert.Kernel5Ideal.τ).loc Cert.Kernel5Ideal.main_v33_1)) (v2 : (c : Dev Cert.Kernel5Ideal.nD) → Buf (Elt Ideal) ((c.tc : Thread Cert.Kernel5Ideal.nD Cert.Kernel5Ideal.τ).loc Cert.Kernel5Ideal.main_v33_2)) (v3 : (c : Dev Cert.Kernel5Ideal.nD) → Buf (Elt Ideal) ((c.tc : Thread Cert.Kernel5Ideal.nD Cert.Kernel5Ideal.τ).loc Cert.Kernel5Ideal.main_v33_3)) (v4 : (c : Dev Cert.Kernel5Ideal.nD) → Buf (Elt Ideal) ((c.tc : Thread Cert.Kernel5Ideal.nD Cert.Kernel5Ideal.τ).loc Cert.Kernel5Ideal.main_v33_4)) (v5 : (c : Dev Cert.Kernel5Ideal.nD) → Buf (Elt Ideal) ((c.tc : Thread Cert.Kernel5Ideal.nD Cert.Kernel5Ideal.τ).loc Cert.Kernel5Ideal.main_v33_5)) (v6 : (c : Dev Cert.Kernel5Ideal.nD) → Buf (Elt Ideal) ((c.tc : Thread Cert.Kernel5Ideal.nD Cert.Kernel5Ideal.τ).loc Cert.Kernel5Ideal.main_v33_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v33_0) = v0 c
          ∧ r.2.mem ((c.tc : Thread Cert.Kernel5Ideal.nD Cert.Kernel5Ideal.τ).loc Cert.Kernel5Ideal.main_v33_1) = v1 c
          ∧ r.2.mem ((c.tc : Thread Cert.Kernel5Ideal.nD Cert.Kernel5Ideal.τ).loc Cert.Kernel5Ideal.main_v33_2) = v2 c
          ∧ r.2.mem ((c.tc : Thread Cert.Kernel5Ideal.nD Cert.Kernel5Ideal.τ).loc Cert.Kernel5Ideal.main_v33_3) = v3 c
          ∧ r.2.mem ((c.tc : Thread Cert.Kernel5Ideal.nD Cert.Kernel5Ideal.τ).loc Cert.Kernel5Ideal.main_v33_4) = v4 c
          ∧ r.2.mem ((c.tc : Thread Cert.Kernel5Ideal.nD Cert.Kernel5Ideal.τ).loc Cert.Kernel5Ideal.main_v33_5) = v5 c
          ∧ r.2.mem ((c.tc : Thread Cert.Kernel5Ideal.nD Cert.Kernel5Ideal.τ).loc Cert.Kernel5Ideal.main_v33_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_v62) = v1 c
          ∧ r.2.mem ((c.tc : Thread Cert.Reference5Ideal.nD Cert.Reference5Ideal.τ).loc Cert.Reference5Ideal.main_v54) = v2 c
          ∧ r.2.mem ((c.tc : Thread Cert.Reference5Ideal.nD Cert.Reference5Ideal.τ).loc Cert.Reference5Ideal.main_v12) = v3 c
          ∧ r.2.mem ((c.tc : Thread Cert.Reference5Ideal.nD Cert.Reference5Ideal.τ).loc Cert.Reference5Ideal.main_v63) = v4 c
          ∧ r.2.mem ((c.tc : Thread Cert.Reference5Ideal.nD Cert.Reference5Ideal.τ).loc Cert.Reference5Ideal.main_v64) = v5 c
          ∧ r.2.mem ((c.tc : Thread Cert.Reference5Ideal.nD Cert.Reference5Ideal.τ).loc Cert.Reference5Ideal.main_v42) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts) (hPre_finite_heads : Cert.Pre_finite_heads.Facts) (hPre_finite_mixer : Cert.Pre_finite_mixer.Facts) (hPre_finite_keys : Cert.Pre_finite_keys.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_heads (hKernel3Ideal := hKernel3Ideal) (hPre_finite_heads := hPre_finite_heads)
    ∧ quiescent_Reference3Ideal (hReference3Ideal := hReference3Ideal)
    ∧ quiescent_Reference3Ideal_pre_finite_heads (hReference3Ideal := hReference3Ideal) (hPre_finite_heads := hPre_finite_heads)
    ∧ quiescent_Kernel4 (hKernel4 := hKernel4)
    ∧ quiescent_Kernel4Ideal (hKernel4Ideal := hKernel4Ideal)
    ∧ quiescent_Kernel4Ideal_pre_finite_mixer (hKernel4Ideal := hKernel4Ideal) (hPre_finite_mixer := hPre_finite_mixer)
    ∧ quiescent_Reference4Ideal (hReference4Ideal := hReference4Ideal)
    ∧ quiescent_Reference4Ideal_pre_finite_mixer (hReference4Ideal := hReference4Ideal) (hPre_finite_mixer := hPre_finite_mixer)
    ∧ quiescent_Kernel5 (hKernel5 := hKernel5)
    ∧ quiescent_Kernel5Ideal (hKernel5Ideal := hKernel5Ideal)
    ∧ quiescent_Kernel5Ideal_pre_finite_keys (hKernel5Ideal := hKernel5Ideal) (hPre_finite_keys := hPre_finite_keys)
    ∧ quiescent_Reference5Ideal (hReference5Ideal := hReference5Ideal)
    ∧ quiescent_Reference5Ideal_pre_finite_keys (hReference5Ideal := hReference5Ideal) (hPre_finite_keys := hPre_finite_keys)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_heads (hKernel3Ideal := hKernel3Ideal) (hReference3Ideal := hReference3Ideal) (hPre_finite_heads := hPre_finite_heads)
    ∧ preserves_Kernel4_Kernel4Ideal
    ∧ algebraic_Kernel4Ideal_Reference4Ideal_pre_finite_mixer (hKernel4Ideal := hKernel4Ideal) (hReference4Ideal := hReference4Ideal) (hPre_finite_mixer := hPre_finite_mixer)
    ∧ preserves_Kernel5_Kernel5Ideal
    ∧ algebraic_Kernel5Ideal_Reference5Ideal_pre_finite_keys (hKernel5Ideal := hKernel5Ideal) (hReference5Ideal := hReference5Ideal) (hPre_finite_keys := hPre_finite_keys)
-- ==== Pre_finite_heads.lean ====
abbrev S16384x2048 : Shape := ⟨2, ![16384, 2048]⟩
abbrev S2048 : Shape := ⟨1, ![2048]⟩
abbrev S2048x10688 : Shape := ⟨2, ![2048, 10688]⟩
abbrev S64 : Shape := ⟨1, ![64]⟩
abbrev S_ : Shape := ⟨0, ![]⟩
abbrev S2048x2048 : Shape := ⟨2, ![2048, 2048]⟩

class Facts : Prop where
  bcast_S_S16384x2048 : S_.BroadcastsInDim S16384x2048 (![] : Fin 0 → Fin S16384x2048.rank)
  bcast_S_S2048 : S_.BroadcastsInDim S2048 (![] : Fin 0 → Fin S2048.rank)
  slices_S2048x10688_S2048x2048_0_0 : S2048x10688.Slices ![0, 0] S2048x2048
  bcast_S_S2048x2048 : S_.BroadcastsInDim S2048x2048 (![] : Fin 0 → Fin S2048x2048.rank)

variable [Facts]

def fn {F : FTy → Type} [FloatOps F] (main_arg0 : FVec F S16384x2048 .f32) (main_arg1 : FVec F S2048 .f32) (main_arg2 : FVec F S2048x10688 .f32) (main_arg3 : FVec F S64 .f32) (main_arg4 : FVec F S64 .f32) : IVec S16384x2048 1 × IVec S2048 1 × IVec S2048x2048 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S2048x2048 .f32 := (extractStridedSlice S2048x2048 ![0, 0] · slices_S2048x10688_S2048x2048_0_0) main_arg2
  let main_v7 : FVec F S2048x2048 .f32 := Host.absf main_v6
  let main_cst_1 : FVec F S_ .f32 := constant S_ .f32 0x7F800000#32
  let main_v8 : FVec F S2048x2048 .f32 := broadcastInDim S2048x2048 ![] bcast_S_S2048x2048 main_cst_1
  let main_v9 : IVec S2048x2048 1 := cmpf .olt main_v7 main_v8
  (main_v2, main_v5, main_v9)
-- ==== Pre_finite_keys.lean ====
abbrev S32x64x10752 : Shape := ⟨3, ![32, 64, 10752]⟩
abbrev S32x1x3520 : Shape := ⟨3, ![32, 1, 3520]⟩
abbrev S3520 : Shape := ⟨1, ![3520]⟩
abbrev S1024 : Shape := ⟨1, ![1024]⟩
abbrev S96x1024 : Shape := ⟨2, ![96, 1024]⟩
abbrev S256x1024 : Shape := ⟨2, ![256, 1024]⟩
abbrev S32x64x1024 : Shape := ⟨3, ![32, 64, 1024]⟩
abbrev S_ : Shape := ⟨0, ![]⟩
abbrev S32x1x1024 : Shape := ⟨3, ![32, 1, 1024]⟩

class Facts : Prop where
  slices_S32x64x10752_S32x64x1024_0_0_4096 : S32x64x10752.Slices ![0, 0, 4096] S32x64x1024
  bcast_S_S32x64x1024 : S_.BroadcastsInDim S32x64x1024 (![] : Fin 0 → Fin S32x64x1024.rank)
  slices_S32x1x3520_S32x1x1024_0_0_1024 : S32x1x3520.Slices ![0, 0, 1024] S32x1x1024
  bcast_S_S32x1x1024 : S_.BroadcastsInDim S32x1x1024 (![] : Fin 0 → Fin S32x1x1024.rank)
  slices_S3520_S1024_1024 : S3520.Slices ![1024] S1024
  bcast_S_S1024 : S_.BroadcastsInDim S1024 (![] : Fin 0 → Fin S1024.rank)

variable [Facts]

def fn {F : FTy → Type} [FloatOps F] (main_arg0 : FVec F S32x64x10752 .f32) (main_arg1 : FVec F S32x1x3520 .f32) (main_arg2 : FVec F S3520 .f32) (main_arg3 : FVec F S1024 .f32) (main_arg4 : FVec F S96x1024 .f32) (main_arg5 : FVec F S1024 .f32) (main_arg6 : FVec F S96x1024 .f32) (main_arg7 : FVec F S256x1024 .f32) (main_arg8 : FVec F S1024 .f32) (main_arg9 : FVec F S1024 .f32) : IVec S32x64x1024 1 × IVec S32x1x1024 1 × IVec S1024 1 × IVec S1024 1 :=
  let main_v0 : FVec F S32x64x1024 .f32 := (extractStridedSlice S32x64x1024 ![0, 0, 4096] · slices_S32x64x10752_S32x64x1024_0_0_4096) main_arg0
  let main_v1 : FVec F S32x64x1024 .f32 := Host.absf main_v0
  let main_cst : FVec F S_ .f32 := constant S_ .f32 0x7F800000#32
  let main_v2 : FVec F S32x64x1024 .f32 := broadcastInDim S32x64x1024 ![] bcast_S_S32x64x1024 main_cst
  let main_v3 : IVec S32x64x1024 1 := cmpf .olt main_v1 main_v2
  let main_v4 : FVec F S32x1x1024 .f32 := (extractStridedSlice S32x1x1024 ![0, 0, 1024] · slices_S32x1x3520_S32x1x1024_0_0_1024) main_arg1
  let main_v5 : FVec F S32x1x1024 .f32 := Host.absf main_v4
  let main_cst_0 : FVec F S_ .f32 := constant S_ .f32 0x7F800000#32
  let main_v6 : FVec F S32x1x1024 .f32 := broadcastInDim S32x1x1024 ![] bcast_S_S32x1x1024 main_cst_0
  let main_v7 : IVec S32x1x1024 1 := cmpf .olt main_v5 main_v6
  let main_v8 : FVec F S1024 .f32 := (extractStridedSlice S1024 ![1024] · slices_S3520_S1024_1024) main_arg2
  let main_v9 : FVec F S1024 .f32 := Host.absf main_v8
  let main_cst_1 : FVec F S_ .f32 := constant S_ .f32 0x7F800000#32
  let main_v10 : FVec F S1024 .f32 := broadcastInDim S1024 ![] bcast_S_S1024 main_cst_1
  let main_v11 : IVec S1024 1 := cmpf .olt main_v9 main_v10
  let main_v12 : FVec F S1024 .f32 := Host.absf main_arg8
  let main_cst_2 : FVec F S_ .f32 := constant S_ .f32 0x7F800000#32
  let main_v13 : FVec F S1024 .f32 := broadcastInDim S1024 ![] bcast_S_S1024 main_cst_2
  let main_v14 : IVec S1024 1 := cmpf .olt main_v12 main_v13
  (main_v3, main_v7, main_v11, main_v14)
-- ==== Pre_finite_mixer.lean ====
abbrev S16384x2048 : Shape := ⟨2, ![16384, 2048]⟩
abbrev S16384x1024 : Shape := ⟨2, ![16384, 1024]⟩
abbrev S16384x10752 : Shape := ⟨2, ![16384, 10752]⟩
abbrev S1024 : Shape := ⟨1, ![1024]⟩
abbrev S16x64 : Shape := ⟨2, ![16, 64]⟩
abbrev S1024x2048 : Shape := ⟨2, ![1024, 2048]⟩
abbrev S2048x2048 : Shape := ⟨2, ![2048, 2048]⟩
abbrev S_ : Shape := ⟨0, ![]⟩

class Facts : Prop where
  bcast_S_S16384x1024 : S_.BroadcastsInDim S16384x1024 (![] : Fin 0 → Fin S16384x1024.rank)
  bcast_S_S16x64 : S_.BroadcastsInDim S16x64 (![] : Fin 0 → Fin S16x64.rank)

variable [Facts]

def fn {F : FTy → Type} [FloatOps F] (main_arg0 : FVec F S16384x2048 .f32) (main_arg1 : FVec F S16384x1024 .f32) (main_arg2 : FVec F S16384x1024 .f32) (main_arg3 : FVec F S16384x1024 .f32) (main_arg4 : FVec F S16384x1024 .f32) (main_arg5 : FVec F S16384x1024 .f32) (main_arg6 : FVec F S16384x1024 .f32) (main_arg7 : FVec F S16384x10752 .f32) (main_arg8 : FVec F S1024 .f32) (main_arg9 : FVec F S1024 .f32) (main_arg10 : FVec F S16x64 .f32) (main_arg11 : FVec F S1024x2048 .f32) (main_arg12 : FVec F S1024x2048 .f32) (main_arg13 : FVec F S2048x2048 .f32) : IVec S16384x1024 1 × IVec S16384x1024 1 × IVec S16384x1024 1 × IVec S16x64 1 :=
  let main_v0 : FVec F S16384x1024 .f32 := Host.absf main_arg2
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x1024 .f32 := Host.absf main_arg3
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v3 main_v4
  let main_v6 : FVec F S16384x1024 .f32 := Host.absf main_arg4
  let main_cst_1 : FVec F S_ .f32 := constant S_ .f32 0x7F800000#32
  let main_v7 : FVec F S16384x1024 .f32 := broadcastInDim S16384x1024 ![] bcast_S_S16384x1024 main_cst_1
  let main_v8 : IVec S16384x1024 1 := cmpf .olt main_v6 main_v7
  let main_v9 : FVec F S16x64 .f32 := Host.absf main_arg10
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  (main_v2, main_v5, main_v8, main_v11)
-- ==== Pre_finite_scores.lean ====
abbrev S32x64x10752 : Shape := ⟨3, ![32, 64, 10752]⟩
abbrev S32x4096x16x64 : Shape := ⟨4, ![32, 4096, 16, 64]⟩
abbrev S32x64x2048 : Shape := ⟨3, ![32, 64, 2048]⟩
abbrev S_ : Shape := ⟨0, ![]⟩

class Facts : Prop where
  slices_S32x64x10752_S32x64x2048_0_0_0 : S32x64x10752.Slices ![0, 0, 0] S32x64x2048
  bcast_S_S32x64x2048 : S_.BroadcastsInDim S32x64x2048 (![] : Fin 0 → Fin S32x64x2048.rank)
  bcast_S_S32x4096x16x64 : S_.BroadcastsInDim S32x4096x16x64 (![] : Fin 0 → Fin S32x4096x16x64.rank)

variable [Facts]

def fn {F : FTy → Type} [FloatOps F] (main_arg0 : FVec F S32x64x10752 .f32) (main_arg1 : FVec F S32x4096x16x64 .f32) (main_arg2 : FVec F S32x4096x16x64 .f32) : IVec S32x64x2048 1 × IVec S32x4096x16x64 1 :=
  let main_v0 : FVec F S32x64x2048 .f32 := (extractStridedSlice S32x64x2048 ![0, 0, 0] · slices_S32x64x10752_S32x64x2048_0_0_0) main_arg0
  let main_v1 : FVec F S32x64x2048 .f32 := Host.absf main_v0
  let main_cst : FVec F S_ .f32 := constant S_ .f32 0x7F800000#32
  let main_v2 : FVec F S32x64x2048 .f32 := broadcastInDim S32x64x2048 ![] bcast_S_S32x64x2048 main_cst
  let main_v3 : IVec S32x64x2048 1 := cmpf .olt main_v1 main_v2
  let main_v4 : FVec F S32x4096x16x64 .f32 := Host.absf main_arg1
  let main_cst_0 : FVec F S_ .f32 := constant S_ .f32 0x7F800000#32
  let main_v5 : FVec F S32x4096x16x64 .f32 := broadcastInDim S32x4096x16x64 ![] bcast_S_S32x4096x16x64 main_cst_0
  let main_v6 : IVec S32x4096x16x64 1 := cmpf .olt main_v4 main_v5
  (main_v3, main_v6)
-- ==== Kernel.lean ====
abbrev S32x64x10752 : Shape := ⟨3, ![32, 64, 10752]⟩
abbrev S32x4096x16x64 : Shape := ⟨4, ![32, 4096, 16, 64]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S256x128 : Shape := ⟨2, ![256, 128]⟩
abbrev S256x384 : Shape := ⟨2, ![256, 384]⟩
abbrev S32x16x64x4096 : Shape := ⟨4, ![32, 16, 64, 4096]⟩
abbrev S32x64x1024 : Shape := ⟨3, ![32, 64, 1024]⟩
abbrev S1x64x1024 : Shape := ⟨3, ![1, 64, 1024]⟩
abbrev S1x16x64x1024 : Shape := ⟨4, ![1, 16, 64, 1024]⟩
abbrev S16x64x64 : Shape := ⟨3, ![16, 64, 64]⟩
abbrev S4x256x128 : Shape := ⟨3, ![4, 256, 128]⟩
abbrev S1x64x64 : Shape := ⟨3, ![1, 64, 64]⟩
abbrev S64x64 : Shape := ⟨2, ![64, 64]⟩
abbrev S64x192 : Shape := ⟨2, ![64, 192]⟩
abbrev S64x256 : Shape := ⟨2, ![64, 256]⟩
abbrev S1x256x128 : Shape := ⟨3, ![1, 256, 128]⟩
abbrev S1x1x64x256 : Shape := ⟨4, ![1, 1, 64, 256]⟩
abbrev S64x1024 : Shape := ⟨2, ![64, 1024]⟩

abbrev nBuf : Space → Nat
  | .hbm => 16
  | .vmem => 16
  | .smem => 0
  | _ => 0

abbrev bufTy : (tb : Table) → Fin (tcTables nBuf tb) → BufTy
  | .hbm, ⟨0, _⟩ => ⟨S32x64x10752, .f32⟩
  | .hbm, ⟨1, _⟩ => ⟨S32x4096x16x64, .f32⟩
  | .hbm, ⟨2, _⟩ => ⟨S32x4096x16x64, .f32⟩
  | .hbm, ⟨3, _⟩ => ⟨S256, .i32⟩
  | .hbm, ⟨4, _⟩ => ⟨S256x1, .i32⟩
  | .hbm, ⟨5, _⟩ => ⟨S1x256, .i32⟩
  | .hbm, ⟨6, _⟩ => ⟨S256x256, .i32⟩
  | .hbm, ⟨7, _⟩ => ⟨S256x256, .i32⟩
  | .hbm, ⟨8, _⟩ => ⟨S256x256, .i1⟩
  | .hbm, ⟨9, _⟩ => ⟨S256x256, .bf16⟩
  | .hbm, ⟨10, _⟩ => ⟨S_, .bf16⟩
  | .hbm, ⟨11, _⟩ => ⟨S256x128, .bf16⟩
  | .hbm, ⟨12, _⟩ => ⟨S256x384, .bf16⟩
  | .hbm, ⟨13, _⟩ => ⟨S32x16x64x4096, .f32⟩
  | .hbm, ⟨14, _⟩ => ⟨S32x16x64x4096, .f32⟩
  | .hbm, ⟨15, _⟩ => ⟨S32x64x1024, .f32⟩
  | .local _ .vmem, ⟨0, _⟩ => ⟨S1x64x1024, .f32⟩
  | .local _ .vmem, ⟨1, _⟩ => ⟨S1x64x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x16x64x1024, .f32⟩
  | .local _ .vmem, ⟨7, _⟩ => ⟨S1x16x64x1024, .f32⟩
  | .local _ .vmem, ⟨8, _⟩ => ⟨S1x16x64x1024, .f32⟩
  | .local _ .vmem, ⟨9, _⟩ => ⟨S1x16x64x1024, .f32⟩
  | .local _ .vmem, ⟨10, _⟩ => ⟨S256x384, .bf16⟩
  | .local _ .vmem, ⟨11, _⟩ => ⟨S1x64x1024, .f32⟩
  | .local _ .vmem, ⟨12, _⟩ => ⟨S1x64x1024, .f32⟩
  | .local _ .vmem, ⟨13, _⟩ => ⟨S16x64x64, .bf16⟩
  | .local _ .vmem, ⟨14, _⟩ => ⟨S4x256x128, .f32⟩
  | .local _ .vmem, ⟨15, _⟩ => ⟨S16x64x64, .f32⟩
  | _, _ => ⟨S32x64x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v1289 : BitVec 1 := Scalar.cmpi .eq arg1 c3_i32
  let v1290 : BitVec 32 := Scalar.extui v1289
  let c0_i32_1015 : BitVec 32 := 0#32
  let v1291 : BitVec 1 := Scalar.cmpi .ne v1290 c0_i32_1015
  v1291

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  let c0_i32_1 : BitVec 32 := 0#32
  ![arg0.toNat, c0_i32.toNat, c0_i32_0.toNat, v0.toNat]

def cc0_transform_4 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  let c0_i32_1 : BitVec 32 := 0#32
  ![arg0.toNat, c0_i32.toNat, c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S256x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== KernelIdeal.lean ====
variable {F : FTy → Type} [FloatOps F] [Named F]
def κ : String → Option EReal := fun
  | "log2e" => some (((Real.log 2)⁻¹ : ℝ) : EReal)
  | "scale" => some (((1 / 8) * (Real.log 2)⁻¹ : ℝ) : EReal)
  | _ => none
-- ==== ReferenceIdeal.lean ====
abbrev S32x64x10752 : Shape := ⟨3, ![32, 64, 10752]⟩
abbrev S32x4096x16x64 : Shape := ⟨4, ![32, 4096, 16, 64]⟩
abbrev S32x64x1024 : Shape := ⟨3, ![32, 64, 1024]⟩
abbrev S32x64x16x64 : Shape := ⟨4, ![32, 64, 16, 64]⟩
abbrev S32x4160x16x64 : Shape := ⟨4, ![32, 4160, 16, 64]⟩
abbrev S4160 : Shape := ⟨1, ![4160]⟩
abbrev S64 : Shape := ⟨1, ![64]⟩
abbrev S_ : Shape := ⟨0, ![]⟩
abbrev S32x16x64x4160 : Shape := ⟨4, ![32, 16, 64, 4160]⟩
abbrev S1x4160 : Shape := ⟨2, ![1, 4160]⟩
abbrev S64x1 : Shape := ⟨2, ![64, 1]⟩
abbrev S64x4160 : Shape := ⟨2, ![64, 4160]⟩
abbrev S1x1x64x4160 : Shape := ⟨4, ![1, 1, 64, 4160]⟩
abbrev S32x16x64x64 : Shape := ⟨4, ![32, 16, 64, 64]⟩

abbrev nBuf : Space → Nat
  | .hbm => 78
  | .vmem => 0
  | .smem => 0
  | _ => 0

abbrev bufTy : (tb : Table) → Fin (tcTables nBuf tb) → BufTy
  | .hbm, ⟨0, _⟩ => ⟨S32x64x10752, .f32⟩
  | .hbm, ⟨1, _⟩ => ⟨S32x4096x16x64, .f32⟩
  | .hbm, ⟨2, _⟩ => ⟨S32x4096x16x64, .f32⟩
  | .hbm, ⟨3, _⟩ => ⟨S32x64x1024, .f32⟩
  | .hbm, ⟨4, _⟩ => ⟨S32x64x16x64, .f32⟩
  | .hbm, ⟨5, _⟩ => ⟨S32x64x1024, .f32⟩
  | .hbm, ⟨6, _⟩ => ⟨S32x64x16x64, .f32⟩
  | .hbm, ⟨7, _⟩ => ⟨S32x64x1024, .f32⟩
  | .hbm, ⟨8, _⟩ => ⟨S32x64x16x64, .f32⟩
  | .hbm, ⟨9, _⟩ => ⟨S32x4160x16x64, .f32⟩
  | .hbm, ⟨10, _⟩ => ⟨S32x4160x16x64, .f32⟩
  | .hbm, ⟨11, _⟩ => ⟨S4160, .i32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i32⟩
  | .hbm, ⟨16, _⟩ => ⟨S32x16x64x4160, .f32⟩
  | .hbm, ⟨17, _⟩ => ⟨S_, .f32⟩
  | .hbm, ⟨18, _⟩ => ⟨S32x16x64x4160, .f32⟩
  | .hbm, ⟨19, _⟩ => ⟨S32x16x64x4160, .f32⟩
  | .hbm, ⟨20, _⟩ => ⟨S1x4160, .i32⟩
  | .hbm, ⟨21, _⟩ => ⟨S64x1, .i32⟩
  | .hbm, ⟨22, _⟩ => ⟨S64x4160, .i32⟩
  | .hbm, ⟨23, _⟩ => ⟨S64x4160, .i32⟩
  | .hbm, ⟨24, _⟩ => ⟨S64x4160, .i1⟩
  | .hbm, ⟨25, _⟩ => ⟨S1x1x64x4160, .i1⟩
  | .hbm, ⟨26, _⟩ => ⟨S32x16x64x4160, .f32⟩
  | .hbm, ⟨27, _⟩ => ⟨S_, .f32⟩
  | .hbm, ⟨28, _⟩ => ⟨S32x16x64x4160, .f32⟩
  | .hbm, ⟨29, _⟩ => ⟨S32x16x64x4160, .f32⟩
  | .hbm, ⟨30, _⟩ => ⟨S32x16x64x4160, .f32⟩
  | .hbm, ⟨31, _⟩ => ⟨S32x16x64x4160, .f32⟩
  | .hbm, ⟨32, _⟩ => ⟨S32x16x64x4160, .i1⟩
  | .hbm, ⟨33, _⟩ => ⟨S32x16x64x4160, .f32⟩
  | .hbm, ⟨34, _⟩ => ⟨S32x16x64x4160, .f32⟩
  | .hbm, ⟨35, _⟩ => ⟨S32x16x64x4160, .f32⟩
  | .hbm, ⟨36, _⟩ => ⟨S32x16x64x4160, .f32⟩
  | .hbm, ⟨37, _⟩ => ⟨S32x16x64x4160, .f32⟩
  | .hbm, ⟨38, _⟩ => ⟨S32x16x64x4160, .f32⟩
  | .hbm, ⟨39, _⟩ => ⟨S32x16x64x4160, .f32⟩
  | .hbm, ⟨40, _⟩ => ⟨S32x16x64x4160, .f32⟩
  | .hbm, ⟨41, _⟩ => ⟨S32x16x64x4160, .f32⟩
  | .hbm, ⟨42, _⟩ => ⟨S32x16x64x4160, .f32⟩
  | .hbm, ⟨43, _⟩ => ⟨S32x16x64x4160, .f32⟩
  | .hbm, ⟨44, _⟩ => ⟨S_, .f32⟩
  | .hbm, ⟨45, _⟩ => ⟨S32x16x64x4160, .f32⟩
  | .hbm, ⟨46, _⟩ => ⟨S32x16x64x4160, .f32⟩
  | .hbm, ⟨47, _⟩ => ⟨S32x16x64x4160, .f32⟩
  | .hbm, ⟨48, _⟩ => ⟨S32x16x64x4160, .f32⟩
  | .hbm, ⟨49, _⟩ => ⟨S32x16x64x4160, .i1⟩
  | .hbm, ⟨50, _⟩ => ⟨S32x16x64x4160, .f32⟩
  | .hbm, ⟨51, _⟩ => ⟨S32x16x64x4160, .f32⟩
  | .hbm, ⟨52, _⟩ => ⟨S32x16x64x4160, .f32⟩
  | .hbm, ⟨53, _⟩ => ⟨S32x16x64x4160, .f32⟩
  | .hbm, ⟨54, _⟩ => ⟨S32x16x64x4160, .f32⟩
  | .hbm, ⟨55, _⟩ => ⟨S32x16x64x4160, .f32⟩
  | .hbm, ⟨56, _⟩ => ⟨S32x16x64x4160, .f32⟩
  | .hbm, ⟨57, _⟩ => ⟨S32x16x64x4160, .f32⟩
  | .hbm, ⟨58, _⟩ => ⟨S32x16x64x4160, .f32⟩
  | .hbm, ⟨59, _⟩ => ⟨S_, .f32⟩
  | .hbm, ⟨60, _⟩ => ⟨S_, .f32⟩
  | .hbm, ⟨61, _⟩ => ⟨S32x16x64x4160, .i1⟩
  | .hbm, ⟨62, _⟩ => ⟨S32x16x64x4160, .f32⟩
  | .hbm, ⟨63, _⟩ => ⟨S32x16x64x4160, .f32⟩
  | .hbm, ⟨64, _⟩ => ⟨S_, .f32⟩
  | .hbm, ⟨65, _⟩ => ⟨S_, .f32⟩
  | .hbm, ⟨66, _⟩ => ⟨S32x16x64x4160, .f32⟩
  | .hbm, ⟨67, _⟩ => ⟨S32x16x64x4160, .f32⟩
  | .hbm, ⟨68, _⟩ => ⟨S32x16x64x4160, .f32⟩
  | .hbm, ⟨69, _⟩ => ⟨S32x16x64x4160, .f32⟩
  | .hbm, ⟨70, _⟩ => ⟨S_, .f32⟩
  | .hbm, ⟨71, _⟩ => ⟨S_, .f32⟩
  | .hbm, ⟨72, _⟩ => ⟨S32x16x64x4160, .i1⟩
  | .hbm, ⟨73, _⟩ => ⟨S32x16x64x4160, .f32⟩
  | .hbm, ⟨74, _⟩ => ⟨S32x16x64x4160, .f32⟩
  | .hbm, ⟨75, _⟩ => ⟨S32x16x64x64, .f32⟩
  | .hbm, ⟨76, _⟩ => ⟨S32x64x16x64, .f32⟩
  | .hbm, ⟨77, _⟩ => ⟨S32x64x1024, .f32⟩
  | _, _ => ⟨S32x64x10752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1 : Ref sig .tc := ⟨.hbm, 40, rfl⟩
abbrev main_v21 : Ref sig .tc := ⟨.hbm, 41, rfl⟩
abbrev main_v22 : Ref sig .tc := ⟨.hbm, 42, rfl⟩
abbrev main_call1_v0 : Ref sig .tc := ⟨.hbm, 43, rfl⟩
abbrev main_call1_call0_cst : Ref sig .tc := ⟨.hbm, 44, rfl⟩
abbrev main_call1_call0_v0 : Ref sig .tc := ⟨.hbm, 45, rfl⟩
abbrev main_call1_call0_v1 : Ref sig .tc := ⟨.hbm, 46, rfl⟩
abbrev main_call1_call0_v2 : Ref sig .tc := ⟨.hbm, 47, rfl⟩
abbrev main_call1_call0_v3 : Ref sig .tc := ⟨.hbm, 48, rfl⟩
abbrev main_call1_call0_v4 : Ref sig .tc := ⟨.hbm, 49, rfl⟩
abbrev main_call1_call0_v5 : Ref sig .tc := ⟨.hbm, 50, rfl⟩
abbrev main_call1_call0_v6 : Ref sig .tc := ⟨.hbm, 51, rfl⟩
abbrev main_call1_call0_v7 : Ref sig .tc := ⟨.hbm, 52, rfl⟩
abbrev main_call1_call0_v8 : Ref sig .tc := ⟨.hbm, 53, rfl⟩
abbrev main_call1_call0_v9 : Ref sig .tc := ⟨.hbm, 54, rfl⟩
abbrev main_call1_call0_v10 : Ref sig .tc := ⟨.hbm, 55, rfl⟩
abbrev main_call1_call0_v11 : Ref sig .tc := ⟨.hbm, 56, rfl⟩
abbrev main_call1_v1 : Ref sig .tc := ⟨.hbm, 57, rfl⟩
abbrev main_v23 : Ref sig .tc := ⟨.hbm, 58, rfl⟩
abbrev main_cst_0 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v24 : Ref sig .tc := ⟨.hbm, 63, rfl⟩
abbrev main_call3_cst : Ref sig .tc := ⟨.hbm, 64, rfl⟩
abbrev main_call3_v0 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_cst_1 : Ref sig .tc := ⟨.hbm, 70, rfl⟩
abbrev main_call4_v0 : Ref sig .tc := ⟨.hbm, 71, rfl⟩
abbrev main_call4_v1 : Ref sig .tc := ⟨.hbm, 72, rfl⟩
abbrev main_call4_v2 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩

abbrev nD : Nat := 1
abbrev τ : Topo := Topo.v7x

variable {F : FTy → Type} [FloatOps F]
-- ==== Kernel2.lean ====
abbrev S2x8192x2048 : Shape := ⟨3, ![2, 8192, 2048]⟩
abbrev S2048 : Shape := ⟨1, ![2048]⟩
abbrev S2048x5632 : Shape := ⟨2, ![2048, 5632]⟩
abbrev S5632x2048 : Shape := ⟨2, ![5632, 2048]⟩
abbrev S16384x2048 : Shape := ⟨2, ![16384, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 11
  | .vmem => 13
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S16384x2048, .f32⟩
  | .hbm, ⟨6, _⟩ => ⟨S1x2048, .f32⟩
  | .hbm, ⟨7, _⟩ => ⟨S2048x5632, .bf16⟩
  | .hbm, ⟨8, _⟩ => ⟨S2048x5632, .bf16⟩
  | .hbm, ⟨9, _⟩ => ⟨S5632x2048, .bf16⟩
  | .hbm, ⟨10, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S2x8192x2048 : Shape := ⟨3, ![2, 8192, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x8192x5632 : Shape := ⟨3, ![2, 8192, 5632]⟩
abbrev S16384x2048 : Shape := ⟨2, ![16384, 2048]⟩

abbrev nBuf : Space → Nat
  | .hbm => 39
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2x8192x2048, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x2048, .f32⟩
  | .hbm, ⟨17, _⟩ => ⟨S2x8192x2048, .f32⟩
  | .hbm, ⟨18, _⟩ => ⟨S1x1x2048, .f32⟩
  | .hbm, ⟨19, _⟩ => ⟨S2x8192x2048, .f32⟩
  | .hbm, ⟨20, _⟩ => ⟨S2x8192x2048, .f32⟩
  | .hbm, ⟨21, _⟩ => ⟨S2x8192x5632, .f32⟩
  | .hbm, ⟨22, _⟩ => ⟨S2x8192x5632, .f32⟩
  | .hbm, ⟨23, _⟩ => ⟨S2x8192x5632, .f32⟩
  | .hbm, ⟨24, _⟩ => ⟨S_, .f32⟩
  | .hbm, ⟨25, _⟩ => ⟨S2x8192x5632, .f32⟩
  | .hbm, ⟨26, _⟩ => ⟨S2x8192x5632, .f32⟩
  | .hbm, ⟨27, _⟩ => ⟨S_, .f32⟩
  | .hbm, ⟨28, _⟩ => ⟨S2x8192x5632, .f32⟩
  | .hbm, ⟨29, _⟩ => ⟨S2x8192x5632, .f32⟩
  | .hbm, ⟨30, _⟩ => ⟨S2x8192x5632, .f32⟩
  | .hbm, ⟨31, _⟩ => ⟨S2x8192x5632, .f32⟩
  | .hbm, ⟨32, _⟩ => ⟨S2x8192x5632, .f32⟩
  | .hbm, ⟨33, _⟩ => ⟨S2x8192x2048, .f32⟩
  | .hbm, ⟨34, _⟩ => ⟨S_, .f32⟩
  | .hbm, ⟨35, _⟩ => ⟨S2x8192x2048, .f32⟩
  | .hbm, ⟨36, _⟩ => ⟨S2x8192x2048, .f32⟩
  | .hbm, ⟨37, _⟩ => ⟨S2x8192x2048, .f32⟩
  | .hbm, ⟨38, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Kernel3.lean ====
abbrev S16384x2048 : Shape := ⟨2, ![16384, 2048]⟩
abbrev S2048 : Shape := ⟨1, ![2048]⟩
abbrev S2048x10688 : Shape := ⟨2, ![2048, 10688]⟩
abbrev S64 : Shape := ⟨1, ![64]⟩
abbrev S2048x6144 : Shape := ⟨2, ![2048, 6144]⟩
abbrev S2048x4096 : Shape := ⟨2, ![2048, 4096]⟩
abbrev S2048x448 : Shape := ⟨2, ![2048, 448]⟩
abbrev S_ : Shape := ⟨0, ![]⟩
abbrev S2048x64 : Shape := ⟨2, ![2048, 64]⟩
abbrev S2048x10752 : Shape := ⟨2, ![2048, 10752]⟩
abbrev S1x64 : Shape := ⟨2, ![1, 64]⟩
abbrev S16x64 : Shape := ⟨2, ![16, 64]⟩
abbrev S1024 : Shape := ⟨1, ![1024]⟩
abbrev S8704 : Shape := ⟨1, ![8704]⟩
abbrev S10752 : Shape := ⟨1, ![10752]⟩
abbrev S1x10752 : Shape := ⟨2, ![1, 10752]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x2048 : Shape := ⟨2, ![1, 2048]⟩
abbrev S16384x10752 : Shape := ⟨2, ![16384, 10752]⟩
abbrev S1024x2048 : Shape := ⟨2, ![1024, 2048]⟩
abbrev S2048x512 : Shape := ⟨2, ![2048, 512]⟩
abbrev S1024x512 : Shape := ⟨2, ![1024, 512]⟩
abbrev S1024x1 : Shape := ⟨2, ![1024, 1]⟩

abbrev nBuf : Space → Nat
  | .hbm => 49
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x10688, .f32⟩
  | .hbm, ⟨3, _⟩ => ⟨S64, .f32⟩
  | .hbm, ⟨4, _⟩ => ⟨S64, .f32⟩
  | .hbm, ⟨5, _⟩ => ⟨S2048x6144, .f32⟩
  | .hbm, ⟨6, _⟩ => ⟨S2048x4096, .f32⟩
  | .hbm, ⟨7, _⟩ => ⟨S2048x448, .f32⟩
  | .hbm, ⟨8, _⟩ => ⟨S_, .f32⟩
  | .hbm, ⟨9, _⟩ => ⟨S2048x64, .f32⟩
  | .hbm, ⟨10, _⟩ => ⟨S2048x10752, .f32⟩
  | .hbm, ⟨11, _⟩ => ⟨S2048x10752, .bf16⟩
  | .hbm, ⟨12, _⟩ => ⟨S1x64, .f32⟩
  | .hbm, ⟨13, _⟩ => ⟨S16x64, .f32⟩
  | .hbm, ⟨14, _⟩ => ⟨S1024, .f32⟩
  | .hbm, ⟨15, _⟩ => ⟨S1x64, .f32⟩
  | .hbm, ⟨16, _⟩ => ⟨S16x64, .f32⟩
  | .hbm, ⟨17, _⟩ => ⟨S1024, .f32⟩
  | .hbm, ⟨18, _⟩ => ⟨S_, .f32⟩
  | .hbm, ⟨19, _⟩ => ⟨S8704, .f32⟩
  | .hbm, ⟨20, _⟩ => ⟨S10752, .f32⟩
  | .hbm, ⟨21, _⟩ => ⟨S1x10752, .f32⟩
  | .hbm, ⟨22, _⟩ => ⟨S512, .i32⟩
  | .hbm, ⟨23, _⟩ => ⟨S_, .i32⟩
  | .hbm, ⟨24, _⟩ => ⟨S_, .i32⟩
  | .hbm, ⟨25, _⟩ => ⟨S512, .i32⟩
  | .hbm, ⟨26, _⟩ => ⟨S512, .i32⟩
  | .hbm, ⟨27, _⟩ => ⟨S512, .i32⟩
  | .hbm, ⟨28, _⟩ => ⟨S_, .i32⟩
  | .hbm, ⟨29, _⟩ => ⟨S512, .i32⟩
  | .hbm, ⟨30, _⟩ => ⟨S512, .i1⟩
  | .hbm, ⟨31, _⟩ => ⟨S512, .i32⟩
  | .hbm, ⟨32, _⟩ => ⟨S512, .i32⟩
  | .hbm, ⟨33, _⟩ => ⟨S_, .i32⟩
  | .hbm, ⟨34, _⟩ => ⟨S512, .i32⟩
  | .hbm, ⟨35, _⟩ => ⟨S512, .i1⟩
  | .hbm, ⟨36, _⟩ => ⟨S512, .i1⟩
  | .hbm, ⟨37, _⟩ => ⟨S_, .i32⟩
  | .hbm, ⟨38, _⟩ => ⟨S512, .i32⟩
  | .hbm, ⟨39, _⟩ => ⟨S512, .i32⟩
  | .hbm, ⟨40, _⟩ => ⟨S512, .i32⟩
  | .hbm, ⟨41, _⟩ => ⟨S512x1, .i32⟩
  | .hbm, ⟨42, _⟩ => ⟨S1x512, .i32⟩
  | .hbm, ⟨43, _⟩ => ⟨S512x512, .i32⟩
  | .hbm, ⟨44, _⟩ => ⟨S512x512, .i32⟩
  | .hbm, ⟨45, _⟩ => ⟨S512x512, .i1⟩
  | .hbm, ⟨46, _⟩ => ⟨S512x512, .bf16⟩
  | .hbm, ⟨47, _⟩ => ⟨S1x2048, .f32⟩
  | .hbm, ⟨48, _⟩ => ⟨S16384x10752, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1x512, .f32⟩
  | .local _ .vmem, ⟨6, _⟩ => ⟨S1x512, .f32⟩
  | .local _ .vmem, ⟨7, _⟩ => ⟨S512x512, .bf16⟩
  | .local _ .vmem, ⟨8, _⟩ => ⟨S1024x512, .f32⟩
  | .local _ .vmem, ⟨9, _⟩ => ⟨S1024x512, .f32⟩
  | .local _ .vmem, ⟨10, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 21], ![false, false]⟩

def k0_cond2 (i : grid0.Coords) : BitVec 1 :=
  let arg1 : BitVec 32 := BitVec.ofNat 32 (i 1).val
  let c4_i32 : BitVec 32 := 4#32
  let v7 : BitVec 1 := Scalar.cmpi .slt arg1 c4_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c4_i32_5 : BitVec 32 := 4#32
  let v10 : BitVec 1 := Scalar.cmpi .sge arg1 c4_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S16384x2048 : Shape := ⟨2, ![16384, 2048]⟩
abbrev S2048 : Shape := ⟨1, ![2048]⟩
abbrev S2048x10688 : Shape := ⟨2, ![2048, 10688]⟩
abbrev S64 : Shape := ⟨1, ![64]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x10688 : Shape := ⟨2, ![16384, 10688]⟩
abbrev S16384x1024 : Shape := ⟨2, ![16384, 1024]⟩
abbrev S16384x16x64 : Shape := ⟨3, ![16384, 16, 64]⟩
abbrev S16384x16 : Shape := ⟨2, ![16384, 16]⟩
abbrev S16384x16x1 : Shape := ⟨3, ![16384, 16, 1]⟩
abbrev S1x1x64 : Shape := ⟨3, ![1, 1, 64]⟩
abbrev S16384x3072 : Shape := ⟨2, ![16384, 3072]⟩
abbrev S16384x448 : Shape := ⟨2, ![16384, 448]⟩
abbrev S16384x4096 : Shape := ⟨2, ![16384, 4096]⟩
abbrev S16384x64 : Shape := ⟨2, ![16384, 64]⟩
abbrev S16384x10752 : Shape := ⟨2, ![16384, 10752]⟩

abbrev nBuf : Space → Nat
  | .hbm => 67
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x10688, .f32⟩
  | .hbm, ⟨3, _⟩ => ⟨S64, .f32⟩
  | .hbm, ⟨4, _⟩ => ⟨S64, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x10688, .f32⟩
  | .hbm, ⟨22, _⟩ => ⟨S16384x1024, .f32⟩
  | .hbm, ⟨23, _⟩ => ⟨S16384x16x64, .f32⟩
  | .hbm, ⟨24, _⟩ => ⟨S16384x16x64, .f32⟩
  | .hbm, ⟨25, _⟩ => ⟨S_, .f32⟩
  | .hbm, ⟨26, _⟩ => ⟨S16384x16, .f32⟩
  | .hbm, ⟨27, _⟩ => ⟨S16384x16x1, .f32⟩
  | .hbm, ⟨28, _⟩ => ⟨S_, .f32⟩
  | .hbm, ⟨29, _⟩ => ⟨S16384x16x1, .f32⟩
  | .hbm, ⟨30, _⟩ => ⟨S16384x16x1, .f32⟩
  | .hbm, ⟨31, _⟩ => ⟨S_, .f32⟩
  | .hbm, ⟨32, _⟩ => ⟨S16384x16x1, .f32⟩
  | .hbm, ⟨33, _⟩ => ⟨S16384x16x1, .f32⟩
  | .hbm, ⟨34, _⟩ => ⟨S16384x16x1, .f32⟩
  | .hbm, ⟨35, _⟩ => ⟨S16384x16x64, .f32⟩
  | .hbm, ⟨36, _⟩ => ⟨S16384x16x64, .f32⟩
  | .hbm, ⟨37, _⟩ => ⟨S1x1x64, .f32⟩
  | .hbm, ⟨38, _⟩ => ⟨S16384x16x64, .f32⟩
  | .hbm, ⟨39, _⟩ => ⟨S16384x16x64, .f32⟩
  | .hbm, ⟨40, _⟩ => ⟨S16384x1024, .f32⟩
  | .hbm, ⟨41, _⟩ => ⟨S16384x16x64, .f32⟩
  | .hbm, ⟨42, _⟩ => ⟨S16384x16x64, .f32⟩
  | .hbm, ⟨43, _⟩ => ⟨S_, .f32⟩
  | .hbm, ⟨44, _⟩ => ⟨S16384x16, .f32⟩
  | .hbm, ⟨45, _⟩ => ⟨S16384x16x1, .f32⟩
  | .hbm, ⟨46, _⟩ => ⟨S_, .f32⟩
  | .hbm, ⟨47, _⟩ => ⟨S16384x16x1, .f32⟩
  | .hbm, ⟨48, _⟩ => ⟨S16384x16x1, .f32⟩
  | .hbm, ⟨49, _⟩ => ⟨S_, .f32⟩
  | .hbm, ⟨50, _⟩ => ⟨S16384x16x1, .f32⟩
  | .hbm, ⟨51, _⟩ => ⟨S16384x16x1, .f32⟩
  | .hbm, ⟨52, _⟩ => ⟨S16384x16x1, .f32⟩
  | .hbm, ⟨53, _⟩ => ⟨S16384x16x64, .f32⟩
  | .hbm, ⟨54, _⟩ => ⟨S16384x16x64, .f32⟩
  | .hbm, ⟨55, _⟩ => ⟨S1x1x64, .f32⟩
  | .hbm, ⟨56, _⟩ => ⟨S16384x16x64, .f32⟩
  | .hbm, ⟨57, _⟩ => ⟨S16384x16x64, .f32⟩
  | .hbm, ⟨58, _⟩ => ⟨S16384x1024, .f32⟩
  | .hbm, ⟨59, _⟩ => ⟨S16384x3072, .f32⟩
  | .hbm, ⟨60, _⟩ => ⟨S16384x448, .f32⟩
  | .hbm, ⟨61, _⟩ => ⟨S16384x4096, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384x64, .f32⟩
  | .hbm, ⟨66, _⟩ => ⟨S16384x10752, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== Kernel4.lean ====
abbrev S16384x2048 : Shape := ⟨2, ![16384, 2048]⟩
abbrev S16384x1024 : Shape := ⟨2, ![16384, 1024]⟩
abbrev S16384x10752 : Shape := ⟨2, ![16384, 10752]⟩
abbrev S1024 : Shape := ⟨1, ![1024]⟩
abbrev S16x64 : Shape := ⟨2, ![16, 64]⟩
abbrev S1024x2048 : Shape := ⟨2, ![1024, 2048]⟩
abbrev S2048x2048 : Shape := ⟨2, ![2048, 2048]⟩
abbrev S_ : Shape := ⟨0, ![]⟩
abbrev S1024x1 : Shape := ⟨2, ![1024, 1]⟩
abbrev S128 : Shape := ⟨1, ![128]⟩
abbrev S1x128 : Shape := ⟨2, ![1, 128]⟩
abbrev S1024x128 : Shape := ⟨2, ![1024, 128]⟩
abbrev S1x1024 : Shape := ⟨2, ![1, 1024]⟩
abbrev S256x2048 : Shape := ⟨2, ![256, 2048]⟩
abbrev S256x1024 : Shape := ⟨2, ![256, 1024]⟩
abbrev S256x128 : Shape := ⟨2, ![256, 128]⟩

abbrev nBuf : Space → Nat
  | .hbm => 47
  | .vmem => 28
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x10752, .f32⟩
  | .hbm, ⟨8, _⟩ => ⟨S1024, .f32⟩
  | .hbm, ⟨9, _⟩ => ⟨S1024, .f32⟩
  | .hbm, ⟨10, _⟩ => ⟨S16x64, .f32⟩
  | .hbm, ⟨11, _⟩ => ⟨S1024x2048, .f32⟩
  | .hbm, ⟨12, _⟩ => ⟨S1024x2048, .f32⟩
  | .hbm, ⟨13, _⟩ => ⟨S2048x2048, .f32⟩
  | .hbm, ⟨14, _⟩ => ⟨S1024, .i32⟩
  | .hbm, ⟨15, _⟩ => ⟨S_, .i32⟩
  | .hbm, ⟨16, _⟩ => ⟨S_, .i32⟩
  | .hbm, ⟨17, _⟩ => ⟨S1024, .i32⟩
  | .hbm, ⟨18, _⟩ => ⟨S1024, .i32⟩
  | .hbm, ⟨19, _⟩ => ⟨S1024, .i32⟩
  | .hbm, ⟨20, _⟩ => ⟨S_, .i32⟩
  | .hbm, ⟨21, _⟩ => ⟨S1024, .i32⟩
  | .hbm, ⟨22, _⟩ => ⟨S1024, .i1⟩
  | .hbm, ⟨23, _⟩ => ⟨S1024, .i32⟩
  | .hbm, ⟨24, _⟩ => ⟨S1024, .i32⟩
  | .hbm, ⟨25, _⟩ => ⟨S_, .i32⟩
  | .hbm, ⟨26, _⟩ => ⟨S1024, .i32⟩
  | .hbm, ⟨27, _⟩ => ⟨S1024, .i1⟩
  | .hbm, ⟨28, _⟩ => ⟨S1024, .i1⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S1024x1, .i32⟩
  | .hbm, ⟨34, _⟩ => ⟨S128, .i32⟩
  | .hbm, ⟨35, _⟩ => ⟨S1x128, .i32⟩
  | .hbm, ⟨36, _⟩ => ⟨S1024x128, .i32⟩
  | .hbm, ⟨37, _⟩ => ⟨S1024x128, .i32⟩
  | .hbm, ⟨38, _⟩ => ⟨S1024x128, .i1⟩
  | .hbm, ⟨39, _⟩ => ⟨S1024x128, .bf16⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S1024x2048, .bf16⟩
  | .hbm, ⟨44, _⟩ => ⟨S1024x2048, .bf16⟩
  | .hbm, ⟨45, _⟩ => ⟨S2048x2048, .bf16⟩
  | .hbm, ⟨46, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1024x128, .bf16⟩
  | .local _ .vmem, ⟨22, _⟩ => ⟨S1024x2048, .bf16⟩
  | .local _ .vmem, ⟨23, _⟩ => ⟨S1024x2048, .bf16⟩
  | .local _ .vmem, ⟨24, _⟩ => ⟨S2048x2048, .bf16⟩
  | .local _ .vmem, ⟨25, _⟩ => ⟨S256x2048, .f32⟩
  | .local _ .vmem, ⟨26, _⟩ => ⟨S256x2048, .f32⟩
  | .local _ .vmem, ⟨27, _⟩ => ⟨S256x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg16_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, c4_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S2048x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, true]

abbrev stage0_16 : Fin 2 → Memref sig .tc .vmem S256x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference4Ideal.lean ====
abbrev S16384x2048 : Shape := ⟨2, ![16384, 2048]⟩
abbrev S16384x1024 : Shape := ⟨2, ![16384, 1024]⟩
abbrev S16384x10752 : Shape := ⟨2, ![16384, 10752]⟩
abbrev S1024 : Shape := ⟨1, ![1024]⟩
abbrev S16x64 : Shape := ⟨2, ![16, 64]⟩
abbrev S1024x2048 : Shape := ⟨2, ![1024, 2048]⟩
abbrev S2048x2048 : Shape := ⟨2, ![2048, 2048]⟩
abbrev S16384x16x64 : Shape := ⟨3, ![16384, 16, 64]⟩
abbrev S_ : Shape := ⟨0, ![]⟩
abbrev S16384x16 : Shape := ⟨2, ![16384, 16]⟩
abbrev S16384x16x1 : Shape := ⟨3, ![16384, 16, 1]⟩
abbrev S1x1024 : Shape := ⟨2, ![1, 1024]⟩
abbrev S1x16x64 : Shape := ⟨3, ![1, 16, 64]⟩

abbrev nBuf : Space → Nat
  | .hbm => 87
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x10752, .f32⟩
  | .hbm, ⟨8, _⟩ => ⟨S1024, .f32⟩
  | .hbm, ⟨9, _⟩ => ⟨S1024, .f32⟩
  | .hbm, ⟨10, _⟩ => ⟨S16x64, .f32⟩
  | .hbm, ⟨11, _⟩ => ⟨S1024x2048, .f32⟩
  | .hbm, ⟨12, _⟩ => ⟨S1024x2048, .f32⟩
  | .hbm, ⟨13, _⟩ => ⟨S2048x2048, .f32⟩
  | .hbm, ⟨14, _⟩ => ⟨S16384x16x64, .f32⟩
  | .hbm, ⟨15, _⟩ => ⟨S16384x16x64, .f32⟩
  | .hbm, ⟨16, _⟩ => ⟨S16384x16x64, .f32⟩
  | .hbm, ⟨17, _⟩ => ⟨S16384x16x64, .f32⟩
  | .hbm, ⟨18, _⟩ => ⟨S_, .f32⟩
  | .hbm, ⟨19, _⟩ => ⟨S16384x16, .f32⟩
  | .hbm, ⟨20, _⟩ => ⟨S16384x16x1, .f32⟩
  | .hbm, ⟨21, _⟩ => ⟨S_, .f32⟩
  | .hbm, ⟨22, _⟩ => ⟨S16384x16x1, .f32⟩
  | .hbm, ⟨23, _⟩ => ⟨S16384x16x1, .f32⟩
  | .hbm, ⟨24, _⟩ => ⟨S16384x16x64, .f32⟩
  | .hbm, ⟨25, _⟩ => ⟨S16384x16x64, .f32⟩
  | .hbm, ⟨26, _⟩ => ⟨S16384x16x64, .f32⟩
  | .hbm, ⟨27, _⟩ => ⟨S16384x16x64, .f32⟩
  | .hbm, ⟨28, _⟩ => ⟨S16384x16x64, .f32⟩
  | .hbm, ⟨29, _⟩ => ⟨S_, .f32⟩
  | .hbm, ⟨30, _⟩ => ⟨S16384x16, .f32⟩
  | .hbm, ⟨31, _⟩ => ⟨S16384x16x1, .f32⟩
  | .hbm, ⟨32, _⟩ => ⟨S_, .f32⟩
  | .hbm, ⟨33, _⟩ => ⟨S16384x16x1, .f32⟩
  | .hbm, ⟨34, _⟩ => ⟨S16384x16x1, .f32⟩
  | .hbm, ⟨35, _⟩ => ⟨S16384x16x64, .f32⟩
  | .hbm, ⟨36, _⟩ => ⟨S16384x16x64, .f32⟩
  | .hbm, ⟨37, _⟩ => ⟨S_, .f32⟩
  | .hbm, ⟨38, _⟩ => ⟨S16384x16x1, .f32⟩
  | .hbm, ⟨39, _⟩ => ⟨S16384x16x1, .f32⟩
  | .hbm, ⟨40, _⟩ => ⟨S16384x16x1, .f32⟩
  | .hbm, ⟨41, _⟩ => ⟨S16384x16x64, .f32⟩
  | .hbm, ⟨42, _⟩ => ⟨S16384x16x64, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S1x1024, .f32⟩
  | .hbm, ⟨48, _⟩ => ⟨S16384x1024, .f32⟩
  | .hbm, ⟨49, _⟩ => ⟨S16384x1024, .f32⟩
  | .hbm, ⟨50, _⟩ => ⟨S16384x16x64, .f32⟩
  | .hbm, ⟨51, _⟩ => ⟨S1x16x64, .f32⟩
  | .hbm, ⟨52, _⟩ => ⟨S16384x16x64, .f32⟩
  | .hbm, ⟨53, _⟩ => ⟨S16384x16x64, .f32⟩
  | .hbm, ⟨54, _⟩ => ⟨S_, .f32⟩
  | .hbm, ⟨55, _⟩ => ⟨S16384x16, .f32⟩
  | .hbm, ⟨56, _⟩ => ⟨S16384x16x1, .f32⟩
  | .hbm, ⟨57, _⟩ => ⟨S16384x16x64, .f32⟩
  | .hbm, ⟨58, _⟩ => ⟨S16384x16x64, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x2048, .f32⟩
  | .hbm, ⟨63, _⟩ => ⟨S16384x2048, .f32⟩
  | .hbm, ⟨64, _⟩ => ⟨S16384x2048, .f32⟩
  | .hbm, ⟨65, _⟩ => ⟨S16384x2048, .f32⟩
  | .hbm, ⟨66, _⟩ => ⟨S16384x2048, .f32⟩
  | .hbm, ⟨67, _⟩ => ⟨S_, .f32⟩
  | .hbm, ⟨68, _⟩ => ⟨S16384x2048, .f32⟩
  | .hbm, ⟨69, _⟩ => ⟨S16384x2048, .f32⟩
  | .hbm, ⟨70, _⟩ => ⟨S_, .f32⟩
  | .hbm, ⟨71, _⟩ => ⟨S16384x2048, .f32⟩
  | .hbm, ⟨72, _⟩ => ⟨S16384x2048, .f32⟩
  | .hbm, ⟨73, _⟩ => ⟨S16384x2048, .f32⟩
  | .hbm, ⟨74, _⟩ => ⟨S16384x2048, .f32⟩
  | .hbm, ⟨75, _⟩ => ⟨S16384x2048, .f32⟩
  | .hbm, ⟨76, _⟩ => ⟨S16384x2048, .f32⟩
  | .hbm, ⟨77, _⟩ => ⟨S_, .f32⟩
  | .hbm, ⟨78, _⟩ => ⟨S16384x2048, .f32⟩
  | .hbm, ⟨79, _⟩ => ⟨S16384x2048, .f32⟩
  | .hbm, ⟨80, _⟩ => ⟨S_, .f32⟩
  | .hbm, ⟨81, _⟩ => ⟨S16384x2048, .f32⟩
  | .hbm, ⟨82, _⟩ => ⟨S16384x2048, .f32⟩
  | .hbm, ⟨83, _⟩ => ⟨S16384x2048, .f32⟩
  | .hbm, ⟨84, _⟩ => ⟨S16384x2048, .f32⟩
  | .hbm, ⟨85, _⟩ => ⟨S16384x2048, .f32⟩
  | .hbm, ⟨86, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_5 : Ref sig .tc := ⟨.hbm, 67, rfl⟩
abbrev main_v47 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_7 : Ref sig .tc := ⟨.hbm, 77, rfl⟩
abbrev main_v55 : Ref sig .tc := ⟨.hbm, 78, rfl⟩
abbrev main_v56 : Ref sig .tc := ⟨.hbm, 79, rfl⟩
abbrev main_cst_8 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v7x

variable {F : FTy → Type} [FloatOps F]
-- ==== Kernel5.lean ====
abbrev S32x64x10752 : Shape := ⟨3, ![32, 64, 10752]⟩
abbrev S32x1x3520 : Shape := ⟨3, ![32, 1, 3520]⟩
abbrev S3520 : Shape := ⟨1, ![3520]⟩
abbrev S1024 : Shape := ⟨1, ![1024]⟩
abbrev S96x1024 : Shape := ⟨2, ![96, 1024]⟩
abbrev S256x1024 : Shape := ⟨2, ![256, 1024]⟩
abbrev S_ : Shape := ⟨0, ![]⟩
abbrev S1024x1 : Shape := ⟨2, ![1024, 1]⟩
abbrev S128 : Shape := ⟨1, ![128]⟩
abbrev S1x128 : Shape := ⟨2, ![1, 128]⟩
abbrev S1024x128 : Shape := ⟨2, ![1024, 128]⟩
abbrev S32x1x3072 : Shape := ⟨3, ![32, 1, 3072]⟩
abbrev S32x1x448 : Shape := ⟨3, ![32, 1, 448]⟩
abbrev S32x1x512 : Shape := ⟨3, ![32, 1, 512]⟩
abbrev S3072 : Shape := ⟨1, ![3072]⟩
abbrev S1x3072 : Shape := ⟨2, ![1, 3072]⟩
abbrev S448 : Shape := ⟨1, ![448]⟩
abbrev S512 : Shape := ⟨1, ![512]⟩
abbrev S1x512 : Shape := ⟨2, ![1, 512]⟩
abbrev S1x1024 : Shape := ⟨2, ![1, 1024]⟩
abbrev S512x1024 : Shape := ⟨2, ![512, 1024]⟩
abbrev S1 : Shape := ⟨1, ![1]⟩
abbrev S32x64x1024 : Shape := ⟨3, ![32, 64, 1024]⟩
abbrev S1x64x3072 : Shape := ⟨3, ![1, 64, 3072]⟩
abbrev S1x64x512 : Shape := ⟨3, ![1, 64, 512]⟩
abbrev S1x1x3072 : Shape := ⟨3, ![1, 1, 3072]⟩
abbrev S1x1x512 : Shape := ⟨3, ![1, 1, 512]⟩
abbrev S1x64x1024 : Shape := ⟨3, ![1, 64, 1024]⟩
abbrev S8x3072 : Shape := ⟨2, ![8, 3072]⟩
abbrev S8x512 : Shape := ⟨2, ![8, 512]⟩
abbrev S64x512 : Shape := ⟨2, ![64, 512]⟩
abbrev S64x1024 : Shape := ⟨2, ![64, 1024]⟩
abbrev S64x128 : Shape := ⟨2, ![64, 128]⟩

abbrev nBuf : Space → Nat
  | .hbm => 77
  | .vmem => 34
  | .smem => 0
  | _ => 0

abbrev bufTy : (tb : Table) → Fin (tcTables nBuf tb) → BufTy
  | .hbm, ⟨0, _⟩ => ⟨S32x64x10752, .f32⟩
  | .hbm, ⟨1, _⟩ => ⟨S32x1x3520, .f32⟩
  | .hbm, ⟨2, _⟩ => ⟨S3520, .f32⟩
  | .hbm, ⟨3, _⟩ => ⟨S1024, .f32⟩
  | .hbm, ⟨4, _⟩ => ⟨S96x1024, .f32⟩
  | .hbm, ⟨5, _⟩ => ⟨S1024, .f32⟩
  | .hbm, ⟨6, _⟩ => ⟨S96x1024, .f32⟩
  | .hbm, ⟨7, _⟩ => ⟨S256x1024, .f32⟩
  | .hbm, ⟨8, _⟩ => ⟨S1024, .f32⟩
  | .hbm, ⟨9, _⟩ => ⟨S1024, .f32⟩
  | .hbm, ⟨10, _⟩ => ⟨S1024, .i32⟩
  | .hbm, ⟨11, _⟩ => ⟨S_, .i32⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i1⟩
  | .hbm, ⟨19, _⟩ => ⟨S1024, .i32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S1024, .i1⟩
  | .hbm, ⟨25, _⟩ => ⟨S_, .i32⟩
  | .hbm, ⟨26, _⟩ => ⟨S1024, .i32⟩
  | .hbm, ⟨27, _⟩ => ⟨S1024, .i32⟩
  | .hbm, ⟨28, _⟩ => ⟨S1024, .i32⟩
  | .hbm, ⟨29, _⟩ => ⟨S1024x1, .i32⟩
  | .hbm, ⟨30, _⟩ => ⟨S128, .i32⟩
  | .hbm, ⟨31, _⟩ => ⟨S1x128, .i32⟩
  | .hbm, ⟨32, _⟩ => ⟨S1024x128, .i32⟩
  | .hbm, ⟨33, _⟩ => ⟨S1024x128, .i32⟩
  | .hbm, ⟨34, _⟩ => ⟨S1024x128, .i1⟩
  | .hbm, ⟨35, _⟩ => ⟨S1024x128, .bf16⟩
  | .hbm, ⟨36, _⟩ => ⟨S32x1x3072, .f32⟩
  | .hbm, ⟨37, _⟩ => ⟨S32x1x448, .f32⟩
  | .hbm, ⟨38, _⟩ => ⟨S_, .i32⟩
  | .hbm, ⟨39, _⟩ => ⟨S_, .f32⟩
  | .hbm, ⟨40, _⟩ => ⟨S32x1x512, .f32⟩
  | .hbm, ⟨41, _⟩ => ⟨S3072, .f32⟩
  | .hbm, ⟨42, _⟩ => ⟨S1x3072, .f32⟩
  | .hbm, ⟨43, _⟩ => ⟨S448, .f32⟩
  | .hbm, ⟨44, _⟩ => ⟨S_, .i32⟩
  | .hbm, ⟨45, _⟩ => ⟨S_, .f32⟩
  | .hbm, ⟨46, _⟩ => ⟨S512, .f32⟩
  | .hbm, ⟨47, _⟩ => ⟨S1x512, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S_, .f32⟩
  | .hbm, ⟨53, _⟩ => ⟨S512x1024, .f32⟩
  | .hbm, ⟨54, _⟩ => ⟨S_, .i32⟩
  | .hbm, ⟨55, _⟩ => ⟨S1, .i32⟩
  | .hbm, ⟨56, _⟩ => ⟨S512x1024, .f32⟩
  | .hbm, ⟨57, _⟩ => ⟨S512x1024, .bf16⟩
  | .hbm, ⟨58, _⟩ => ⟨S_, .f32⟩
  | .hbm, ⟨59, _⟩ => ⟨S512x1024, .f32⟩
  | .hbm, ⟨60, _⟩ => ⟨S_, .i32⟩
  | .hbm, ⟨61, _⟩ => ⟨S1, .i32⟩
  | .hbm, ⟨62, _⟩ => ⟨S512x1024, .f32⟩
  | .hbm, ⟨63, _⟩ => ⟨S512x1024, .bf16⟩
  | .hbm, ⟨64, _⟩ => ⟨S_, .f32⟩
  | .hbm, ⟨65, _⟩ => ⟨S512x1024, .f32⟩
  | .hbm, ⟨66, _⟩ => ⟨S_, .i32⟩
  | .hbm, ⟨67, _⟩ => ⟨S1, .i32⟩
  | .hbm, ⟨68, _⟩ => ⟨S512x1024, .f32⟩
  | .hbm, ⟨69, _⟩ => ⟨S512x1024, .bf16⟩
  | .hbm, ⟨70, _⟩ => ⟨S32x64x1024, .f32⟩
  | .hbm, ⟨71, _⟩ => ⟨S32x64x1024, .f32⟩
  | .hbm, ⟨72, _⟩ => ⟨S32x64x1024, .f32⟩
  | .hbm, ⟨73, _⟩ => ⟨S32x64x1024, .f32⟩
  | .hbm, ⟨74, _⟩ => ⟨S32x64x1024, .f32⟩
  | .hbm, ⟨75, _⟩ => ⟨S32x64x1024, .f32⟩
  | .hbm, ⟨76, _⟩ => ⟨S32x64x1024, .f32⟩
  | .local _ .vmem, ⟨0, _⟩ => ⟨S1x64x3072, .f32⟩
  | .local _ .vmem, ⟨1, _⟩ => ⟨S1x64x3072, .f32⟩
  | .local _ .vmem, ⟨2, _⟩ => ⟨S1x64x512, .f32⟩
  | .local _ .vmem, ⟨3, _⟩ => ⟨S1x64x512, .f32⟩
  | .local _ .vmem, ⟨4, _⟩ => ⟨S1x1x3072, .f32⟩
  | .local _ .vmem, ⟨5, _⟩ => ⟨S1x1x3072, .f32⟩
  | .local _ .vmem, ⟨6, _⟩ => ⟨S1x1x512, .f32⟩
  | .local _ .vmem, ⟨7, _⟩ => ⟨S1x1x512, .f32⟩
  | .local _ .vmem, ⟨8, _⟩ => ⟨S1x3072, .f32⟩
  | .local _ .vmem, ⟨9, _⟩ => ⟨S1x512, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x128, .bf16⟩
  | .local _ .vmem, ⟨18, _⟩ => ⟨S1x64x1024, .f32⟩
  | .local _ .vmem, ⟨19, _⟩ => ⟨S1x64x1024, .f32⟩
  | .local _ .vmem, ⟨20, _⟩ => ⟨S1x64x1024, .f32⟩
  | .local _ .vmem, ⟨21, _⟩ => ⟨S1x64x1024, .f32⟩
  | .local _ .vmem, ⟨22, _⟩ => ⟨S1x64x1024, .f32⟩
  | .local _ .vmem, ⟨23, _⟩ => ⟨S1x64x1024, .f32⟩
  | .local _ .vmem, ⟨24, _⟩ => ⟨S1x64x1024, .f32⟩
  | .local _ .vmem, ⟨25, _⟩ => ⟨S1x64x1024, .f32⟩
  | .local _ .vmem, ⟨26, _⟩ => ⟨S1x64x1024, .f32⟩
  | .local _ .vmem, ⟨27, _⟩ => ⟨S1x64x1024, .f32⟩
  | .local _ .vmem, ⟨28, _⟩ => ⟨S1x64x1024, .f32⟩
  | .local _ .vmem, ⟨29, _⟩ => ⟨S1x64x1024, .f32⟩
  | .local _ .vmem, ⟨30, _⟩ => ⟨S1x64x1024, .f32⟩
  | .local _ .vmem, ⟨31, _⟩ => ⟨S1x64x1024, .f32⟩
  | .local _ .vmem, ⟨32, _⟩ => ⟨S8x3072, .f32⟩
  | .local _ .vmem, ⟨33, _⟩ => ⟨S8x512, .f32⟩
  | _, _ => ⟨S32x64x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_c_0 : Ref sig .tc := ⟨.hbm, 38, rfl⟩
abbrev main_call1_v0 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_c_1 : Ref sig .tc := ⟨.hbm, 44, rfl⟩
abbrev main_call2_v0 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst : Ref sig .tc := ⟨.hbm, 52, rfl⟩
abbrev main_v21 : Ref sig .tc := ⟨.hbm, 53, rfl⟩
abbrev main_c_2 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_cst_3 : Ref sig .tc := ⟨.hbm, 58, rfl⟩
abbrev main_v25 : Ref sig .tc := ⟨.hbm, 59, rfl⟩
abbrev main_c_4 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_5 : Ref sig .tc := ⟨.hbm, 64, rfl⟩
abbrev main_v29 : Ref sig .tc := ⟨.hbm, 65, rfl⟩
abbrev main_c_6 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33_0 : Ref sig .tc := ⟨.hbm, 70, rfl⟩
abbrev main_v33_1 : Ref sig .tc := ⟨.hbm, 71, rfl⟩
abbrev main_v33_2 : Ref sig .tc := ⟨.hbm, 72, rfl⟩
abbrev main_v33_3 : Ref sig .tc := ⟨.hbm, 73, rfl⟩
abbrev main_v33_4 : Ref sig .tc := ⟨.hbm, 74, rfl⟩
abbrev main_v33_5 : Ref sig .tc := ⟨.hbm, 75, rfl⟩
abbrev main_v33_6 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_scratch0 : Ref sig .tc := ⟨.vmem, 32, rfl⟩
abbrev cc0_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_1 (i : grid0.Coords) : Fin 3 → Nat :=
  let arg0 : BitVec 32 := BitVec.ofNat 32 (i 0).val
  let arg1 : BitVec 32 := BitVec.ofNat 32 (i 1).val
  let c20_i32 : BitVec 32 := 20#32
  let c0_i32 : BitVec 32 := 0#32
  ![arg0.toNat, arg1.toNat, c20_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x64x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x64x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x64x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x64x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x64x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x64x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x64x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference5Ideal.lean ====
abbrev S32x64x10752 : Shape := ⟨3, ![32, 64, 10752]⟩
abbrev S32x1x3520 : Shape := ⟨3, ![32, 1, 3520]⟩
abbrev S3520 : Shape := ⟨1, ![3520]⟩
abbrev S1024 : Shape := ⟨1, ![1024]⟩
abbrev S96x1024 : Shape := ⟨2, ![96, 1024]⟩
abbrev S256x1024 : Shape := ⟨2, ![256, 1024]⟩
abbrev S32x64x3072 : Shape := ⟨3, ![32, 64, 3072]⟩
abbrev S32x64x448 : Shape := ⟨3, ![32, 64, 448]⟩
abbrev S32x64x3520 : Shape := ⟨3, ![32, 64, 3520]⟩
abbrev S32x63x3520 : Shape := ⟨3, ![32, 63, 3520]⟩
abbrev S1x1x3520 : Shape := ⟨3, ![1, 1, 3520]⟩
abbrev S32x64x1024 : Shape := ⟨3, ![32, 64, 1024]⟩
abbrev S32x64x96 : Shape := ⟨3, ![32, 64, 96]⟩
abbrev S32x64x256 : Shape := ⟨3, ![32, 64, 256]⟩
abbrev S1x1x1024 : Shape := ⟨3, ![1, 1, 1024]⟩
abbrev S_ : Shape := ⟨0, ![]⟩
abbrev S32x64x16x64 : Shape := ⟨4, ![32, 64, 16, 64]⟩
abbrev S32x64x16 : Shape := ⟨3, ![32, 64, 16]⟩
abbrev S32x64x16x1 : Shape := ⟨4, ![32, 64, 16, 1]⟩

abbrev nBuf : Space → Nat
  | .hbm => 100
  | .vmem => 0
  | .smem => 0
  | _ => 0

abbrev bufTy : (tb : Table) → Fin (tcTables nBuf tb) → BufTy
  | .hbm, ⟨0, _⟩ => ⟨S32x64x10752, .f32⟩
  | .hbm, ⟨1, _⟩ => ⟨S32x1x3520, .f32⟩
  | .hbm, ⟨2, _⟩ => ⟨S3520, .f32⟩
  | .hbm, ⟨3, _⟩ => ⟨S1024, .f32⟩
  | .hbm, ⟨4, _⟩ => ⟨S96x1024, .f32⟩
  | .hbm, ⟨5, _⟩ => ⟨S1024, .f32⟩
  | .hbm, ⟨6, _⟩ => ⟨S96x1024, .f32⟩
  | .hbm, ⟨7, _⟩ => ⟨S256x1024, .f32⟩
  | .hbm, ⟨8, _⟩ => ⟨S1024, .f32⟩
  | .hbm, ⟨9, _⟩ => ⟨S1024, .f32⟩
  | .hbm, ⟨10, _⟩ => ⟨S32x64x3072, .f32⟩
  | .hbm, ⟨11, _⟩ => ⟨S32x64x448, .f32⟩
  | .hbm, ⟨12, _⟩ => ⟨S32x64x3520, .f32⟩
  | .hbm, ⟨13, _⟩ => ⟨S32x63x3520, .f32⟩
  | .hbm, ⟨14, _⟩ => ⟨S32x64x3520, .f32⟩
  | .hbm, ⟨15, _⟩ => ⟨S32x64x3520, .f32⟩
  | .hbm, ⟨16, _⟩ => ⟨S1x1x3520, .f32⟩
  | .hbm, ⟨17, _⟩ => ⟨S32x64x3520, .f32⟩
  | .hbm, ⟨18, _⟩ => ⟨S32x64x3520, .f32⟩
  | .hbm, ⟨19, _⟩ => ⟨S32x64x3520, .f32⟩
  | .hbm, ⟨20, _⟩ => ⟨S32x64x1024, .f32⟩
  | .hbm, ⟨21, _⟩ => ⟨S32x64x1024, .f32⟩
  | .hbm, ⟨22, _⟩ => ⟨S32x64x1024, .f32⟩
  | .hbm, ⟨23, _⟩ => ⟨S32x64x96, .f32⟩
  | .hbm, ⟨24, _⟩ => ⟨S32x64x96, .f32⟩
  | .hbm, ⟨25, _⟩ => ⟨S32x64x256, .f32⟩
  | .hbm, ⟨26, _⟩ => ⟨S32x64x96, .f32⟩
  | .hbm, ⟨27, _⟩ => ⟨S32x64x1024, .f32⟩
  | .hbm, ⟨28, _⟩ => ⟨S1x1x1024, .f32⟩
  | .hbm, ⟨29, _⟩ => ⟨S32x64x1024, .f32⟩
  | .hbm, ⟨30, _⟩ => ⟨S32x64x1024, .f32⟩
  | .hbm, ⟨31, _⟩ => ⟨S32x64x1024, .f32⟩
  | .hbm, ⟨32, _⟩ => ⟨S_, .f32⟩
  | .hbm, ⟨33, _⟩ => ⟨S32x64x1024, .f32⟩
  | .hbm, ⟨34, _⟩ => ⟨S32x64x1024, .f32⟩
  | .hbm, ⟨35, _⟩ => ⟨S32x64x1024, .f32⟩
  | .hbm, ⟨36, _⟩ => ⟨S32x64x1024, .f32⟩
  | .hbm, ⟨37, _⟩ => ⟨S32x64x1024, .i1⟩
  | .hbm, ⟨38, _⟩ => ⟨S32x64x1024, .f32⟩
  | .hbm, ⟨39, _⟩ => ⟨S32x64x1024, .f32⟩
  | .hbm, ⟨40, _⟩ => ⟨S32x64x1024, .f32⟩
  | .hbm, ⟨41, _⟩ => ⟨S32x64x1024, .f32⟩
  | .hbm, ⟨42, _⟩ => ⟨S32x64x1024, .f32⟩
  | .hbm, ⟨43, _⟩ => ⟨S32x64x1024, .f32⟩
  | .hbm, ⟨44, _⟩ => ⟨S32x64x1024, .f32⟩
  | .hbm, ⟨45, _⟩ => ⟨S32x64x1024, .f32⟩
  | .hbm, ⟨46, _⟩ => ⟨S32x64x1024, .f32⟩
  | .hbm, ⟨47, _⟩ => ⟨S_, .f32⟩
  | .hbm, ⟨48, _⟩ => ⟨S32x64x1024, .f32⟩
  | .hbm, ⟨49, _⟩ => ⟨S32x64x1024, .f32⟩
  | .hbm, ⟨50, _⟩ => ⟨S32x64x1024, .f32⟩
  | .hbm, ⟨51, _⟩ => ⟨S1x1x1024, .f32⟩
  | .hbm, ⟨52, _⟩ => ⟨S32x64x1024, .f32⟩
  | .hbm, ⟨53, _⟩ => ⟨S32x64x1024, .f32⟩
  | .hbm, ⟨54, _⟩ => ⟨S32x64x1024, .f32⟩
  | .hbm, ⟨55, _⟩ => ⟨S32x64x1024, .f32⟩
  | .hbm, ⟨56, _⟩ => ⟨S_, .f32⟩
  | .hbm, ⟨57, _⟩ => ⟨S32x64x1024, .f32⟩
  | .hbm, ⟨58, _⟩ => ⟨S32x64x1024, .f32⟩
  | .hbm, ⟨59, _⟩ => ⟨S_, .f32⟩
  | .hbm, ⟨60, _⟩ => ⟨S32x64x1024, .f32⟩
  | .hbm, ⟨61, _⟩ => ⟨S32x64x1024, .f32⟩
  | .hbm, ⟨62, _⟩ => ⟨S32x64x256, .f32⟩
  | .hbm, ⟨63, _⟩ => ⟨S32x64x256, .f32⟩
  | .hbm, ⟨64, _⟩ => ⟨S_, .f32⟩
  | .hbm, ⟨65, _⟩ => ⟨S32x64x256, .f32⟩
  | .hbm, ⟨66, _⟩ => ⟨S32x64x256, .f32⟩
  | .hbm, ⟨67, _⟩ => ⟨S_, .f32⟩
  | .hbm, ⟨68, _⟩ => ⟨S32x64x256, .f32⟩
  | .hbm, ⟨69, _⟩ => ⟨S32x64x256, .f32⟩
  | .hbm, ⟨70, _⟩ => ⟨S32x64x1024, .f32⟩
  | .hbm, ⟨71, _⟩ => ⟨S1x1x1024, .f32⟩
  | .hbm, ⟨72, _⟩ => ⟨S32x64x1024, .f32⟩
  | .hbm, ⟨73, _⟩ => ⟨S32x64x1024, .f32⟩
  | .hbm, ⟨74, _⟩ => ⟨S32x64x16x64, .f32⟩
  | .hbm, ⟨75, _⟩ => ⟨S_, .f32⟩
  | .hbm, ⟨76, _⟩ => ⟨S32x64x1024, .f32⟩
  | .hbm, ⟨77, _⟩ => ⟨S32x64x1024, .f32⟩
  | .hbm, ⟨78, _⟩ => ⟨S1x1x1024, .f32⟩
  | .hbm, ⟨79, _⟩ => ⟨S32x64x1024, .f32⟩
  | .hbm, ⟨80, _⟩ => ⟨S32x64x1024, .f32⟩
  | .hbm, ⟨81, _⟩ => ⟨S_, .f32⟩
  | .hbm, ⟨82, _⟩ => ⟨S32x64x1024, .f32⟩
  | .hbm, ⟨83, _⟩ => ⟨S32x64x1024, .f32⟩
  | .hbm, ⟨84, _⟩ => ⟨S32x64x1024, .f32⟩
  | .hbm, ⟨85, _⟩ => ⟨S32x64x16x64, .f32⟩
  | .hbm, ⟨86, _⟩ => ⟨S_, .f32⟩
  | .hbm, ⟨87, _⟩ => ⟨S32x64x16, .f32⟩
  | .hbm, ⟨88, _⟩ => ⟨S32x64x16x1, .f32⟩
  | .hbm, ⟨89, _⟩ => ⟨S32x64x16x1, .f32⟩
  | .hbm, ⟨90, _⟩ => ⟨S_, .f32⟩
  | .hbm, ⟨91, _⟩ => ⟨S32x64x16x1, .f32⟩
  | .hbm, ⟨92, _⟩ => ⟨S32x64x16x1, .f32⟩
  | .hbm, ⟨93, _⟩ => ⟨S32x64x16x64, .f32⟩
  | .hbm, ⟨94, _⟩ => ⟨S32x64x16x64, .f32⟩
  | .hbm, ⟨95, _⟩ => ⟨S32x64x1024, .f32⟩
  | .hbm, ⟨96, _⟩ => ⟨S32x64x1024, .f32⟩
  | .hbm, ⟨97, _⟩ => ⟨S32x64x1024, .f32⟩
  | .hbm, ⟨98, _⟩ => ⟨S32x64x1024, .f32⟩
  | .hbm, ⟨99, _⟩ => ⟨S32x64x1024, .f32⟩
  | _, _ => ⟨S32x64x10752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_v22 : Ref sig .tc := ⟨.hbm, 45, rfl⟩
abbrev main_v23 : Ref sig .tc := ⟨.hbm, 46, rfl⟩
abbrev main_cst : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_0 : Ref sig .tc := ⟨.hbm, 56, rfl⟩
abbrev main_v32 : Ref sig .tc := ⟨.hbm, 57, rfl⟩
abbrev main_v33 : Ref sig .tc := ⟨.hbm, 58, rfl⟩
abbrev main_cst_1 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_2 : Ref sig .tc := ⟨.hbm, 64, rfl⟩
abbrev main_v38 : Ref sig .tc := ⟨.hbm, 65, rfl⟩
abbrev main_v39 : Ref sig .tc := ⟨.hbm, 66, rfl⟩
abbrev main_cst_3 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_4 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_5 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_call1_v0 : Ref sig .tc := ⟨.hbm, 85, rfl⟩
abbrev main_call1_cst : Ref sig .tc := ⟨.hbm, 86, rfl⟩
abbrev main_call1_v1 : Ref sig .tc := ⟨.hbm, 87, rfl⟩
abbrev main_call1_v2 : Ref sig .tc := ⟨.hbm, 88, rfl⟩
abbrev main_v55 : Ref sig .tc := ⟨.hbm, 89, rfl⟩
abbrev main_cst_6 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩

abbrev nD : Nat := 1
abbrev τ : Topo := Topo.v7x

variable {F : FTy → Type} [FloatOps F]
-- ==== Proof.FfnPoint.lean ====
/-
  The feed-forward kernel's point, read: what each case of its frame leaves in the output block, in the
  normalised rows it keeps and in the running sum, as the body's payloads over the point's input blocks.
-/
module

public import proofs.«01_k».proof.Proof.Gen.Kernel2Ideal.Value
public import Idealize.ShloMosaic.Lib.ValueIdx
public import Idealize.ShloMosaic.Lib.Pipeline.Value
public import Idealize.ShloMosaic.Lib.Tactic

@[expose] public section

noncomputable section

open Idealize.ShloMosaic Idealize.ShloMosaic.TcCoe Idealize.SL.Sem

namespace Cert.Kernel2Ideal.Ffn

open Cert.Kernel2Ideal Cert.Kernel2Ideal.Gen

variable {F : FTy → Type} [FloatOps F]

theorem hz : (![0, 0] : Fin 2 → Nat) = fun _ => 0 := funext fun a => by fin_cases a <;> rfl

section Point
variable (c : Dev nD) (i : grid0.Coords)
  (a2 : Memref sig .tc .vmem S512x2048 .f32) (h2 : a2.IsWhole) (a3 : Memref sig .tc .vmem S1x2048 .f32) (h3 : a3.IsWhole)
  (a4 : Memref sig .tc .vmem S2048x512 .bf16) (h4 : a4.IsWhole) (a5 : Memref sig .tc .vmem S2048x512 .bf16) (h5 : a5.IsWhole)
  (a6 : Memref sig .tc .vmem S512x2048 .bf16) (h6 : a6.IsWhole) (a7 : Memref sig .tc .vmem S512x2048 .f32) (h7 : a7.IsWhole)
  (a8 : Memref sig .tc .vmem S512x2048 .bf16) (h8 : a8.IsWhole) (a9 : Memref sig .tc .vmem S512x2048 .f32) (h9 : a9.IsWhole)
  (x0 : Vec F S512x2048 .f32) (x1 : Vec F S1x2048 .f32) (x2 x3 : Vec F S2048x512 .bf16) (x4 : Vec F S512x2048 .bf16)
  (xs0 : Vec F S512x2048 .bf16) (xs1 : Vec F S512x2048 .f32)

/-- A run's first point keeps the normalised rows, -/
theorem rows_A (hc0 : cond0_0 i) (hc1 : ¬cond0_1 i) :
    sout0_A_0 c i a2 h2 a3 h3 a4 h4 a5 h5 a6 h6 a7 h7 a8 h8 a9 h9 hc0 hc1 x0 x1 x2 x3 x4 = k0_pay1 x0 x1 := by
  unfold sout0_A_0
  rw [View.read_writes_eq_canon _ _ _ (scover0_A_0 c i a2 h2 a3 h3 a4 h4 a5 h5 a6 h6 a7 h7 a8 h8 a9 h9 hc0 hc1 x0 x1 x2 x3 x4)]
  unfold kernelRun0_A
  dsimp only
  sl_unfold_words
  rw [View.canon_unit_zero hz]
  simp only [View.readAt_eq_ld, h2.read_unread, h3.read_unread, View.ld_unit_zero (S := S512x2048) hz, View.ld_unit_zero (S := S1x2048) hz]

/-- and the first block's product over zeros; -/
theorem sum_A (hc0 : cond0_0 i) (hc1 : ¬cond0_1 i) :
    sout0_A_1 c i a2 h2 a3 h3 a4 h4 a5 h5 a6 h6 a7 h7 a8 h8 a9 h9 hc0 hc1 x0 x1 x2 x3 x4
      = k0_pay3 (k0_pay1 x0 x1) x2 x3 k0_pay2 x4 := by
  unfold sout0_A_1
  rw [View.read_writes_eq_canon _ _ _ (scover0_A_1 c i a2 h2 a3 h3 a4 h4 a5 h5 a6 h6 a7 h7 a8 h8 a9 h9 hc0 hc1 x0 x1 x2 x3 x4)]
  unfold kernelRun0_A
  dsimp only
  sl_unfold_words
  rw [View.canon_cons_unit_zero (S := S512x2048) hz]
  simp only [View.readCov_unit_zero (S := S512x2048) _ hz, View.readAt_eq_ld, h2.read_unread, h3.read_unread, h4.read_unread,
    h5.read_unread, h6.read_unread, View.ld_unit_zero (S := S512x2048) hz, View.ld_unit_zero (S := S1x2048) hz,
    View.ld_unit_zero (S := S2048x512) hz]

/-- a later point keeps the rows it finds -/
theorem rows_B (hc0 : ¬cond0_0 i) (hc1 : ¬cond0_1 i) :
    sout0_B_0 c i a2 h2 a3 h3 a4 h4 a5 h5 a6 h6 a7 h7 a8 h8 a9 h9 hc0 hc1 x0 x1 x2 x3 x4 xs0 xs1 = xs0 := rfl

theorem rows_C (hc0 : ¬cond0_0 i) (hc1 : cond0_1 i) :
    sout0_C_0 c i a2 h2 a3 h3 a4 h4 a5 h5 a6 h6 a7 h7 a8 h8 a9 h9 hc0 hc1 x0 x1 x2 x3 x4 xs0 xs1 = xs0 := rfl

/-- and adds its block's product to the running sum, -/
theorem sum_B (hc0 : ¬cond0_0 i) (hc1 : ¬cond0_1 i) :
    sout0_B_1 c i a2 h2 a3 h3 a4 h4 a5 h5 a6 h6 a7 h7 a8 h8 a9 h9 hc0 hc1 x0 x1 x2 x3 x4 xs0 xs1 = k0_pay3 xs0 x2 x3 xs1 x4 := by
  unfold sout0_B_1
  rw [View.read_writes_eq_canon _ _ _ (scover0_B_1 c i a2 h2 a3 h3 a4 h4 a5 h5 a6 h6 a7 h7 a8 h8 a9 h9 hc0 hc1 x0 x1 x2 x3 x4 xs0 xs1)]
  unfold kernelRun0_B
  dsimp only
  sl_unfold_words
  rw [View.canon_unit_zero hz]
  simp only [View.readAt_eq_ld, h4.read_unread, h5.read_unread, h6.read_unread, h8.read_unread, h9.read_unread,
    View.ld_unit_zero (S := S512x2048) hz, View.ld_unit_zero (S := S2048x512) hz]

/-- the last point as well, -/
theorem sum_C (hc0 : ¬cond0_0 i) (hc1 : cond0_1 i) :
    sout0_C_1 c i a2 h2 a3 h3 a4 h4 a5 h5 a6 h6 a7 h7 a8 h8 a9 h9 hc0 hc1 x0 x1 x2 x3 x4 xs0 xs1 = k0_pay3 xs0 x2 x3 xs1 x4 := by
  unfold sout0_C_1
  rw [View.read_writes_eq_canon _ _ _ (scover0_C_1 c i a2 h2 a3 h3 a4 h4 a5 h5 a6 h6 a7 h7 a8 h8 a9 h9 hc0 hc1 x0 x1 x2 x3 x4 xs0 xs1)]
  unfold kernelRun0_C
  dsimp only
  sl_unfold_words
  rw [View.canon_unit_zero hz]
  simp only [View.readAt_eq_ld, h4.read_unread, h5.read_unread, h6.read_unread, h8.read_unread, h9.read_unread,
    View.ld_unit_zero (S := S512x2048) hz, View.ld_unit_zero (S := S2048x512) hz]

/-- and the run's last point writes the rows plus half of it. -/
theorem out_C (hc0 : ¬cond0_0 i) (hc1 : cond0_1 i) :
    out0_C_5 c i a2 h2 a3 h3 a4 h4 a5 h5 a6 h6 a7 h7 a8 h8 a9 h9 hc0 hc1 x0 x1 x2 x3 x4 xs0 xs1
      = k0_pay4 x0 (k0_pay3 xs0 x2 x3 xs1 x4) := by
  unfold out0_C_5
  rw [View.read_writes_eq_canon _ _ _ (cover0_C_5 c i a2 h2 a3 h3 a4 h4 a5 h5 a6 h6 a7 h7 a8 h8 a9 h9 hc0 hc1 x0 x1 x2 x3 x4 xs0 xs1)]
  unfold kernelRun0_C
  dsimp only
  sl_unfold_words
  rw [View.canon_unit_zero hz]
  simp only [View.readCov_unit_zero (S := S512x2048) _ hz, View.readAt_eq_ld, h2.read_unread, h4.read_unread, h5.read_unread,
    h6.read_unread, h8.read_unread, h9.read_unread, View.ld_unit_zero (S := S512x2048) hz, View.ld_unit_zero (S := S2048x512) hz]

end Point

end Cert.Kernel2Ideal.Ffn

end
-- ==== Proof.FfnSpec.lean ====
/-
  The feed-forward layer on extended reals, row by row: the root-mean-square normalised row, the gated hidden
  columns, their product with the down projection in blocks of 512 hidden columns, and the whole layer's row; with
  the fact that the eleven blocks' partial products add up to the whole product.
-/
module

public import Idealize.ShloMosaic.Lib.Pointwise

@[expose] public section

noncomputable section

open Idealize.ShloMosaic

namespace Cert.Ffn

/-- Row `512 q + r` of the 16384 rows. -/
def row (q : ℕ) (r : Fin 512) : Fin 16384 := ⟨(512 * q + r.val) % 16384, Nat.mod_lt _ (by decide)⟩

/-- Hidden column `512 f + e` of the 5632. -/
def col (f : ℕ) (e : Fin 512) : Fin 5632 := ⟨(512 * f + e.val) % 5632, Nat.mod_lt _ (by decide)⟩

/-- A sum over the 5632 hidden columns, in eleven blocks of 512. -/
theorem sum_blocks (h : Fin 5632 → EReal) :
    ∑ e : Fin 5632, h e = ∑ f ∈ Finset.range 11, ∑ e : Fin 512, h (col f e) := by
  rw [Finset.sum_range, ← Fintype.sum_prod_type']
  refine (Fintype.sum_equiv (finProdFinEquiv (m := 11) (n := 512)) _ _ fun p => congrArg h (Fin.ext ?_)).symm
  show (512 * p.1.val + p.2.val) % 5632 = p.2.val + 512 * p.1.val
  have := p.1.isLt
  have := p.2.isLt
  omega

section Layer

variable (X : Fin 2048 → EReal) (g : Fin 2048 → EReal) (wg wu : Fin 2048 → Fin 5632 → EReal) (wd : Fin 5632 → Fin 2048 → EReal)

/-- The row, divided by its root mean square and scaled. -/
def normed (k : Fin 2048) : EReal :=
  X k * Ideal.rsqrt (Ideal.div (∑ j, X j * X j) (Ideal.ofBits .f32 0x45000000#32) + Ideal.ofBits .f32 0x358637BD#32) * g k

/-- A hidden column of a normalised row `n`: the gate's product times its logistic, times the up product. -/
def hidden (n : Fin 2048 → EReal) (e : Fin 5632) : EReal :=
  (∑ k, n k * wg k e) * Ideal.logistic (∑ k, n k * wg k e) * ∑ k, n k * wu k e

/-- Block `f`'s part of the down product. -/
def part (n : Fin 2048 → EReal) (f : ℕ) (o : Fin 2048) : EReal :=
  ∑ e : Fin 512, hidden wg wu n (col f e) * wd (col f e) o

/-- The layer's row: the row plus half of the down product. -/
def layer (o : Fin 2048) : EReal :=
  X o + Ideal.ofBits .f32 0x3F000000#32 * ∑ e : Fin 5632, hidden wg wu (normed X g) e * wd e o

/-- The same with the down product in its eleven blocks. -/
theorem layer_blocks (o : Fin 2048) :
    layer X g wg wu wd o
      = X o + Ideal.ofBits .f32 0x3F000000#32 * ∑ f ∈ Finset.range 11, part wg wu wd (normed X g) f o := by
  unfold layer part
  rw [sum_blocks]

end Layer

end Cert.Ffn

end
-- ==== Proof.FfnValue.lean ====
/-
  The feed-forward kernel's result: after a point the kept rows are the normalised rows and the running sum is the
  sum of the blocks' parts so far, so that what the last point of a run writes is the layer of FfnSpec.
-/
module

public import proofs.«01_k».proof.Proof.FfnPoint
public import proofs.«01_k».proof.Proof.FfnSpec
public import Idealize.ShloMosaic.Lib.Pointwise

@[expose] public section

noncomputable section

open Idealize.ShloMosaic Idealize.ShloMosaic.TcCoe Idealize.SL.Sem

namespace Cert.Kernel2Ideal.Ffn

open Cert.Kernel2Ideal Cert.Kernel2Ideal.Gen Cert.Kernel2Ideal.Value

/-! ## The payloads at an index -/

theorem pay1_at (x : Vec Ideal S512x2048 .f32) (g : Vec Ideal S1x2048 .f32) (r : Fin 512) (k : Fin 2048) :
    k0_pay1 (F := Ideal) x g (ix2 r k) = Cert.Ffn.normed (fun j => x (ix2 r j)) (fun j => g (ix2 0 j)) k := by
  pointwise [k0_pay1]
  rfl

theorem pay2_at (r : Fin 512) (k : Fin 2048) : k0_pay2 (F := Ideal) (ix2 r k) = 0 := by
  pointwise [k0_pay2]

theorem pay3_at (n wg wu acc wd) (r : Fin 512) (o : Fin 2048) :
    k0_pay3 (F := Ideal) n wg wu acc wd (ix2 r o)
      = acc (ix2 r o) + ∑ e : Fin 512, ((∑ k, n (ix2 r k) * wg (ix2 k e)) * Ideal.logistic (∑ k, n (ix2 r k) * wg (ix2 k e))
          * ∑ k, n (ix2 r k) * wu (ix2 k e)) * wd (ix2 e o) := by
  pointwise [k0_pay3]

theorem pay4_at (x acc) (r : Fin 512) (o : Fin 2048) :
    k0_pay4 (F := Ideal) x acc (ix2 r o) = x (ix2 r o) + Ideal.ofBits .f32 0x3F000000#32 * acc (ix2 r o) := by
  pointwise [k0_pay4]

variable (m : (ℓ : Loc nD τ sig) → Buf (Elt Ideal) ℓ) (c : Dev nD)

/-! ## The arrays at the kernel's entry -/

theorem flat_at (y : Vec Ideal S2x8192x2048 .f32) (R : Fin 16384) (k : Fin 2048) :
    shapeCast S16384x2048 y shapeCasts_S2x8192x2048_S16384x2048 (ix2 R k) = y (ix3 ⟨R.val / 8192, by omega⟩ ⟨R.val % 8192, by omega⟩ k) := by
  pointwise

theorem lift_at (y : Vec Ideal S2048 .f32) (k : Fin 2048) :
    shapeCast S1x2048 y shapeCasts_S2048_S1x2048 (ix2 0 k) = y (ix1 k) := by
  pointwise

theorem V_v0 : (V m c main_v0 : Vec Ideal S16384x2048 .f32)
    = shapeCast S16384x2048 (m ((c : Thread nD τ).loc main_arg0)) shapeCasts_S2x8192x2048_S16384x2048 := by
  show StableHlo.after hostOps0 _ (Proc.devRef .tc main_v0) = _
  after_results
  rfl

theorem V_v1 : (V m c main_v1 : Vec Ideal S1x2048 .f32)
    = shapeCast S1x2048 (m ((c : Thread nD τ).loc main_arg1)) shapeCasts_S2048_S1x2048 := by
  show StableHlo.after hostOps0 _ (Proc.devRef .tc main_v1) = _
  after_results
  rfl

theorem V_v2 : (V m c main_v2 : Vec Ideal S2048x5632 .bf16) = (m ((c : Thread nD τ).loc main_arg2) : Vec Ideal S2048x5632 .f32) := by
  show StableHlo.after hostOps0 _ (Proc.devRef .tc main_v2) = _
  after_results
  rfl

theorem V_v3 : (V m c main_v3 : Vec Ideal S2048x5632 .bf16) = (m ((c : Thread nD τ).loc main_arg3) : Vec Ideal S2048x5632 .f32) := by
  show StableHlo.after hostOps0 _ (Proc.devRef .tc main_v3) = _
  after_results
  rfl

theorem V_v4 : (V m c main_v4 : Vec Ideal S5632x2048 .bf16) = (m ((c : Thread nD τ).loc main_arg4) : Vec Ideal S5632x2048 .f32) := by
  show StableHlo.after hostOps0 _ (Proc.devRef .tc main_v4) = _
  after_results
  rfl

theorem V_v0_at (R : Fin 16384) (k : Fin 2048) : (V m c main_v0 : Vec Ideal S16384x2048 .f32) (ix2 R k)
    = m ((c : Thread nD τ).loc main_arg0) (ix3 ⟨R.val / 8192, by omega⟩ ⟨R.val % 8192, by omega⟩ k) := by
  rw [V_v0]
  exact flat_at _ R k

theorem V_v1_at (k : Fin 2048) : (V m c main_v1 : Vec Ideal S1x2048 .f32) (ix2 0 k) = m ((c : Thread nD τ).loc main_arg1) (ix1 k) := by
  rw [V_v1]
  exact lift_at _ k

/-- The rows, the scale and the three weights as functions of their coordinates. -/
def X (R : Fin 16384) (k : Fin 2048) : EReal :=
  m ((c : Thread nD τ).loc main_arg0) (ix3 ⟨R.val / 8192, by omega⟩ ⟨R.val % 8192, by omega⟩ k)
def gS (k : Fin 2048) : EReal := m ((c : Thread nD τ).loc main_arg1) (ix1 k)
def wG (k : Fin 2048) (e : Fin 5632) : EReal := m ((c : Thread nD τ).loc main_arg2) (ix2 k e)
def wU (k : Fin 2048) (e : Fin 5632) : EReal := m ((c : Thread nD τ).loc main_arg3) (ix2 k e)
def wD (e : Fin 5632) (o : Fin 2048) : EReal := m ((c : Thread nD τ).loc main_arg4) (ix2 e o)

/-! ## The points' input blocks -/

theorem idx0 : ∀ t : Fin cfg0.N, win0_0.index t (0 : Fin 2) = t.val / 11 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val % 11 :=
  (by decide +kernel : ∀ t : Fin grid0.N, _)
theorem idx3 : ∀ t : Fin cfg0.N, win0_3.index t (0 : Fin 2) = 0 ∧ win0_3.index t (1 : Fin 2) = t.val % 11 :=
  (by decide +kernel : ∀ t : Fin grid0.N, _)
theorem idx4 : ∀ t : Fin cfg0.N, win0_4.index t (0 : Fin 2) = t.val % 11 ∧ win0_4.index t (1 : Fin 2) = 0 :=
  (by decide +kernel : ∀ t : Fin grid0.N, _)

theorem lt_N (t : Fin cfg0.N) : t.val < 352 := lt_of_lt_of_eq t.isLt N_0

theorem blk0 (t : Fin cfg0.N) (r : Fin 512) (k : Fin 2048) :
    (iblk m c 0 t : Vec Ideal S512x2048 .f32) (ix2 r k) = X m c (Cert.Ffn.row (t.val / 11) r) k := by
  have ht := lt_N t
  have hr := r.isLt
  unfold iblk
  rw [View.read_apply]
  have e : (V m c main_v0 : Vec Ideal S16384x2048 .f32) (ix2 (Cert.Ffn.row (t.val / 11) r) k) = X m c (Cert.Ffn.row (t.val / 11) r) k := V_v0_at m c _ k
  rw [← e]
  show (V m c main_v0 : Vec Ideal S16384x2048 .f32) _ = _
  congr 1
  funext a
  apply Fin.ext
  match a with
  | ⟨0, _⟩ => show win0_0.index t 0 * 512 + 1 * r.val = (512 * (t.val / 11) + r.val) % 16384; rw [(idx0 t).1]; omega
  | ⟨1, _⟩ => show win0_0.index t 1 * 2048 + 1 * k.val = k.val; rw [(idx0 t).2]; omega

theorem blk1 (t : Fin cfg0.N) (k : Fin 2048) :
    (iblk m c 1 t : Vec Ideal S1x2048 .f32) (ix2 0 k) = gS m c k := by
  unfold iblk
  rw [View.read_apply]
  have e : (V m c main_v1 : Vec Ideal S1x2048 .f32) (ix2 0 k) = gS m c k := V_v1_at m c k
  rw [← e]
  show (V m c main_v1 : Vec Ideal S1x2048 .f32) _ = _
  congr 1
  funext a
  apply Fin.ext
  match a with
  | ⟨0, _⟩ => show win0_1.index t 0 * 1 + 1 * 0 = 0; rw [(idx1 t).1]
  | ⟨1, _⟩ => show win0_1.index t 1 * 2048 + 1 * k.val = k.val; rw [(idx1 t).2]; omega

theorem blk2 (t : Fin cfg0.N) (k : Fin 2048) (e : Fin 512) :
    (iblk m c 2 t : Vec Ideal S2048x512 .bf16) (ix2 k e) = wG m c k (Cert.Ffn.col (t.val % 11) e) := by
  have he := e.isLt
  unfold iblk
  rw [View.read_apply]
  have h : (V m c main_v2 : Vec Ideal S2048x5632 .bf16) (ix2 k (Cert.Ffn.col (t.val % 11) e)) = wG m c k (Cert.Ffn.col (t.val % 11) e) := by
    rw [V_v2]; rfl
  rw [← h]
  show (V m c main_v2 : Vec Ideal S2048x5632 .bf16) _ = _
  congr 1
  funext a
  apply Fin.ext
  match a with
  | ⟨0, _⟩ => show win0_2.index t 0 * 2048 + 1 * k.val = k.val; rw [(idx2 t).1]; omega
  | ⟨1, _⟩ => show win0_2.index t 1 * 512 + 1 * e.val = (512 * (t.val % 11) + e.val) % 5632; rw [(idx2 t).2]; omega

theorem blk3 (t : Fin cfg0.N) (k : Fin 2048) (e : Fin 512) :
    (iblk m c 3 t : Vec Ideal S2048x512 .bf16) (ix2 k e) = wU m c k (Cert.Ffn.col (t.val % 11) e) := by
  have he := e.isLt
  unfold iblk
  rw [View.read_apply]
  have h : (V m c main_v3 : Vec Ideal S2048x5632 .bf16) (ix2 k (Cert.Ffn.col (t.val % 11) e)) = wU m c k (Cert.Ffn.col (t.val % 11) e) := by
    rw [V_v3]; rfl
  rw [← h]
  show (V m c main_v3 : Vec Ideal S2048x5632 .bf16) _ = _
  congr 1
  funext a
  apply Fin.ext
  match a with
  | ⟨0, _⟩ => show win0_3.index t 0 * 2048 + 1 * k.val = k.val; rw [(idx3 t).1]; omega
  | ⟨1, _⟩ => show win0_3.index t 1 * 512 + 1 * e.val = (512 * (t.val % 11) + e.val) % 5632; rw [(idx3 t).2]; omega

theorem blk4 (t : Fin cfg0.N) (e : Fin 512) (o : Fin 2048) :
    (iblk m c 4 t : Vec Ideal S512x2048 .bf16) (ix2 e o) = wD m c (Cert.Ffn.col (t.val % 11) e) o := by
  have he := e.isLt
  unfold iblk
  rw [View.read_apply]
  have h : (V m c main_v4 : Vec Ideal S5632x2048 .bf16) (ix2 (Cert.Ffn.col (t.val % 11) e) o) = wD m c (Cert.Ffn.col (t.val % 11) e) o := by
    rw [V_v4]; rfl
  rw [← h]
  show (V m c main_v4 : Vec Ideal S5632x2048 .bf16) _ = _
  congr 1
  funext a
  apply Fin.ext
  match a with
  | ⟨0, _⟩ => show win0_4.index t 0 * 512 + 1 * e.val = (512 * (t.val % 11) + e.val) % 5632; rw [(idx4 t).1]; omega
  | ⟨1, _⟩ => show win0_4.index t 1 * 2048 + 1 * o.val = o.val; rw [(idx4 t).2]; omega

/-! ## The points in order -/

/-- The normalised row `512 q + r`, and block `f`'s part of its down product. -/
abbrev nrm (q : ℕ) (r : Fin 512) (k : Fin 2048) : EReal := Cert.Ffn.normed (X m c (Cert.Ffn.row q r)) (gS m c) k
abbrev prt (q : ℕ) (r : Fin 512) (f : ℕ) (o : Fin 2048) : EReal :=
  Cert.Ffn.part (wG m c) (wU m c) (wD m c) (nrm m c q r) f o

/-- One point's update of the running sum. -/
theorem step_at (t : Fin cfg0.N) (n : Vec Ideal S512x2048 .bf16) (acc : Vec Ideal S512x2048 .f32) (q : ℕ) (r : Fin 512)
    (hn : ∀ k, n (ix2 r k) = nrm m c q r k) (o : Fin 2048) :
    k0_pay3 (F := Ideal) n (iblk m c 2 t) (iblk m c 3 t) acc (iblk m c 4 t) (ix2 r o)
      = acc (ix2 r o) + prt m c q r (t.val % 11) o := by
  rw [pay3_at]
  simp only [hn, blk2, blk3, blk4]
  rfl

/-- After point `t` of run `t / 11`: the kept rows, and the sum of the parts of blocks `0 … t % 11`. -/
theorem state_at : ∀ (t : ℕ) (ht : t < cfg0.N),
    (∀ r k, (outsAt0 m c t ht).2.1 (ix2 r k) = nrm m c (t / 11) r k)
      ∧ ∀ r o, (outsAt0 m c t ht).2.2 (ix2 r o) = ∑ f ∈ Finset.range (t % 11 + 1), prt m c (t / 11) r f o := by
  have first : ∀ (t : ℕ) (ht : t < cfg0.N) (acc), t % 11 = 0 →
      (∀ r k, (stAt0 m c t ht acc).2.1 (ix2 r k) = nrm m c (t / 11) r k)
      ∧ ∀ r o, (stAt0 m c t ht acc).2.2 (ix2 r o) = ∑ f ∈ Finset.range (t % 11 + 1), prt m c (t / 11) r f o := by
    intro t ht acc h0
    rw [stAt0_A m c ⟨t, ht⟩ acc h0 (by show ¬ t % 11 = 10; omega)]
    have rows : ∀ r k, k0_pay1 (F := Ideal) (iblk m c 0 ⟨t, ht⟩) (iblk m c 1 ⟨t, ht⟩) (ix2 r k) = nrm m c (t / 11) r k := by
      intro r k
      rw [pay1_at]
      simp only [blk0, blk1]
    refine ⟨fun r k => ?_, fun r o => ?_⟩
    · dsimp only
      rw [rows_A]
      exact rows r k
    · dsimp only
      rw [sum_A, step_at m c _ _ _ (t / 11) r (rows r), pay2_at, zero_add]
      dsimp only
      rw [h0, Finset.sum_range_one]
  intro t
  induction t with
  | zero =>
    intro ht
    rw [outsAt0_zero]
    exact first 0 ht _ rfl
  | succ t ih =>
    intro ht
    rw [outsAt0_succ]
    obtain ⟨ih1, ih2⟩ := ih (Nat.lt_of_succ_lt ht)
    by_cases h0 : (t + 1) % 11 = 0
    · exact first _ ht _ h0
    · have hq : (t + 1) / 11 = t / 11 := by omega
      have hf : (t + 1) % 11 = t % 11 + 1 := by omega
      generalize outsAt0 m c t (Nat.lt_of_succ_lt ht) = s at ih1 ih2 ⊢
      have sum : ∀ r o, k0_pay3 (F := Ideal) s.2.1 (iblk m c 2 ⟨t + 1, ht⟩) (iblk m c 3 ⟨t + 1, ht⟩) s.2.2 (iblk m c 4 ⟨t + 1, ht⟩) (ix2 r o)
          = ∑ f ∈ Finset.range ((t + 1) % 11 + 1), prt m c ((t + 1) / 11) r f o := by
        intro r o
        rw [step_at m c _ _ _ (t / 11) r (ih1 r), ih2, hq, Finset.sum_range_succ _ ((t + 1) % 11), hf]
      by_cases h1 : (t + 1) % 11 = 10
      · rw [stAt0_C m c ⟨t + 1, ht⟩ s h0 h1]
        refine ⟨fun r k => ?_, fun r o => ?_⟩
        · dsimp only
          rw [hq, rows_C]
          exact ih1 r k
        · dsimp only
          rw [sum_C]
          exact sum r o
      · rw [stAt0_B m c ⟨t + 1, ht⟩ s h0 h1]
        refine ⟨fun r k => ?_, fun r o => ?_⟩
        · dsimp only
          rw [hq, rows_B]
          exact ih1 r k
        · dsimp only
          rw [sum_B]
          exact sum r o

/-- What the last point of run `q` writes. -/
theorem out_at (t : ℕ) (ht : t < cfg0.N) (h : t % 11 = 10) (r : Fin 512) (o : Fin 2048) :
    (outsAt0 m c t ht).1 (ix2 r o)
      = Cert.Ffn.layer (X m c (Cert.Ffn.row (t / 11) r)) (gS m c) (wG m c) (wU m c) (wD m c) o := by
  obtain ⟨p, rfl⟩ : ∃ p, t = p + 1 := ⟨t - 1, by omega⟩
  obtain ⟨s1, s2⟩ := state_at m c p (Nat.lt_of_succ_lt ht)
  have hq : (p + 1) / 11 = p / 11 := by omega
  have hf : (p + 1) % 11 = p % 11 + 1 := by omega
  have hp : p % 11 + 1 = 10 := by omega
  rw [outsAt0_succ, Cert.Ffn.layer_blocks]
  generalize outsAt0 m c p (Nat.lt_of_succ_lt ht) = s at s1 s2 ⊢
  rw [stAt0_C m c ⟨p + 1, ht⟩ s (by show ¬ (p + 1) % 11 = 0; omega) h]
  dsimp only
  rw [out_C, pay4_at, step_at m c _ _ _ (p / 11) r (s1 r), s2, blk0]
  dsimp only
  rw [hq, hf, hp, Finset.sum_range_succ _ 10]

/-- The result array. -/
theorem G5_at (R : Fin 16384) (o : Fin 2048) :
    G5 m c (ix2 R o) = Cert.Ffn.layer (X m c R) (gS m c) (wG m c) (wU m c) (wD m c) o := by
  have hR := R.isLt
  have ho := o.isLt
  have hrun : run5Of (ix2 R o) = R.val / 512 := by
    show 1 * (R.val / 512 - 0) + 1 * (o.val / 2048 - 0) = R.val / 512
    omega
  have hpt : pt5Of (ix2 R o) = 11 * (R.val / 512) + 10 := by rw [← hrun]
  have hlt : pt5Of (ix2 R o) < cfg0.N := by rw [hpt, show cfg0.N = 352 from N_0]; omega
  have hloc : loc5Of (ix2 R o) = ix2 ⟨R.val % 512, by omega⟩ o := by
    funext a
    apply Fin.ext
    match a with
    | ⟨0, _⟩ => rfl
    | ⟨1, _⟩ => show o.val % 2048 = o.val; omega
  unfold G5
  rw [dif_pos hlt, ← outsAt0_sweep m c _ hlt, hloc, out_at m c _ hlt (by rw [hpt]; omega)]
  congr 2
  apply Fin.ext
  show (512 * (pt5Of (ix2 R o) / 11) + R.val % 512) % 16384 = R.val
  rw [hpt]
  omega

end Cert.Kernel2Ideal.Ffn

end
-- ==== Proof.FfnReference.lean ====
/-
  The feed-forward reference at an index: row by row it is the layer of FfnSpec.
-/
module

public import proofs.«01_k».proof.Proof.FfnSpec
public import proofs.«01_k».proof.Proof.Gen.Reference2Ideal.Read
public import Idealize.ShloMosaic.Lib.Pointwise

@[expose] public section

noncomputable section

open Idealize.ShloMosaic Idealize.ShloMosaic.TcCoe Idealize.SL.Sem

namespace Cert.Reference2Ideal.Ffn

open Cert.Reference2Ideal Cert.Reference2Ideal.Gen Cert.Reference2Ideal.Read

variable (x0 : (⟨S2x8192x2048, .f32⟩ : BufTy).Contents (Elt Ideal)) (x1 : (⟨S2048, .f32⟩ : BufTy).Contents (Elt Ideal))
  (x2 x3 : (⟨S2048x5632, .f32⟩ : BufTy).Contents (Elt Ideal)) (x4 : (⟨S5632x2048, .f32⟩ : BufTy).Contents (Elt Ideal))

/-- The normalised rows. -/
theorem normed_at (b : Fin 2) (s : Fin 8192) (k : Fin 2048) :
    val_main_v12 (F := Ideal) x0 x1 (ix3 b s k) = Cert.Ffn.normed (fun j => x0 (ix3 b s j)) (fun j => x1 (ix1 j)) k := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  rfl

/-- The gated hidden columns. -/
theorem hidden_at (b : Fin 2) (s : Fin 8192) (e : Fin 5632) :
    val_main_v16 (F := Ideal) x0 x1 x2 x3 (ix3 b s e)
      = Cert.Ffn.hidden (fun k j => x2 (ix2 k j)) (fun k j => x3 (ix2 k j))
          (fun k => val_main_v12 (F := Ideal) x0 x1 (ix3 b s k)) e := by
  pointwise [val_main_v16, val_main_v15, val_main_v14, val_main_v13, val_main_call0_v5, val_main_call0_v4, val_main_call0_v3,
    val_main_call0_v2, val_main_call0_v1, val_main_call0_v0, val_main_call0_cst, val_main_call0_cst_0]
  rfl

/-- The result. -/
theorem result_at (R : Fin 16384) (o : Fin 2048) :
    val_main_v21 (F := Ideal) x0 x1 x2 x3 x4 (ix2 R o)
      = Cert.Ffn.layer (fun j => x0 (ix3 ⟨R.val / 8192, by omega⟩ ⟨R.val % 8192, by omega⟩ j)) (fun j => x1 (ix1 j))
          (fun k j => x2 (ix2 k j)) (fun k j => x3 (ix2 k j)) (fun k j => x4 (ix2 k j)) o := by
  pointwise [val_main_v21, val_main_v20, val_main_v19, val_main_v18, val_main_v17, val_main_cst_2, hidden_at, normed_at]
  rfl

end Cert.Reference2Ideal.Ffn

end
-- ==== Proof.FfnClaim.lean ====
/-
  The feed-forward claim: run from memories that agree on the arguments, the kernel and the reference end with the
  same result array and leave the arguments as they were.
-/
module

public import proofs.«01_k».proof.Defs
public import proofs.«01_k».proof.Proof.FfnValue
public import proofs.«01_k».proof.Proof.FfnReference
public import proofs.«01_k».proof.Proof.Gen.Kernel2Ideal
public import proofs.«01_k».proof.Proof.Gen.Reference2Ideal

@[expose] public section

noncomputable section

open Idealize.ShloMosaic Idealize.ShloMosaic.TcCoe Idealize.SL.Sem

namespace Cert.FfnClaim

/-- The two result arrays are one. -/
theorem result_eq (m : (ℓ : Loc Cert.Kernel2Ideal.nD Cert.Kernel2Ideal.τ Cert.Kernel2Ideal.sig) → Buf (Elt Ideal) ℓ)
    (c : Dev Cert.Kernel2Ideal.nD) :
    (Cert.Reference2Ideal.Read.val_main_v21 (F := Ideal)
      (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4)))
      = Cert.Kernel2Ideal.Value.G5 (F := Ideal) m c := by
  funext j
  obtain ⟨R, o, rfl⟩ : ∃ (R : Fin 16384) (o : Fin 2048), j = ix2 R o := ⟨j 0, j 1, eq_ix2 j⟩
  rw [Cert.Reference2Ideal.Ffn.result_at]
  exact (Cert.Kernel2Ideal.Ffn.G5_at m c R o).symm

theorem algebraic : Cert.algebraic_Kernel2Ideal_Reference2Ideal
    (hKernel2Ideal := Cert.Kernel2Ideal.Gen.facts) (hReference2Ideal := Cert.Reference2Ideal.Gen.facts) := by
  intro m ρ m' ρ' _ hagree
  refine ⟨fun c => Cert.Kernel2Ideal.Value.G5 (F := Ideal) m c, Cert.Kernel2Ideal.Value.run m ρ, ?_⟩
  refine (θ_run _ _ _).mono (fun r h c => ?_) (Cert.Reference2Ideal.Value.run (F := Ideal) m' ρ')
  obtain ⟨h0, h1, h2, h3, h4⟩ := hagree c
  refine ⟨(h c).1.trans ?_, (h c).2⟩
  rw [h0, h1, h2, h3, h4]
  exact result_eq m c

end Cert.FfnClaim

end
-- ==== Proof.SbSpec.lean ====
/-
  The attention over the cache, one query at a time, on real scores. Keys are numbered from the oldest; a query sees
  the keys before its own position. Going from the newest key to the oldest, a key takes the share `sigmoid z` of what
  the newer keys have left. The module states the weights by logarithms, as the reference does, and shows that the
  kernel's base-two sums over blocks of 256 keys are these.
-/
module

public import Idealize.ShloMosaic.Lib.Pointwise

@[expose] public section

noncomputable section

open Idealize.ShloMosaic

namespace Cert.Sb

/-- The factor from natural logarithms to logarithms to base two. -/
def L : ℝ := (Real.log 2)⁻¹

/-- The logarithm of the logistic function. -/
def lsg (x : ℝ) : ℝ := min x 0 - Real.log (1 + Real.exp (-|x|))

theorem L_pos : 0 < L := inv_pos.mpr (Real.log_pos (by norm_num))

theorem lsg_neg (x : ℝ) : lsg (-x) = lsg x - x := by
  unfold lsg
  rw [abs_neg]
  rcases le_total x 0 with h | h
  · rw [min_eq_left h, min_eq_right (by linarith)]; ring
  · rw [min_eq_right h, min_eq_left (by linarith)]; ring

theorem rpow_two_L (x : ℝ) : Real.rpow 2 (L * x) = Real.exp x := by
  show (2 : ℝ) ^ (L * x) = _
  rw [Real.rpow_def_of_pos (by norm_num)]
  congr 1
  have : Real.log 2 ≠ 0 := (Real.log_pos (by norm_num)).ne'
  unfold L
  field_simp

/-! ## The two spellings of the logarithm -/

theorem max_neg_coe (x : ℝ) : max (x : EReal) (-(x : EReal)) = ((|x| : ℝ) : EReal) := by
  rw [← EReal.coe_neg, abs_eq_max_neg]
  exact (EReal.coe_strictMono.monotone.map_max).symm

theorem one_add_exp_pos (x : ℝ) : 0 < 1 + Real.exp x := by positivity

theorem log_coe_pos {x : ℝ} (h : 0 < x) : Ideal.log (x : EReal) = ((Real.log x : ℝ) : EReal) := by
  rw [Ideal.log_coe, if_neg (not_le.mpr h)]

/-- The kernel's, to base two. -/
def takeE (z : EReal) : EReal := min z 0 - Ideal.log (1 + Ideal.exp2 (0 - max z (-z))) * ((L : ℝ) : EReal)

theorem takeE_coe (x : ℝ) : takeE ((L * x : ℝ) : EReal) = ((L * lsg x : ℝ) : EReal) := by
  unfold takeE lsg
  rw [max_neg_coe, abs_mul, abs_of_pos L_pos, ← EReal.coe_zero, ← EReal.coe_sub, Ideal.exp2_coe,
    show (0 - L * |x|) = L * (-|x|) by ring, rpow_two_L, ← EReal.coe_one, ← EReal.coe_add, log_coe_pos (one_add_exp_pos _),
    ← EReal.coe_mul, ← EReal.coe_strictMono.monotone.map_min, ← EReal.coe_sub]
  congr 1
  rw [mul_sub]
  congr 1
  · rcases le_total x 0 with h | h
    · rw [min_eq_left h, min_eq_left (mul_nonpos_of_nonneg_of_nonpos L_pos.le h)]
    · rw [min_eq_right h, min_eq_right (mul_nonneg L_pos.le h), mul_zero]
  · ring

/-- The reference's. -/
def lsE (z : EReal) : EReal := -(max (-z) 0 + Ideal.log1p (Ideal.exp (-(max (-z - 0) (-(-z - 0))))))

theorem lsE_coe (x : ℝ) : lsE (x : EReal) = ((lsg x : ℝ) : EReal) := by
  unfold lsE lsg Ideal.log1p
  rw [← EReal.coe_neg, ← EReal.coe_zero, ← EReal.coe_sub, max_neg_coe, ← EReal.coe_neg, Ideal.exp_coe, ← EReal.coe_one,
    ← EReal.coe_add, log_coe_pos (one_add_exp_pos _), ← EReal.coe_strictMono.monotone.map_max, ← EReal.coe_add, ← EReal.coe_neg]
  congr 1
  rw [sub_zero, abs_neg]
  rcases le_total x 0 with h | h
  · rw [min_eq_left h, max_eq_left (by linarith)]; ring
  · rw [min_eq_right h, max_eq_right (by linarith)]; ring

/-! ## One query -/

section Query

variable (z : ℕ → ℝ) (r : ℕ)

/-- The logarithm of what a key leaves. -/
def keepR (p : ℕ) : ℝ := if p < 4096 + r then lsg (z p) - z p else 0

/-- The logarithm of what the keys from `p` on leave. -/
def fromR (p : ℕ) : ℝ := ∑ q ∈ Finset.Ico p 4352, keepR z r q

/-- A key's weight. -/
def wR (p : ℕ) : ℝ := if p < 4096 + r then Real.exp (lsg (z p) + fromR z r (p + 1)) else 0

variable (v : ℕ → EReal)

/-- What the query reads from the keys from `p` on. -/
def outR (p : ℕ) : EReal := ∑ q ∈ Finset.Ico p 4352, ((wR z r q : ℝ) : EReal) * v q

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem sum_block {M : Type} [AddCommMonoid M] (s : ℕ) (f : ℕ → M) : ∑ c : Fin 256, f (s + c.val) = ∑ q ∈ Finset.Ico s (s + 256), f q := by
  rw [Finset.sum_Ico_eq_sum_range, Nat.add_sub_cancel_left, Finset.sum_range]

/-- The sum to the right of a key, in its block. -/
theorem sum_after (s : ℕ) (c : Fin 256) (f : ℕ → ℝ) :
    ∑ k : Fin 256, f (s + k.val) * (if c < k then 1 else 0) = ∑ q ∈ Finset.Ico (s + c.val + 1) (s + 256), f q := by
  have h := sum_block s (fun q => f q * (if s + c.val < q then (1 : ℝ) else 0))
  have h2 : ∑ k : Fin 256, f (s + k.val) * (if c < k then (1 : ℝ) else 0) = ∑ k : Fin 256, f (s + k.val) * (if s + c.val < s + k.val then (1 : ℝ) else 0) := by
    refine Finset.sum_congr rfl fun k _ => ?_
    congr 1
    simp only [Fin.lt_def, Nat.add_lt_add_iff_left]
  rw [h2, h, ← Finset.sum_Ico_consecutive _ (show s ≤ s + c.val + 1 by omega) (show s + c.val + 1 ≤ s + 256 by omega)]
  rw [Finset.sum_eq_zero (fun q hq => by rw [Finset.mem_Ico] at hq; rw [if_neg (by omega), mul_zero]), zero_add]
  refine Finset.sum_congr rfl fun q hq => ?_
  rw [Finset.mem_Ico] at hq
  rw [if_pos (by omega), mul_one]

/-- The constant matrix: ones below the diagonal of its first 256 columns, ones in the others. -/
def ueE (k : Fin 256) (c : Fin 384) : EReal := if c.val < 256 then (if c.val < k.val then 1 else 0) else 1

theorem ueE_coe (k : Fin 256) (c : Fin 384) : ueE k c = (((if c.val < 256 then (if c.val < k.val then 1 else 0) else 1) : ℝ) : EReal) := by
  unfold ueE
  split
  · split <;> simp
  · simp

/-- A block's sums against the constant matrix, and the weights from them. -/
theorem block_after (s : ℕ) (hs : s + 256 ≤ 4352) (g : Fin 256 → EReal) (hg : ∀ k, g k = ((L * keepR z r (s + k.val) : ℝ) : EReal)) (c : Fin 256) :
    (∑ k, g k * ueE k ⟨c.val, by omega⟩) + ((L * fromR z r (s + 256) : ℝ) : EReal) = ((L * fromR z r (s + c.val + 1) : ℝ) : EReal) := by
  have h : ∀ k, g k * ueE k ⟨c.val, by omega⟩ = ((L * (keepR z r (s + k.val) * (if c < k then 1 else 0)) : ℝ) : EReal) := by
    intro k
    rw [hg, ueE_coe, if_pos c.isLt, ← EReal.coe_mul, mul_assoc]
    rfl
  rw [Finset.sum_congr rfl (fun k _ => h k), ← coe_sum, ← Finset.mul_sum, sum_after, ← EReal.coe_add, ← mul_add]
  unfold fromR
  rw [Finset.sum_Ico_consecutive _ (by omega) hs]

theorem block_total (s : ℕ) (hs : s + 256 ≤ 4352) (g : Fin 256 → EReal) (hg : ∀ k, g k = ((L * keepR z r (s + k.val) : ℝ) : EReal))
    (c : Fin 384) (hc : 256 ≤ c.val) :
    ((L * fromR z r (s + 256) : ℝ) : EReal) + (∑ k, g k * ueE k c) = ((L * fromR z r s : ℝ) : EReal) := by
  have h : ∀ k, g k * ueE k c = ((L * keepR z r (s + k.val) : ℝ) : EReal) := by
    intro k
    rw [hg, ueE_coe, if_neg (by omega), ← EReal.coe_mul, mul_one]
  rw [Finset.sum_congr rfl (fun k _ => h k), ← coe_sum, ← Finset.mul_sum, sum_block s (keepR z r), ← EReal.coe_add, ← mul_add]
  unfold fromR
  rw [add_comm, Finset.sum_Ico_consecutive _ (by omega) hs]

theorem exp2_weight (p : ℕ) (x : ℝ) : Ideal.exp2 (((L * lsg x : ℝ) : EReal) + ((L * fromR z r p : ℝ) : EReal)) = ((Real.exp (lsg x + fromR z r p) : ℝ) : EReal) := by
  rw [← EReal.coe_add, ← mul_add, Ideal.exp2_coe, rpow_two_L]

theorem out_block (s : ℕ) (hs : s + 256 ≤ 4352) :
    outR z r v (s + 256) + ∑ c : Fin 256, ((wR z r (s + c.val) : ℝ) : EReal) * v (s + c.val) = outR z r v s := by
  rw [sum_block s (fun q => ((wR z r q : ℝ) : EReal) * v q), add_comm]
  unfold outR
  rw [Finset.sum_Ico_consecutive _ (by omega) hs]

end Query

end Cert.Sb

end
-- ==== Proof.SbReference.lean ====
/-
  The attention's reference at an index: every query reads the weighted values of SbSpec, from the scores of its
  products with the keys.
-/
module

public import proofs.«01_k».proof.Proof.SbSpec
public import proofs.«01_k».proof.Proof.Gen.ReferenceIdeal.Read
public import Idealize.ShloMosaic.Lib.Pointwise

@[expose] public section

noncomputable section

open Idealize.ShloMosaic Idealize.ShloMosaic.TcCoe Idealize.SL.Sem

/-! ## The keys, the values and the scores, from the arguments -/

namespace Cert.Sb

abbrev Rows := (⟨3, ![32, 64, 10752]⟩ : Shape).Idx → EReal
abbrev Cache := (⟨4, ![32, 4096, 16, 64]⟩ : Shape).Idx → EReal

/-- Column `off + 64 h + d` of the projections. -/
def colOf (off : ℕ) (ho : off ≤ 2048) (h : Fin 16) (d : Fin 64) : Fin 10752 := ⟨off + 64 * h.val + d.val, by omega⟩

/-- Entry `d` of key (or value) `p`: of the cache, or of the tokens' own; none after them. -/
def entry (off : ℕ) (ho : off ≤ 2048) (x : Rows) (y : Cache) (n : Fin 32) (h : Fin 16) (d : Fin 64) (p : ℕ) : EReal :=
  if hp : p < 4096 then y (ix4 n ⟨p, hp⟩ h d)
  else if hq : p < 4160 then x (ix3 n ⟨p - 4096, by omega⟩ (colOf off ho h d)) else 0

/-- The score of query `r` against key `p`. -/
def scoreE (x : Rows) (y : Cache) (n : Fin 32) (h : Fin 16) (r : Fin 64) (p : ℕ) : EReal :=
  (∑ d : Fin 64, x (ix3 n r (colOf 0 (by omega) h d)) * entry 1024 (by omega) x y n h d p) * ((1 / 8 : ℝ) : EReal)

def scoreR (x : Rows) (y : Cache) (n : Fin 32) (h : Fin 16) (r : Fin 64) (p : ℕ) : ℝ := (scoreE x y n h r p).toReal

/-- The queries, the keys and the cached keys are finite. -/
def Finite (x : Rows) (y : Cache) : Prop :=
  (∀ (n : Fin 32) (r : Fin 64) (k : Fin 10752), k.val < 2048 → x (ix3 n r k) ≠ ⊤ ∧ x (ix3 n r k) ≠ ⊥) ∧ ∀ j, y j ≠ ⊤ ∧ y j ≠ ⊥

variable {x : Rows} {y : Cache} (hf : Finite x y)

include hf in
theorem query_coe (n : Fin 32) (h : Fin 16) (r d : Fin 64) :
    x (ix3 n r (colOf 0 (by omega) h d)) = (((x (ix3 n r (colOf 0 (by omega) h d))).toReal : ℝ) : EReal) := by
  have := hf.1 n r (colOf 0 (by omega) h d) (by show 0 + 64 * h.val + d.val < 2048; omega)
  exact (EReal.coe_toReal this.1 this.2).symm

include hf in
theorem entry_coe (n : Fin 32) (h : Fin 16) (d : Fin 64) (p : ℕ) :
    entry 1024 (by omega) x y n h d p = (((entry 1024 (by omega) x y n h d p).toReal : ℝ) : EReal) := by
  unfold entry
  split
  · exact (EReal.coe_toReal (hf.2 _).1 (hf.2 _).2).symm
  · split
    · have := hf.1 n ⟨p - 4096, by omega⟩ (colOf 1024 (by omega) h d) (by show 1024 + 64 * h.val + d.val < 2048; omega)
      exact (EReal.coe_toReal this.1 this.2).symm
    · simp

include hf in
theorem scoreE_eq (n : Fin 32) (h : Fin 16) (r : Fin 64) (p : ℕ) :
    scoreE x y n h r p = (((∑ d : Fin 64, (x (ix3 n r (colOf 0 (by omega) h d))).toReal * (entry 1024 (by omega) x y n h d p).toReal) * (1 / 8) : ℝ) : EReal) := by
  unfold scoreE
  rw [EReal.coe_mul, coe_sum]
  congr 1
  refine Finset.sum_congr rfl fun d _ => ?_
  rw [EReal.coe_mul, ← query_coe hf, ← entry_coe hf]

include hf in
theorem scoreE_coe (n : Fin 32) (h : Fin 16) (r : Fin 64) (p : ℕ) : scoreE x y n h r p = ((scoreR x y n h r p : ℝ) : EReal) := by
  unfold scoreR
  rw [scoreE_eq hf, EReal.toReal_coe]

include hf in
/-- The kernel's scores, of the scaled queries. -/
theorem score_scaled (n : Fin 32) (h : Fin 16) (r : Fin 64) (p : ℕ) :
    ∑ d : Fin 64, x (ix3 n r (colOf 0 (by omega) h d)) * ((1 / 8 * L : ℝ) : EReal) * entry 1024 (by omega) x y n h d p
      = ((L * scoreR x y n h r p : ℝ) : EReal) := by
  have e : scoreR x y n h r p = (∑ d : Fin 64, (x (ix3 n r (colOf 0 (by omega) h d))).toReal * (entry 1024 (by omega) x y n h d p).toReal) * (1 / 8) := by
    unfold scoreR
    rw [scoreE_eq hf, EReal.toReal_coe]
  have t : ∀ d : Fin 64, x (ix3 n r (colOf 0 (by omega) h d)) * ((1 / 8 * L : ℝ) : EReal) * entry 1024 (by omega) x y n h d p
      = (((x (ix3 n r (colOf 0 (by omega) h d))).toReal * (1 / 8 * L) * (entry 1024 (by omega) x y n h d p).toReal : ℝ) : EReal) := by
    intro d
    rw [EReal.coe_mul _ (EReal.toReal _), EReal.coe_mul (EReal.toReal _) _, ← query_coe hf, ← entry_coe hf]
  rw [Finset.sum_congr rfl (fun d _ => t d), ← coe_sum, e]
  congr 1
  rw [Finset.sum_mul, Finset.mul_sum]
  refine Finset.sum_congr rfl fun d _ => ?_
  ring

/-- The result. -/
def result (x : Rows) (y v : Cache) (n : Fin 32) (h : Fin 16) (r d : Fin 64) : EReal :=
  outR (scoreR x y n h r) r.val (entry 2048 (by omega) x v n h d) 0

end Cert.Sb

/-! ## A sum over windows -/

namespace Cert.ReferenceIdeal.Sb

open Cert.ReferenceIdeal Cert.ReferenceIdeal.Gen Cert.ReferenceIdeal.Read Cert.Sb

theorem slt_ofNat (a b : ℕ) (ha : a < 2 ^ 31) (hb : b < 2 ^ 31) :
    IntOp.cmpi .slt (BitVec.ofNat 32 a) (BitVec.ofNat 32 b) = if a < b then 1#1 else 0#1 := by
  have e : ∀ n < 2 ^ 31, (BitVec.ofNat 32 n).toInt = (n : ℤ) := by
    intro n hn
    rw [BitVec.toInt_eq_toNat_of_lt (by rw [BitVec.toNat_ofNat]; omega), BitVec.toNat_ofNat, Nat.mod_eq_of_lt (by omega)]
  show BitVec.ofBool (BitVec.slt _ _) = _
  rw [BitVec.slt, e a ha, e b hb]
  by_cases h : a < b
  · simp [h]
  · simp [h]

theorem foldl_add {ι : Type} (l : List ι) (f : ι → EReal) (a : EReal) : l.foldl (fun r n => r + f n) a = a + (l.map f).sum := by
  induction l generalizing a with
  | nil => simp
  | cons b l ih => rw [List.foldl_cons, ih, List.map_cons, List.sum_cons, add_assoc]

/-- The window's indices are the offsets along its last axis. -/
def offsets : Fin 4160 ≃ (⟨4, ![1, 1, 1, 4160]⟩ : Shape).Idx where
  toFun k := ix4 (0 : Fin 1) (0 : Fin 1) (0 : Fin 1) k
  invFun w := w 3
  left_inv _ := rfl
  right_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

theorem window_at (g : Vec Ideal S32x16x64x4160 .f32) (a0 : Vec Ideal S_ .f32) (n : Fin 32) (h : Fin 16) (r : Fin 64) (p : Fin 4160) :
    Host.reduceWindowAdd (F := Ideal) (φ := .f32) ![1, 1, 1, 4160] ![1, 1, 1, 1] ![0, 0, 0, 0] ![0, 0, 0, 4159] g a0
      reduceWindows_S32x16x64x4160_S32x16x64x4160_w1s1p0_0_w1s1p0_0_w1s1p0_0_w4160s1p0_4159 h_S_ (ix4 n h r p)
      = a0 (Shape.Idx.first h_S_) + ∑ k : Fin 4160, if hk : p.val + k.val < 4160 then g (ix4 n h r ⟨p.val + k.val, hk⟩) else a0 (Shape.Idx.first h_S_) := by
  generalize hw : a0 (Shape.Idx.first h_S_) = w0
  unfold Host.reduceWindowAdd
  rw [hw]
  show Ideal.hostReduceWindowAdd ![1, 1, 1, 4160] ![1, 1, 1, 1] ![0, 0, 0, 0] ![0, 0, 0, 4159]
    reduceWindows_S32x16x64x4160_S32x16x64x4160_w1s1p0_0_w1s1p0_0_w1s1p0_0_w4160s1p0_4159 g w0 (ix4 n h r p) = _
  unfold Ideal.hostReduceWindowAdd Host.reduceWindow
  dsimp only
  rw [foldl_add, ← Fin.sum_univ_def]
  congr 1
  refine Fintype.sum_equiv ((Shape.rowMajor (⟨4, ![1, 1, 1, 4160]⟩ : Shape)).symm.trans offsets.symm) _ _ fun nn => ?_
  have o0 : (((Shape.rowMajor (⟨4, ![1, 1, 1, 4160]⟩ : Shape)).symm nn) 0).val = 0 := by
    have := (((Shape.rowMajor (⟨4, ![1, 1, 1, 4160]⟩ : Shape)).symm nn) 0).isLt
    change _ < 1 at this
    omega
  have o1 : (((Shape.rowMajor (⟨4, ![1, 1, 1, 4160]⟩ : Shape)).symm nn) 1).val = 0 := by
    have := (((Shape.rowMajor (⟨4, ![1, 1, 1, 4160]⟩ : Shape)).symm nn) 1).isLt
    change _ < 1 at this
    omega
  have o2 : (((Shape.rowMajor (⟨4, ![1, 1, 1, 4160]⟩ : Shape)).symm nn) 2).val = 0 := by
    have := (((Shape.rowMajor (⟨4, ![1, 1, 1, 4160]⟩ : Shape)).symm nn) 2).isLt
    change _ < 1 at this
    omega
  show _ = if hk : p.val + (((Shape.rowMajor (⟨4, ![1, 1, 1, 4160]⟩ : Shape)).symm nn) 3).val < 4160 then g (ix4 n h r ⟨p.val + (((Shape.rowMajor (⟨4, ![1, 1, 1, 4160]⟩ : Shape)).symm nn) 3).val, hk⟩) else w0
  by_cases hk : p.val + (((Shape.rowMajor (⟨4, ![1, 1, 1, 4160]⟩ : Shape)).symm nn) 3).val < 4160
  · rw [dif_pos hk]
    refine (dif_pos ?_).trans ?_
    · intro a
      match a with
      | ⟨0, _⟩ => refine ⟨Nat.zero_le _, ?_⟩; show n.val * 1 + (((Shape.rowMajor (⟨4, ![1, 1, 1, 4160]⟩ : Shape)).symm nn) 0).val - 0 < 32; omega
      | ⟨1, _⟩ => refine ⟨Nat.zero_le _, ?_⟩; show h.val * 1 + (((Shape.rowMajor (⟨4, ![1, 1, 1, 4160]⟩ : Shape)).symm nn) 1).val - 0 < 16; omega
      | ⟨2, _⟩ => refine ⟨Nat.zero_le _, ?_⟩; show r.val * 1 + (((Shape.rowMajor (⟨4, ![1, 1, 1, 4160]⟩ : Shape)).symm nn) 2).val - 0 < 64; omega
      | ⟨3, _⟩ => refine ⟨Nat.zero_le _, ?_⟩; show p.val * 1 + (((Shape.rowMajor (⟨4, ![1, 1, 1, 4160]⟩ : Shape)).symm nn) 3).val - 0 < 4160; omega
    · congr 1
      funext a
      apply Fin.ext
      match a with
      | ⟨0, _⟩ => show n.val * 1 + (((Shape.rowMajor (⟨4, ![1, 1, 1, 4160]⟩ : Shape)).symm nn) 0).val - 0 = n.val; omega
      | ⟨1, _⟩ => show h.val * 1 + (((Shape.rowMajor (⟨4, ![1, 1, 1, 4160]⟩ : Shape)).symm nn) 1).val - 0 = h.val; omega
      | ⟨2, _⟩ => show r.val * 1 + (((Shape.rowMajor (⟨4, ![1, 1, 1, 4160]⟩ : Shape)).symm nn) 2).val - 0 = r.val; omega
      | ⟨3, _⟩ => show p.val * 1 + (((Shape.rowMajor (⟨4, ![1, 1, 1, 4160]⟩ : Shape)).symm nn) 3).val - 0 = p.val + (((Shape.rowMajor (⟨4, ![1, 1, 1, 4160]⟩ : Shape)).symm nn) 3).val; omega
  · rw [dif_neg hk]
    refine dif_neg ?_
    intro hin
    have := (hin 3).2
    change p.val * 1 + (((Shape.rowMajor (⟨4, ![1, 1, 1, 4160]⟩ : Shape)).symm nn) 3).val - 0 < 4160 at this
    omega

/-! ## The stages -/

variable (x0 : (⟨S32x64x10752, .f32⟩ : BufTy).Contents (Elt Ideal)) (x1 x2 : (⟨S32x4096x16x64, .f32⟩ : BufTy).Contents (Elt Ideal))

theorem eighth : Ideal.ofBits .f32 0x3E000000#32 = ((1 / 8 : ℝ) : EReal) := by
  simp [Ideal.ofBits, Ideal.ieee, -EReal.coe_mul]
  norm_num

theorem z_at (n : Fin 32) (h : Fin 16) (r : Fin 64) (p : Fin 4160) :
    val_main_v14 (F := Ideal) x0 x1 (ix4 n h r p) = scoreE x0 x1 n h r p.val := by
  have hp := p.isLt
  pointwise [val_main_v14, val_main_v13, val_main_cst, val_main_v12, val_main_v6, val_main_v3, val_main_v2, val_main_v1, val_main_v0]
  rw [eighth]
  unfold scoreE
  congr 1
  refine Finset.sum_congr rfl fun d _ => ?_
  congr 1
  · congr 2
    apply Fin.ext
    show h.val * 64 + d.val = 0 + 64 * h.val + d.val
    omega
  · unfold entry
    by_cases h1 : p.val < 4096
    · rw [dif_pos h1, dif_pos h1]
    · rw [dif_neg h1, dif_neg h1, dif_pos hp]
      congr 2
      apply Fin.ext
      show 1024 + (h.val * 64 + d.val) = 1024 + 64 * h.val + d.val
      omega

theorem mask_at (n : Fin 32) (h : Fin 16) (r : Fin 64) (p : Fin 4160) :
    val_main_call2_v1 (F := Ideal) (ix4 n h r p) = if p.val < 4096 + r.val then 1#1 else 0#1 := by
  pointwise [val_main_call2_v1, val_main_v20, val_main_v19, val_main_v18, val_main_v17, val_main_v16, val_main_v15, val_main_v11, val_main_v10, val_main_c, val_main_v9, val_main_v8]
  have e : IntOp.addi (4096#32) (BitVec.ofNat 32 r.val) = BitVec.ofNat 32 (4096 + r.val) := (BitVec.ofNat_add 4096 r.val).symm
  rw [e]
  exact slt_ofNat _ _ (by omega) (by omega)

theorem take_at (j : S32x16x64x4160.Idx) : val_main_v21 (F := Ideal) x0 x1 j = lsE (val_main_v14 (F := Ideal) x0 x1 j) := by
  generalize hz : val_main_v14 (F := Ideal) x0 x1 = zz
  pointwise [val_main_v21, val_main_call0_v1, val_main_call0_call0_v11, val_main_call0_call0_v10, val_main_call0_call0_v9, val_main_call0_call0_v8,
    val_main_call0_call0_v7, val_main_call0_call0_v6, val_main_call0_call0_v5, val_main_call0_call0_v4, val_main_call0_call0_v3, val_main_call0_call0_v2,
    val_main_call0_call0_v1, val_main_call0_call0_v0, val_main_call0_call0_cst, val_main_call0_v0, hz]
  rw [if_neg (not_not.mpr rfl)]
  unfold lsE
  rw [sub_zero]
  rfl

theorem leave_at (j : S32x16x64x4160.Idx) : val_main_v23 (F := Ideal) x0 x1 j = lsE (-(val_main_v14 (F := Ideal) x0 x1 j)) := by
  generalize hz : val_main_v14 (F := Ideal) x0 x1 = zz
  pointwise [val_main_v23, val_main_call1_v1, val_main_call1_call0_v11, val_main_call1_call0_v10, val_main_call1_call0_v9, val_main_call1_call0_v8,
    val_main_call1_call0_v7, val_main_call1_call0_v6, val_main_call1_call0_v5, val_main_call1_call0_v4, val_main_call1_call0_v3, val_main_call1_call0_v2,
    val_main_call1_call0_v1, val_main_call1_call0_v0, val_main_call1_call0_cst, val_main_call1_v0, val_main_v22, hz]
  rw [if_neg (not_not.mpr rfl)]
  unfold lsE
  rw [sub_zero]
  rfl

/-! ## Sums along the keys -/

theorem sum_tail {M : Type} [AddCommMonoid M] (f : ℕ → M) (hz : ∀ q, 4160 ≤ q → f q = 0) (p N : ℕ) (hp : p ≤ 4160) (hN : 4160 ≤ N) :
    ∑ q ∈ Finset.Ico p N, f q = ∑ q ∈ Finset.Ico p 4160, f q := by
  rw [← Finset.sum_Ico_consecutive f hp hN, Finset.sum_eq_zero (s := Finset.Ico 4160 N), add_zero]
  intro q hq
  exact hz q (Finset.mem_Ico.mp hq).1

theorem sum_window {M : Type} [AddCommMonoid M] (f : ℕ → M) (hz : ∀ q, 4160 ≤ q → f q = 0) (p : ℕ) (hp : p ≤ 4160) :
    ∑ k : Fin 4160, f (p + k.val) = ∑ q ∈ Finset.Ico p 4352, f q := by
  rw [sum_tail f hz p 4352 hp (by omega), ← sum_tail f hz p (p + 4160) hp (by omega), Finset.sum_Ico_eq_sum_range,
    Fin.sum_univ_eq_sum_range (fun k => f (p + k)) 4160, Nat.add_sub_cancel_left]

theorem keep_zero (z : ℕ → ℝ) (r : Fin 64) (q : ℕ) (hq : 4160 ≤ q) : keepR z r.val q = 0 := if_neg (by omega)

theorem w_zero (z : ℕ → ℝ) (r : Fin 64) (q : ℕ) (hq : 4160 ≤ q) : wR z r.val q = 0 := if_neg (by omega)

/-! ## The weights -/

variable {x0 x1} (hf : Finite x0 x1)

include hf in
theorem keep_ref (n : Fin 32) (h : Fin 16) (r : Fin 64) (p : Fin 4160) :
    val_main_v24 (F := Ideal) x0 x1 (ix4 n h r p) = ((keepR (scoreR x0 x1 n h r) r.val p.val : ℝ) : EReal) := by
  have hz : val_main_call2_v2 (F := Ideal) (ix4 n h r p) = (0 : EReal) := by
    pointwise [val_main_call2_v2, val_main_call2_v0, val_main_cst_0]
    show constant (F := Ideal) S_ .f32 0x00000000#32 ix0 = (0 : EReal)
    pointwise
  rw [val_main_v24_apply, mask_at, leave_at, z_at, scoreE_coe hf, ← EReal.coe_neg, lsE_coe, lsg_neg, hz]
  unfold keepR
  by_cases hp : p.val < 4096 + r.val
  · rw [if_pos hp, if_pos hp]; rfl
  · rw [if_neg hp, if_neg hp]; rfl

include hf in
theorem from_ref (n : Fin 32) (h : Fin 16) (r : Fin 64) (p : Fin 4160) :
    val_main_v25 (F := Ideal) x0 x1 (ix4 n h r p) = ((fromR (scoreR x0 x1 n h r) r.val p.val : ℝ) : EReal) := by
  have hz : ∀ j, val_main_call3_v0 (F := Ideal) j = (0 : EReal) := by
    intro j
    pointwise [val_main_call3_v0, val_main_call3_cst]
  unfold val_main_v25
  rw [window_at, hz, zero_add]
  unfold fromR
  rw [← sum_window _ (keep_zero (scoreR x0 x1 n h r) r) p.val (by omega), coe_sum]
  refine Finset.sum_congr rfl fun k _ => ?_
  by_cases hk : p.val + k.val < 4160
  · rw [dif_pos hk, keep_ref hf]
  · rw [dif_neg hk, keep_zero _ _ _ (by omega)]; rfl

theorem from_succ (z : ℕ → ℝ) (r p : ℕ) (hp : p < 4352) : fromR z r p - keepR z r p = fromR z r (p + 1) := by
  unfold fromR
  rw [Finset.sum_eq_sum_Ico_succ_bot hp, add_sub_cancel_left]

include hf in
theorem weight_ref (n : Fin 32) (h : Fin 16) (r : Fin 64) (p : Fin 4160) :
    val_main_v29 (F := Ideal) x0 x1 (ix4 n h r p) = ((wR (scoreR x0 x1 n h r) r.val p.val : ℝ) : EReal) := by
  have hz : val_main_call4_v2 (F := Ideal) (ix4 n h r p) = (0 : EReal) := by
    pointwise [val_main_call4_v2, val_main_call4_v0, val_main_cst_1]
    show constant (F := Ideal) S_ .f32 0x00000000#32 ix0 = (0 : EReal)
    pointwise
  have hm : val_main_call4_v1 (F := Ideal) (ix4 n h r p) = if p.val < 4096 + r.val then 1#1 else 0#1 := mask_at n h r p
  have hl : val_main_v27 (F := Ideal) x0 x1 (ix4 n h r p)
      = ((lsg (scoreR x0 x1 n h r p.val) + fromR (scoreR x0 x1 n h r) r.val (p.val + 1) : ℝ) : EReal) := by
    rw [val_main_v27_apply, val_main_v26_apply, take_at, z_at, scoreE_coe hf, lsE_coe, from_ref hf, keep_ref hf,
      ← from_succ _ _ p.val (by omega)]
    show ((lsg _ : ℝ) : EReal) + (((fromR _ _ _ : ℝ) : EReal) - ((keepR _ _ _ : ℝ) : EReal)) = _
    rw [← EReal.coe_sub, ← EReal.coe_add]
  have he : val_main_v28 (F := Ideal) x0 x1 (ix4 n h r p)
      = ((Real.exp (lsg (scoreR x0 x1 n h r p.val) + fromR (scoreR x0 x1 n h r) r.val (p.val + 1)) : ℝ) : EReal) := by
    rw [val_main_v28_apply, hl]
    exact Ideal.exp_coe _
  rw [val_main_v29_apply, hm, he, hz]
  unfold wR
  by_cases hp : p.val < 4096 + r.val
  · rw [if_pos hp, if_pos hp]; rfl
  · rw [if_neg hp, if_neg hp]; rfl

/-! ## The result -/

variable (x0)

theorem v_at (n : Fin 32) (p : Fin 4160) (h : Fin 16) (d : Fin 64) :
    val_main_v7 (F := Ideal) x0 x2 (ix4 n p h d) = entry 2048 (by omega) x0 x2 n h d p.val := by
  have hp := p.isLt
  pointwise [val_main_v7, val_main_v5, val_main_v4]
  unfold entry
  by_cases h1 : p.val < 4096
  · rw [dif_pos h1, dif_pos h1]
  · rw [dif_neg h1, dif_neg h1, dif_pos hp]
    congr 2
    apply Fin.ext
    show 2048 + (h.val * 64 + d.val) = 2048 + 64 * h.val + d.val
    omega

variable {x0}

theorem flat_at (y : Vec Ideal S32x64x16x64 .f32) (n : Fin 32) (r : Fin 64) (C : Fin 1024) :
    shapeCast S32x64x1024 y shapeCasts_S32x64x16x64_S32x64x1024 (ix3 n r C) = y (ix4 n r ⟨C.val / 64, by omega⟩ ⟨C.val % 64, by omega⟩) := by
  pointwise

include hf in
theorem value_at (n : Fin 32) (r : Fin 64) (C : Fin 1024) :
    val_main_v32 (F := Ideal) x0 x1 x2 (ix3 n r C) = result x0 x1 x2 n ⟨C.val / 64, by omega⟩ r ⟨C.val % 64, by omega⟩ := by
  have dot : ∀ (h : Fin 16) (d : Fin 64), val_main_v30 (F := Ideal) x0 x1 x2 (ix4 n h d r)
      = ∑ p : Fin 4160, val_main_v7 (F := Ideal) x0 x2 (ix4 n p h d) * val_main_v29 (F := Ideal) x0 x1 (ix4 n h r p) := by
    intro h d
    unfold val_main_v30
    generalize val_main_v7 (F := Ideal) x0 x2 = a
    generalize val_main_v29 (F := Ideal) x0 x1 = b
    pointwise
  have moved : ∀ (h : Fin 16) (d : Fin 64), val_main_v31 (F := Ideal) x0 x1 x2 (ix4 n r h d) = val_main_v30 (F := Ideal) x0 x1 x2 (ix4 n h d r) := by
    intro h d
    unfold val_main_v31
    generalize val_main_v30 (F := Ideal) x0 x1 x2 = y
    pointwise
  unfold val_main_v32
  refine (flat_at _ n r C).trans ?_
  rw [moved, dot]
  unfold result outR
  rw [← sum_window (fun q => ((wR (scoreR x0 x1 n ⟨C.val / 64, by omega⟩ r) r.val q : ℝ) : EReal)
    * entry 2048 (by omega) x0 x2 n ⟨C.val / 64, by omega⟩ ⟨C.val % 64, by omega⟩ q)
    (fun q hq => by rw [w_zero _ _ _ hq, EReal.coe_zero, zero_mul]) 0 (by omega)]
  refine Finset.sum_congr rfl fun p _ => ?_
  rw [v_at, weight_ref hf, mul_comm, Nat.zero_add]

end Cert.ReferenceIdeal.Sb

end
-- ==== Proof.SbBlock.lean ====
module

public import proofs.«01_k».proof.Proof.Gen.KernelIdeal.Value
public import Idealize.ShloMosaic.Lib.ValueIdx
public import Idealize.ShloMosaic.Lib.Tactic
public import Idealize.ShloMosaic.Lib.Pipeline.ReadBack

/-!
The attention over the cache, one block of keys at a time.

A grid point carries four groups of four heads. For every block of 256 keys a group forms the
scores of its 4×64 queries, the logarithms of what each key keeps, their sums against a constant
matrix (the sums to the right of each key, and the sum over the block), and the weights. The
definitions here name these steps as functions of whole arrays; the rest of the proof reads the
kernel's stored values as these functions.
-/

@[expose] public section

noncomputable section
open Idealize.ShloMosaic Idealize.ShloMosaic.TcCoe Idealize.ShloMosaic.ValueIdx Idealize.SL.Sem
namespace Cert.KernelIdeal.Sb
open Cert.KernelIdeal Cert.KernelIdeal.Gen
variable {F : FTy → Type} [FloatOps F] [Named F]

/-- The head number of the `i`-th head of group `c`. -/
def hd (c i : Fin 4) : Fin 16 := ⟨4 * c.val + i.val, by omega⟩

/-- The group of a head, and its place in the group. -/
def grp (h : Fin 16) : Fin 4 := ⟨h.val / 4, by omega⟩
def pos (h : Fin 16) : Fin 4 := ⟨h.val % 4, by omega⟩

/-! ### Steps on one block -/

/-- The scores of four heads against one block of keys, stacked. -/
def scores (q : Fin 4 → FVec F S64x64 .bf16) (k : Fin 4 → FVec F S64x256 .bf16) : FVec F S256x256 .f32 :=
  concatenate S256x256 0
    [⟨S64x256, matmul dot_S64x64_S64x256_S64x256_1_0_0_1_n_n none (q 0) (k 0) (constant S64x256 .f32 0x00000000#32)⟩,
     ⟨S64x256, matmul dot_S64x64_S64x256_S64x256_1_0_0_1_n_n none (q 1) (k 1) (constant S64x256 .f32 0x00000000#32)⟩,
     ⟨S64x256, matmul dot_S64x64_S64x256_S64x256_1_0_0_1_n_n none (q 2) (k 2) (constant S64x256 .f32 0x00000000#32)⟩,
     ⟨S64x256, matmul dot_S64x64_S64x256_S64x256_1_0_0_1_n_n none (q 3) (k 3) (constant S64x256 .f32 0x00000000#32)⟩]
    concatenates_S64x256_S64x256_S64x256_S64x256_S256x256_d0

/-- The logarithm, to base two, of what a key takes. -/
def logTake (z : FVec F S256x256 .f32) : FVec F S256x256 .f32 :=
  subf (minimumf z (broadcast S256x256 (Scalar.ofBits .f32 0x00000000#32)))
    (mulf (log (addf (broadcast S256x256 (Scalar.ofBits .f32 0x3F800000#32))
      (exp2 (subf (broadcast S256x256 (Scalar.ofBits .f32 0x00000000#32)) (absf z)))))
      (broadcast S256x256 (Named.named κ "log2e" 0x3FB8AA3B#32)))

/-- The logarithm of what a key leaves. -/
def logKeep (z : FVec F S256x256 .f32) : FVec F S256x256 .f32 := subf (logTake z) z

/-- The sums of a block of logarithms against the constant matrix. -/
def sums (ue : Vec F S256x384 .bf16) (g : FVec F S256x256 .f32) : FVec F S256x384 .f32 :=
  matmul dot_S256x256_S256x384_S256x384_1_0_0_1_n_n none (truncf .bf16 g bitsLt_bf16_f32)
    (shapeCast S256x384 ue shapeCasts_S256x384_S256x384) (constant S256x384 .f32 0x00000000#32)

/-- The weights of a block: what the keys take of what is left after the newer keys. -/
def weights (run : FVec F S256x128 .f32) (l : FVec F S256x256 .f32) (e : FVec F S256x384 .f32) : FVec F S256x256 .f32 :=
  exp2 (addf l (concatenate S256x256 1
    [⟨S256x128, addf (extractStridedSlice S256x128 ![0, 0] e slices_S256x384_o0_0_S256x128) run⟩,
     ⟨S256x128, addf (extractStridedSlice S256x128 ![0, 128] e slices_S256x384_o0_128_S256x128) run⟩]
    concatenates_S256x128_S256x128_S256x256_d1))

/-- The logarithm of what is left after a block. -/
def runAfter (run : FVec F S256x128 .f32) (e : FVec F S256x384 .f32) : FVec F S256x128 .f32 :=
  addf run (extractStridedSlice S256x128 ![0, 256] e slices_S256x384_o0_256_S256x128)

/-- A head's rows of a group's weights. -/
def rowsOf (w : FVec F S256x256 .bf16) : Fin 4 → FVec F S64x256 .bf16
  | 0 => extractStridedSlice S64x256 ![0, 0] w slices_S256x256_o0_0_S64x256
  | 1 => extractStridedSlice S64x256 ![64, 0] w slices_S256x256_o64_0_S64x256
  | 2 => extractStridedSlice S64x256 ![128, 0] w slices_S256x256_o128_0_S64x256
  | 3 => extractStridedSlice S64x256 ![192, 0] w slices_S256x256_o192_0_S64x256

/-- What one head reads from a block of values. -/
def readOut (w : FVec F S256x256 .bf16) (i : Fin 4) (v : FVec F S64x256 .bf16) : FVec F S64x64 .f32 :=
  matmul dot_S64x256_S64x256_S64x64_1_1_0_0_n_n none (rowsOf w i) v (constant S64x64 .f32 0x00000000#32)

/-- Adding to a head's rows in the accumulator. -/
def accAfter (old : Vec F S1x64x64 .f32) (d : FVec F S64x64 .f32) : Vec F S1x64x64 .f32 :=
  shapeCast S1x64x64 (addf (shapeCast S64x64 old shapeCasts_S1x64x64_S64x64) d) shapeCasts_S64x64_S1x64x64

/-! ### The blocks of the cache -/

theorem inb_cache (h : Fin 16) (m : Fin 4) (a : Fin 4) :
    ![0, h.val, 0, 256 * m.val] a + S1x1x64x256.size a ≤ S1x16x64x1024.size a := by
  revert a h m; decide

/-- A head's block of 256 keys (or values) of a chunk of the cache. -/
def cacheBlock (x : Vec F S1x16x64x1024 .f32) (m : Fin 4) (h : Fin 16) : FVec F S64x256 .bf16 :=
  truncf .bf16 (shapeCast S64x256
    (View.ld x (Rect.unit (s := S1x16x64x1024) ![0, h.val, 0, 256 * m.val] S1x1x64x256.size (inb_cache h m)))
    shapeCasts_S1x1x64x256_S64x256) bitsLt_bf16_f32

/-- A head's queries, off the stored rows. -/
def queries (Q : Fin 16 → Vec F S1x64x64 .bf16) (h : Fin 16) : FVec F S64x64 .bf16 :=
  shapeCast S64x64 (Q h) shapeCasts_S1x64x64_S64x64

section chunk
variable (ue : Vec F S256x384 .bf16) (Q : Fin 16 → Vec F S1x64x64 .bf16) (K V : Vec F S1x16x64x1024 .f32)

def zOf (c m : Fin 4) : FVec F S256x256 .f32 := scores (fun i => queries Q (hd c i)) (fun i => cacheBlock K m (hd c i))

def eOf (c m : Fin 4) : FVec F S256x384 .f32 := sums ue (logKeep (zOf Q K c m))

/-- The carry of a group before block 3, 2, 1, 0 of a chunk, and after block 0. -/
def run3 (R : Vec F S1x256x128 .f32) : FVec F S256x128 .f32 := shapeCast S256x128 R shapeCasts_S1x256x128_S256x128
def run2 (c : Fin 4) (R : Vec F S1x256x128 .f32) : FVec F S256x128 .f32 := runAfter (run3 R) (eOf ue Q K c 3)
def run1 (c : Fin 4) (R : Vec F S1x256x128 .f32) : FVec F S256x128 .f32 := runAfter (run2 ue Q K c R) (eOf ue Q K c 2)
def run0 (c : Fin 4) (R : Vec F S1x256x128 .f32) : FVec F S256x128 .f32 := runAfter (run1 ue Q K c R) (eOf ue Q K c 1)
def runEnd (c : Fin 4) (R : Vec F S1x256x128 .f32) : FVec F S256x128 .f32 := runAfter (run0 ue Q K c R) (eOf ue Q K c 0)

def wOf (c m : Fin 4) (run : FVec F S256x128 .f32) : FVec F S256x256 .bf16 :=
  truncf .bf16 (weights run (logTake (zOf Q K c m)) (eOf ue Q K c m)) bitsLt_bf16_f32

/-- What a head reads from a chunk. -/
def chunkOut (c i : Fin 4) (R : Vec F S1x256x128 .f32) : FVec F S64x64 .f32 :=
  addf (addf (addf (readOut (wOf ue Q K c 3 (run3 R)) i (cacheBlock V 3 (hd c i)))
    (readOut (wOf ue Q K c 2 (run2 ue Q K c R)) i (cacheBlock V 2 (hd c i))))
    (readOut (wOf ue Q K c 1 (run1 ue Q K c R)) i (cacheBlock V 1 (hd c i))))
    (readOut (wOf ue Q K c 0 (run0 ue Q K c R)) i (cacheBlock V 0 (hd c i)))

/-- A group's stored carry after a chunk. -/
def carryChunk (c : Fin 4) (R : Vec F S1x256x128 .f32) : Vec F S1x256x128 .f32 :=
  shapeCast S1x256x128 (runEnd ue Q K c R) shapeCasts_S256x128_S1x256x128

end chunk

/-! ### The block of the tokens themselves -/

theorem inb_new (h : Fin 16) (a : Fin 3) : ![0, 0, 64 * h.val] a + S1x64x64.size a ≤ S1x64x1024.size a := by
  revert a h; decide

/-- A head's columns of the tokens' queries, keys or values. -/
def headOf (x : Vec F S1x64x1024 .f32) (h : Fin 16) : Vec F S1x64x64 .f32 :=
  View.ld x (Rect.unit (s := S1x64x1024) ![0, 0, 64 * h.val] S1x64x64.size (inb_new h))

/-- The scaled queries of a head, as they are stored. -/
def scaled (x : Vec F S1x64x1024 .f32) (h : Fin 16) : Vec F S1x64x64 .bf16 :=
  shapeCast S1x64x64 (truncf .bf16 (mulf (shapeCast S64x64 (headOf x h) shapeCasts_S1x64x64_S64x64)
    (broadcast S64x64 (Named.named κ "scale" 0x3E38AA3B#32))) bitsLt_bf16_f32) shapeCasts_S64x64_S1x64x64

/-- A head's keys (or values) of the tokens, transposed and padded to a block. -/
def newBlock (x : Vec F S1x64x1024 .f32) (h : Fin 16) : FVec F S64x256 .bf16 :=
  truncf .bf16 (concatenate S64x256 1
    [⟨S64x64, transpose S64x64 [1, 0] (shapeCast S64x64 (headOf x h) shapeCasts_S1x64x64_S64x64) transposes_S64x64_p1_0_S64x64⟩,
     ⟨S64x192, broadcast S64x192 (Scalar.ofBits (F := F) .f32 0x00000000#32)⟩]
    concatenates_S64x64_S64x192_S64x256_d1) bitsLt_bf16_f32

/-- Which of the tokens' own keys a query sees: the earlier ones. -/
def seen : IVec S256x256 1 := cmpi .slt (iota .tc S256x256 32 [1] iota_S256x256_d1_w32) k0_pay24

section fresh
variable (ue : Vec F S256x384 .bf16) (Q : Fin 16 → Vec F S1x64x64 .bf16) (K V : Vec F S1x64x1024 .f32)

def zNew (c : Fin 4) : FVec F S256x256 .f32 := scores (fun i => queries Q (hd c i)) (fun i => newBlock K (hd c i))

def eNew (c : Fin 4) : FVec F S256x384 .f32 :=
  sums ue (select seen (logKeep (zNew Q K c)) (broadcast S256x256 (Scalar.ofBits .f32 0x00000000#32)))

def wNew (c : Fin 4) (R : Vec F S1x256x128 .f32) : FVec F S256x256 .bf16 :=
  truncf .bf16 (select seen (weights (run3 R) (logTake (zNew Q K c)) (eNew ue Q K c))
    (broadcast S256x256 (Scalar.ofBits .f32 0x00000000#32))) bitsLt_bf16_f32

def newOut (c i : Fin 4) (R : Vec F S1x256x128 .f32) : FVec F S64x64 .f32 :=
  readOut (wNew ue Q K c R) i (newBlock V (hd c i))

def carryNew (c : Fin 4) (R : Vec F S1x256x128 .f32) : Vec F S1x256x128 .f32 :=
  shapeCast S1x256x128 (runAfter (run3 R) (eNew ue Q K c)) shapeCasts_S256x128_S1x256x128

end fresh

/-! ### Assembling the stored pieces -/

/-- An array of sixteen heads from its heads. -/
def ofHeads {e : EltTy} (G : Fin 16 → Vec F S1x64x64 e) : Vec F S16x64x64 e := fun y => G (y 0) (ix3 (0 : Fin 1) (y 1) (y 2))

/-- An array of four groups from its groups. -/
def ofGroups (G : Fin 4 → Vec F S1x256x128 .f32) : Vec F S4x256x128 .f32 := fun y => G (y 0) (ix3 (0 : Fin 1) (y 1) (y 2))

theorem inb_head (h : Fin 16) (a : Fin 3) : ![h.val, 0, 0] a + S1x64x64.size a ≤ S16x64x64.size a := by
  revert a h; decide

theorem inb_group (c : Fin 4) (a : Fin 3) : ![c.val, 0, 0] a + S1x256x128.size a ≤ S4x256x128.size a := by
  revert a c; decide

/-- A head of a sixteen-head array, as it is loaded. -/
def headAt {e : EltTy} (x : Vec F S16x64x64 e) (h : Fin 16) : Vec F S1x64x64 e :=
  View.ld x (Rect.unit (s := S16x64x64) ![h.val, 0, 0] S1x64x64.size (inb_head h))

/-- A group of the carry, as it is loaded. -/
def groupAt (x : Vec F S4x256x128 .f32) (c : Fin 4) : Vec F S1x256x128 .f32 :=
  View.ld x (Rect.unit (s := S4x256x128) ![c.val, 0, 0] S1x256x128.size (inb_group c))

theorem piece_head {e : EltTy} (G : Fin 16 → Vec F S1x64x64 e) (h : Fin 16) (inb) (w : Vec F S1x64x64 e) (hw : w = G h) :
    ∀ x : S1x64x64.Idx, w x = ofHeads G ((Rect.unit (s := S16x64x64) ![h.val, 0, 0] S1x64x64.size inb).emb x) := by
  intro x
  subst hw
  have e0 : ((Rect.unit (s := S16x64x64) ![h.val, 0, 0] S1x64x64.size inb).emb x) 0 = h := by
    have : (x 0).val = 0 := by have := (x 0).isLt; simp [S1x64x64] at this; omega
    exact Fin.ext (show h.val + 1 * (x 0).val = h.val by omega)
  unfold ofHeads
  rw [e0]
  congr 1
  funext a
  refine Fin.ext ?_
  match a with
  | 0 => show (x 0).val = 0
         have := (x 0).isLt; simp [S1x64x64] at this; omega
  | 1 => show (x 1).val = 0 + 1 * (x 1).val; omega
  | 2 => show (x 2).val = 0 + 1 * (x 2).val; omega

theorem piece_group (G : Fin 4 → Vec F S1x256x128 .f32) (h : Fin 4) (inb) (w : Vec F S1x256x128 .f32) (hw : w = G h) :
    ∀ x : S1x256x128.Idx, w x = ofGroups G ((Rect.unit (s := S4x256x128) ![h.val, 0, 0] S1x256x128.size inb).emb x) := by
  intro x
  subst hw
  have e0 : ((Rect.unit (s := S4x256x128) ![h.val, 0, 0] S1x256x128.size inb).emb x) 0 = h := by
    have : (x 0).val = 0 := by have := (x 0).isLt; simp [S1x256x128] at this; omega
    exact Fin.ext (show h.val + 1 * (x 0).val = h.val by omega)
  unfold ofGroups
  rw [e0]
  congr 1
  funext a
  refine Fin.ext ?_
  match a with
  | 0 => show (x 0).val = 0
         have := (x 0).isLt; simp [S1x256x128] at this; omega
  | 1 => show (x 1).val = 0 + 1 * (x 1).val; omega
  | 2 => show (x 2).val = 0 + 1 * (x 2).val; omega

/-- Two halves of a block of columns side by side. -/
def wide (a b : FVec F S256x128 .f32) : FVec F S256x256 .f32 :=
  concatenate S256x256 1 [⟨S256x128, a⟩, ⟨S256x128, b⟩] concatenates_S256x128_S256x128_S256x256_d1

theorem wide_eq (a b : FVec F S256x128 .f32) :
    concatenate S256x256 1 [⟨S256x128, a⟩, ⟨S256x128, b⟩] concatenates_S256x128_S256x128_S256x256_d1 = wide a b := rfl

/-- A head's columns beside the padding. -/
def padded (a : FVec F S64x64 .f32) (b : FVec F S64x192 .f32) : FVec F S64x256 .f32 :=
  concatenate S64x256 1 [⟨S64x64, a⟩, ⟨S64x192, b⟩] concatenates_S64x64_S64x192_S64x256_d1

theorem padded_eq (a : FVec F S64x64 .f32) (b : FVec F S64x192 .f32) :
    concatenate S64x256 1 [⟨S64x64, a⟩, ⟨S64x192, b⟩] concatenates_S64x64_S64x192_S64x256_d1 = padded a b := rfl

theorem ld_ue (x : Vec F S256x384 .bf16) (inb) : View.ld x (Rect.unit (s := S256x384) ![0, 0] S256x384.size inb) = x :=
  View.ld_unit_zero (S := S256x384) (by funext a; match a with | 0 => rfl | 1 => rfl) inb x

end Cert.KernelIdeal.Sb
-- ==== Proof.SbAt.lean ====
/-
  The steps of the cached attention's body, read at an index: scores, kept sums, weights and the products with the values.
-/
module

public import proofs.«01_k».proof.Proof.SbBlock
public import proofs.«01_k».proof.Proof.SbSpec
public import Idealize.ShloMosaic.Lib.Pointwise

@[expose] public section

noncomputable section
open Idealize.ShloMosaic Idealize.ShloMosaic.TcCoe Idealize.SL.Sem
namespace Cert.KernelIdeal.Sb
open Cert.KernelIdeal Cert.KernelIdeal.Gen

/-- Comparing two small numbers as words. -/
theorem slt_ofNat (a b : ℕ) (ha : a < 2 ^ 31) (hb : b < 2 ^ 31) :
    IntOp.cmpi .slt (BitVec.ofNat 32 a) (BitVec.ofNat 32 b) = if a < b then 1#1 else 0#1 := by
  have e : ∀ n < 2 ^ 31, (BitVec.ofNat 32 n).toInt = (n : ℤ) := by
    intro n hn
    rw [BitVec.toInt_eq_toNat_of_lt (by rw [BitVec.toNat_ofNat]; omega), BitVec.toNat_ofNat, Nat.mod_eq_of_lt (by omega)]
  show BitVec.ofBool (BitVec.slt _ _) = _
  rw [BitVec.slt, e a ha, e b hb]
  by_cases h : a < b
  · simp [h]
  · simp [h]

/-- Row of query `r` of the `i`-th head of a group. -/
def rw4 (i : Fin 4) (r : Fin 64) : Fin 256 := ⟨64 * i.val + r.val, by omega⟩

theorem scores_at (q : Fin 4 → FVec Ideal S64x64 .bf16) (k : Fin 4 → FVec Ideal S64x256 .bf16) (i : Fin 4) (r : Fin 64) (c : Fin 256) :
    scores q k (ix2 (rw4 i r) c) = ∑ d : Fin 64, q i (ix2 r d) * k i (ix2 d c) := by
  have hr := r.isLt
  match i with
  | 0 => pointwise [scores, rw4]
  | 1 => pointwise [scores, rw4]
  | 2 => pointwise [scores, rw4]
         rw [dif_neg (by omega), dif_neg (by omega), dif_pos (by omega)]
         have e : (⟨128 + r.val - 64 - 64, by omega⟩ : Fin 64) = r := Fin.ext (by show 128 + r.val - 64 - 64 = r.val; omega)
         rw [e]
  | 3 => pointwise [scores, rw4]
         rw [dif_neg (by omega), dif_neg (by omega), dif_neg (by omega)]
         have e : (⟨192 + r.val - 64 - 64 - 64, by omega⟩ : Fin 64) = r := Fin.ext (by show 192 + r.val - 64 - 64 - 64 = r.val; omega)
         rw [e]

theorem named_log2e : (Named.named κ "log2e" 0x3FB8AA3B#32 : Ideal .f32) = ((Cert.Sb.L : ℝ) : EReal) :=
  IdealRules.named_const.ideal_named_scalar _ _ _ _ rfl

theorem named_scale : (Named.named κ "scale" 0x3E38AA3B#32 : Ideal .f32) = ((1 / 8 * Cert.Sb.L : ℝ) : EReal) :=
  IdealRules.named_const.ideal_named_scalar _ _ _ _ rfl

theorem logTake_at (z : FVec Ideal S256x256 .f32) (R c : Fin 256) : logTake (F := Ideal) z (ix2 R c) = Cert.Sb.takeE (z (ix2 R c)) := by
  pointwise [logTake]
  rw [named_log2e]
  rfl

theorem logKeep_at (z : FVec Ideal S256x256 .f32) (R c : Fin 256) :
    logKeep (F := Ideal) z (ix2 R c) = Cert.Sb.takeE (z (ix2 R c)) - z (ix2 R c) := by
  rw [← logTake_at]
  rfl

theorem sums_at (ue : Vec Ideal S256x384 .bf16) (g : FVec Ideal S256x256 .f32) (R : Fin 256) (c : Fin 384) :
    sums ue g (ix2 R c) = ∑ k : Fin 256, g (ix2 R k) * ue (ix2 k c) := by
  pointwise [sums]

theorem runAfter_at (run : FVec Ideal S256x128 .f32) (e : FVec Ideal S256x384 .f32) (R : Fin 256) (l : Fin 128) :
    runAfter run e (ix2 R l) = run (ix2 R l) + e (ix2 R ⟨256 + l.val, by omega⟩) := by
  pointwise [runAfter]

theorem weights_at (run : FVec Ideal S256x128 .f32) (g : FVec Ideal S256x256 .f32) (e : FVec Ideal S256x384 .f32) (R c : Fin 256) :
    weights run g e (ix2 R c) = Ideal.exp2 (g (ix2 R c) + (e (ix2 R ⟨c.val, by omega⟩) + run (ix2 R ⟨c.val % 128, by omega⟩))) := by
  have hc := c.isLt
  have h : (if c.val < 128 then c.val else c.val - 128) = c.val % 128 := by split <;> omega
  pointwise [weights]
  by_cases hlt : c.val < 128
  · simp only [hlt, dite_true, Nat.mod_eq_of_lt]
    rfl
  · simp only [hlt, dite_false]
    have e1 : (⟨128 + (c.val - 128), by omega⟩ : Fin 384) = ⟨c.val, by omega⟩ := Fin.ext (by show 128 + (c.val - 128) = c.val; omega)
    have e2 : (⟨c.val - 128, by omega⟩ : Fin 128) = ⟨c.val % 128, by omega⟩ := Fin.ext (by show c.val - 128 = c.val % 128; omega)
    rw [e1, e2]
    rfl

theorem rowsOf_at (w : FVec Ideal S256x256 .bf16) (i : Fin 4) (r : Fin 64) (c : Fin 256) :
    rowsOf w i (ix2 r c) = w (ix2 (rw4 i r) c) := by
  match i with
  | 0 => pointwise [rowsOf, rw4]
  | 1 => pointwise [rowsOf, rw4]
  | 2 => pointwise [rowsOf, rw4]
  | 3 => pointwise [rowsOf, rw4]

theorem readOut_at (w : FVec Ideal S256x256 .bf16) (i : Fin 4) (v : FVec Ideal S64x256 .bf16) (r d : Fin 64) :
    readOut w i v (ix2 r d) = ∑ c : Fin 256, w (ix2 (rw4 i r) c) * v (ix2 d c) := by
  pointwise [readOut, rowsOf_at]

theorem accAfter_at (old : Vec Ideal S1x64x64 .f32) (g : FVec Ideal S64x64 .f32) (r d : Fin 64) :
    accAfter old g (ix3 0 r d) = old (ix3 0 r d) + g (ix2 r d) := by
  pointwise [accAfter]

theorem cacheBlock_at (x : Vec Ideal S1x16x64x1024 .f32) (m : Fin 4) (h : Fin 16) (d : Fin 64) (c : Fin 256) :
    cacheBlock x m h (ix2 d c) = x (ix4 0 h d ⟨256 * m.val + c.val, by omega⟩) := by
  have hy : ∀ y : Vec Ideal S1x1x64x256 .f32, shapeCast S64x256 y shapeCasts_S1x1x64x256_S64x256 (ix2 d c) = y (ix4 0 0 d c) := by
    intro y
    pointwise
  unfold cacheBlock
  rw [show ∀ w : FVec Ideal S64x256 .f32, truncf (F := Ideal) .bf16 w bitsLt_bf16_f32 = w from fun _ => rfl, hy]
  show x _ = x _
  congr 1
  funext a
  apply Fin.ext
  match a with
  | ⟨0, _⟩ => rfl
  | ⟨1, _⟩ => show h.val + 1 * 0 = h.val; omega
  | ⟨2, _⟩ => show 0 + 1 * d.val = d.val; omega
  | ⟨3, _⟩ => show 256 * m.val + 1 * c.val = 256 * m.val + c.val; omega

theorem queries_at (Q : Fin 16 → Vec Ideal S1x64x64 .bf16) (h : Fin 16) (r d : Fin 64) :
    queries Q h (ix2 r d) = Q h (ix3 0 r d) := by
  pointwise [queries]

theorem run3_at (R : Vec Ideal S1x256x128 .f32) (a : Fin 256) (l : Fin 128) : run3 R (ix2 a l) = R (ix3 0 a l) := by
  pointwise [run3]

theorem headOf_at (x : Vec Ideal S1x64x1024 .f32) (h : Fin 16) (r d : Fin 64) :
    headOf x h (ix3 0 r d) = x (ix3 0 r ⟨64 * h.val + d.val, by omega⟩) := by
  pointwise [headOf]

theorem scaled_at (x : Vec Ideal S1x64x1024 .f32) (h : Fin 16) (r d : Fin 64) :
    scaled (F := Ideal) x h (ix3 0 r d) = x (ix3 0 r ⟨64 * h.val + d.val, by omega⟩) * ((1 / 8 * Cert.Sb.L : ℝ) : EReal) := by
  pointwise [scaled, headOf_at]
  rw [named_scale]

theorem newBlock_at (x : Vec Ideal S1x64x1024 .f32) (h : Fin 16) (d : Fin 64) (c : Fin 256) :
    newBlock (F := Ideal) x h (ix2 d c) = if hc : c.val < 64 then x (ix3 0 ⟨c.val, hc⟩ ⟨64 * h.val + d.val, by omega⟩) else 0 := by
  have hc := c.isLt
  pointwise [newBlock, headOf_at]

/-- A row's place in its head, as the kernel computes it. -/
theorem place_at : ∀ n : Fin 256, k0_pay24 (ix2 n (0 : Fin 256)) = BitVec.ofNat 32 (n.val % 64) := by
  decide +kernel

theorem seen_at (i : Fin 4) (r : Fin 64) (c : Fin 256) : seen (ix2 (rw4 i r) c) = if c.val < r.val then 1#1 else 0#1 := by
  have h : k0_pay24 (ix2 (rw4 i r) c) = k0_pay24 (ix2 (rw4 i r) (0 : Fin 256)) := by
    pointwise [k0_pay24]
  have h2 : seen (ix2 (rw4 i r) c) = IntOp.cmpi .slt (BitVec.ofNat 32 c.val) (k0_pay24 (ix2 (rw4 i r) c)) := by
    pointwise [seen]
  rw [h2, h, place_at]
  have h3 : (rw4 i r).val % 64 = r.val := by show (64 * i.val + r.val) % 64 = _; omega
  rw [h3]
  exact slt_ofNat _ _ (by omega) (by omega)

theorem headAt_at {e : EltTy} (x : Vec Ideal S16x64x64 e) (h : Fin 16) (r d : Fin 64) : headAt x h (ix3 0 r d) = x (ix3 h r d) := by
  pointwise [headAt]

theorem groupAt_at (x : Vec Ideal S4x256x128 .f32) (h : Fin 4) (r : Fin 256) (d : Fin 128) : groupAt x h (ix3 0 r d) = x (ix3 h r d) := by
  pointwise [groupAt]

end Cert.KernelIdeal.Sb
-- ==== Proof.SbSteps.lean ====
/-
  One group's blocks on real scores: after a block the carry holds the logarithm, to base two, of what the keys from
  there on leave, and what the block adds to a head's rows is its keys' weighted values.
-/
module

public import proofs.«01_k».proof.Proof.SbAt

@[expose] public section

noncomputable section
open Idealize.ShloMosaic Idealize.ShloMosaic.TcCoe Idealize.SL.Sem
namespace Cert.KernelIdeal.Sb
open Cert.KernelIdeal Cert.KernelIdeal.Gen Cert.Sb

section Group
variable (ue : Vec Ideal S256x384 .bf16) (hue : ∀ (k : Fin 256) (c : Fin 384), ue (ix2 k c) = ueE k c)
  (z : Fin 4 → Fin 64 → ℕ → ℝ) (v : Fin 4 → Fin 64 → ℕ → EReal)

/-- The carry, at the start `s` of what has been read. -/
def CarryIs (s : ℕ) (run : FVec Ideal S256x128 .f32) : Prop :=
  ∀ (i : Fin 4) (r : Fin 64) (l : Fin 128), run (ix2 (rw4 i r) l) = ((L * fromR (z i r) r.val s : ℝ) : EReal)

/-- A block's logarithms of what its keys leave. -/
def KeepIs (s : ℕ) (G : FVec Ideal S256x256 .f32) : Prop :=
  ∀ (i : Fin 4) (r : Fin 64) (k : Fin 256), G (ix2 (rw4 i r) k) = ((L * keepR (z i r) r.val (s + k.val) : ℝ) : EReal)

/-- A block's weights. -/
def WeightIs (s : ℕ) (W : FVec Ideal S256x256 .bf16) : Prop :=
  ∀ (i : Fin 4) (r : Fin 64) (k : Fin 256), W (ix2 (rw4 i r) k) = ((wR (z i r) r.val (s + k.val) : ℝ) : EReal)

include hue in
theorem carry_step (s : ℕ) (hs : s + 256 ≤ 4352) (run : FVec Ideal S256x128 .f32) (G : FVec Ideal S256x256 .f32)
    (hr : CarryIs z (s + 256) run) (hG : KeepIs z s G) : CarryIs z s (runAfter run (sums ue G)) := by
  intro i r l
  rw [runAfter_at, hr, sums_at]
  simp only [hue]
  exact block_total (z i r) r.val s hs _ (hG i r) _ (by show 256 ≤ 256 + l.val; omega)

include hue in
theorem weight_step (s : ℕ) (hs : s + 256 ≤ 4352) (run : FVec Ideal S256x128 .f32) (G T : FVec Ideal S256x256 .f32)
    (hr : CarryIs z (s + 256) run) (hG : KeepIs z s G) (i : Fin 4) (r : Fin 64) (k : Fin 256)
    (hT : T (ix2 (rw4 i r) k) = ((L * lsg (z i r (s + k.val)) : ℝ) : EReal)) (hk : s + k.val < 4096 + r.val) :
    weights run T (sums ue G) (ix2 (rw4 i r) k) = ((wR (z i r) r.val (s + k.val) : ℝ) : EReal) := by
  rw [weights_at, hT, hr, sums_at]
  simp only [hue]
  rw [block_after (z i r) r.val s hs _ (hG i r) k, exp2_weight]
  unfold wR
  rw [if_pos hk]

theorem read_step (s : ℕ) (W : FVec Ideal S256x256 .bf16) (hW : WeightIs z s W) (i : Fin 4) (B : FVec Ideal S64x256 .bf16)
    (hB : ∀ (d : Fin 64) (k : Fin 256), B (ix2 d k) = v i d (s + k.val)) (r d : Fin 64) :
    readOut W i B (ix2 r d) = ∑ k : Fin 256, ((wR (z i r) r.val (s + k.val) : ℝ) : EReal) * v i d (s + k.val) := by
  rw [readOut_at]
  refine Finset.sum_congr rfl fun k _ => ?_
  rw [hW, hB]

theorem take_of (Z : FVec Ideal S256x256 .f32) (R k : Fin 256) (x : ℝ) (hZ : Z (ix2 R k) = ((L * x : ℝ) : EReal)) :
    logTake Z (ix2 R k) = ((L * lsg x : ℝ) : EReal) := by
  rw [logTake_at, hZ, takeE_coe]

theorem keep_of (Z : FVec Ideal S256x256 .f32) (R k : Fin 256) (x : ℝ) (hZ : Z (ix2 R k) = ((L * x : ℝ) : EReal)) :
    logKeep Z (ix2 R k) = ((L * (lsg x - x) : ℝ) : EReal) := by
  rw [logKeep_at, hZ, takeE_coe, ← EReal.coe_sub, mul_sub]

/-! ### A chunk of the cache -/

section Chunk
variable (Q : Fin 16 → Vec Ideal S1x64x64 .bf16) (K V : Vec Ideal S1x16x64x1024 .f32) (c : Fin 4) (S : ℕ) (hS : S + 1024 ≤ 4096)
  (hz : ∀ (m : Fin 4) (i : Fin 4) (r : Fin 64) (k : Fin 256),
    zOf Q K c m (ix2 (rw4 i r) k) = ((L * z i r (S + 256 * m.val + k.val) : ℝ) : EReal))
  (hv : ∀ (m : Fin 4) (i : Fin 4) (d : Fin 64) (k : Fin 256), cacheBlock V m (hd c i) (ix2 d k) = v i d (S + 256 * m.val + k.val))

include hz hS in
theorem keep_chunk (m : Fin 4) : KeepIs z (S + 256 * m.val) (logKeep (zOf Q K c m)) := by
  intro i r k
  have hm := m.isLt
  have hk := k.isLt
  rw [keep_of _ _ _ _ (hz m i r k)]
  unfold keepR
  rw [if_pos (by omega)]

include hue hz hS in
theorem run_chunk (m : Fin 4) (run : FVec Ideal S256x128 .f32) (hr : CarryIs z (S + 256 * m.val + 256) run) :
    CarryIs z (S + 256 * m.val) (runAfter run (eOf ue Q K c m)) :=
  carry_step ue hue z _ (by have := m.isLt; omega) run _ hr (keep_chunk z Q K c S hS hz m)

include hue hz hS in
theorem weight_chunk (m : Fin 4) (run : FVec Ideal S256x128 .f32) (hr : CarryIs z (S + 256 * m.val + 256) run) :
    WeightIs z (S + 256 * m.val) (wOf ue Q K c m run) := by
  intro i r k
  have hm := m.isLt
  have hk := k.isLt
  exact weight_step ue hue z _ (by omega) run _ _ hr (keep_chunk z Q K c S hS hz m) i r k (take_of _ _ _ _ (hz m i r k)) (by omega)

variable (R : Vec Ideal S1x256x128 .f32) (hR : CarryIs z (S + 1024) (run3 R))

include hue hz hS hR in
theorem run2_is : CarryIs z (S + 768) (run2 ue Q K c R) := run_chunk ue hue z Q K c S hS hz 3 _ hR
include hue hz hS hR in
theorem run1_is : CarryIs z (S + 512) (run1 ue Q K c R) := run_chunk ue hue z Q K c S hS hz 2 _ (run2_is ue hue z Q K c S hS hz R hR)
include hue hz hS hR in
theorem run0_is : CarryIs z (S + 256) (run0 ue Q K c R) := run_chunk ue hue z Q K c S hS hz 1 _ (run1_is ue hue z Q K c S hS hz R hR)
include hue hz hS hR in
theorem runEnd_is : CarryIs z S (runEnd ue Q K c R) := run_chunk ue hue z Q K c S hS hz 0 _ (run0_is ue hue z Q K c S hS hz R hR)

theorem carryChunk_at (a : Fin 256) (l : Fin 128) : carryChunk ue Q K c R (ix3 0 a l) = runEnd ue Q K c R (ix2 a l) := by
  unfold carryChunk
  generalize runEnd ue Q K c R = y
  pointwise

theorem run3_carryChunk (a : Fin 256) (l : Fin 128) : run3 (carryChunk ue Q K c R) (ix2 a l) = runEnd ue Q K c R (ix2 a l) := by
  rw [run3_at, carryChunk_at]

include hue hz hS hR in
theorem carry_chunk : CarryIs z S (run3 (carryChunk ue Q K c R)) := by
  intro i r l
  rw [run3_carryChunk]
  exact runEnd_is ue hue z Q K c S hS hz R hR i r l

include hue hz hv hS in
/-- One block of the chunk adds its weighted values. -/
theorem out_step (m : Fin 4) (T T' : ℕ) (hT : T = S + 256 * m.val) (hT' : T' = S + 256 * m.val + 256) (run : FVec Ideal S256x128 .f32)
    (hr : CarryIs z T' run) (i : Fin 4) (r d : Fin 64) :
    outR (z i r) r.val (v i d) T' + readOut (wOf ue Q K c m run) i (cacheBlock V m (hd c i)) (ix2 r d) = outR (z i r) r.val (v i d) T := by
  subst hT hT'
  rw [read_step z v _ _ (weight_chunk ue hue z Q K c S hS hz m run hr) i _ (hv m i)]
  exact out_block (z i r) r.val (v i d) _ (by have := m.isLt; omega)

theorem chain {a3 a2 a1 a0 e b3 b2 b1 b0 : EReal} (h3 : a3 + b3 = a2) (h2 : a2 + b2 = a1) (h1 : a1 + b1 = a0) (h0 : a0 + b0 = e) :
    a3 + (b3 + b2 + b1 + b0) = e := by
  rw [← h0, ← h1, ← h2, ← h3, ← add_assoc, ← add_assoc, ← add_assoc]

theorem chunkOut_at (i : Fin 4) (r d : Fin 64) : chunkOut ue Q K V c i R (ix2 r d) = readOut (wOf ue Q K c 3 (run3 R)) i (cacheBlock V 3 (hd c i)) (ix2 r d)
      + readOut (wOf ue Q K c 2 (run2 ue Q K c R)) i (cacheBlock V 2 (hd c i)) (ix2 r d)
      + readOut (wOf ue Q K c 1 (run1 ue Q K c R)) i (cacheBlock V 1 (hd c i)) (ix2 r d)
      + readOut (wOf ue Q K c 0 (run0 ue Q K c R)) i (cacheBlock V 0 (hd c i)) (ix2 r d) := rfl

include hue hz hv hS hR in
theorem out_chunk (i : Fin 4) (r d : Fin 64) :
    outR (z i r) r.val (v i d) (S + 1024) + chunkOut ue Q K V c i R (ix2 r d) = outR (z i r) r.val (v i d) S := by
  rw [chunkOut_at]
  exact chain (out_step ue hue z v Q K V c S hS hz hv 3 (S + 768) (S + 1024) rfl rfl _ hR i r d)
    (out_step ue hue z v Q K V c S hS hz hv 2 (S + 512) (S + 768) rfl rfl _ (run2_is ue hue z Q K c S hS hz R hR) i r d)
    (out_step ue hue z v Q K V c S hS hz hv 1 (S + 256) (S + 512) rfl rfl _ (run1_is ue hue z Q K c S hS hz R hR) i r d)
    (out_step ue hue z v Q K V c S hS hz hv 0 S (S + 256) rfl rfl _ (run0_is ue hue z Q K c S hS hz R hR) i r d)

end Chunk

/-! ### The tokens' own block -/

section Fresh
variable (Q : Fin 16 → Vec Ideal S1x64x64 .bf16) (K V : Vec Ideal S1x64x1024 .f32) (c : Fin 4)
  (hz : ∀ (i : Fin 4) (r : Fin 64) (k : Fin 256), k.val < r.val → zNew Q K c (ix2 (rw4 i r) k) = ((L * z i r (4096 + k.val) : ℝ) : EReal))
  (hv : ∀ (i : Fin 4) (d : Fin 64) (k : Fin 256), newBlock V (hd c i) (ix2 d k) = v i d (4096 + k.val))

theorem select_seen (A : FVec Ideal S256x256 .f32) (i : Fin 4) (r : Fin 64) (k : Fin 256) :
    select seen A (broadcast S256x256 (Scalar.ofBits .f32 0x00000000#32)) (ix2 (rw4 i r) k) = if k.val < r.val then A (ix2 (rw4 i r) k) else 0 := by
  pointwise
  rw [seen_at]
  by_cases h : k.val < r.val
  · rw [if_pos h, if_pos h]; rfl
  · rw [if_neg h, if_neg h]; rfl

include hz in
theorem keep_new : KeepIs z 4096 (select seen (logKeep (zNew Q K c)) (broadcast S256x256 (Scalar.ofBits .f32 0x00000000#32))) := by
  intro i r k
  rw [select_seen]
  unfold keepR
  by_cases h : k.val < r.val
  · rw [if_pos h, if_pos (by omega), keep_of _ _ _ _ (hz i r k h)]
  · rw [if_neg h, if_neg (by omega), mul_zero]; rfl

variable (R : Vec Ideal S1x256x128 .f32) (hR : CarryIs z 4352 (run3 R))

include hue hz hR in
theorem carry_new : CarryIs z 4096 (run3 (carryNew ue Q K c R)) := by
  have h := carry_step ue hue z 4096 (by omega) (run3 R) _ hR (keep_new z Q K c hz)
  intro i r l
  rw [← h i r l, run3_at]
  show shapeCast S1x256x128 (runAfter (run3 R) (eNew ue Q K c)) shapeCasts_S256x128_S1x256x128 (ix3 0 (rw4 i r) l) = runAfter (run3 R) (eNew ue Q K c) (ix2 (rw4 i r) l)
  generalize runAfter (run3 R) (eNew ue Q K c) = y
  pointwise

include hue hz hR in
theorem weight_new : WeightIs z 4096 (wNew ue Q K c R) := by
  intro i r k
  refine (select_seen (weights (run3 R) (logTake (zNew Q K c)) (eNew ue Q K c)) i r k).trans ?_
  by_cases h : k.val < r.val
  · rw [if_pos h]
    exact weight_step ue hue z 4096 (by omega) (run3 R) _ _ hR (keep_new z Q K c hz) i r k (take_of _ _ _ _ (hz i r k h)) (by omega)
  · rw [if_neg h]
    unfold wR
    rw [if_neg (by omega)]; rfl

include hue hz hv hR in
theorem out_new (i : Fin 4) (r d : Fin 64) : newOut ue Q K V c i R (ix2 r d) = outR (z i r) r.val (v i d) 4096 := by
  rw [← out_block (z i r) r.val (v i d) 4096 (by omega)]
  unfold newOut
  rw [read_step z v _ _ (weight_new ue hue z Q K c hz R hR) i _ (hv i)]
  have h0 : outR (z i r) r.val (v i d) (4096 + 256) = 0 := by
    unfold outR
    rw [Finset.Ico_self, Finset.sum_empty]
  rw [h0, zero_add]

end Fresh

end Group

end Cert.KernelIdeal.Sb
-- ==== Proof.SbState.lean ====
/-
  What a point of the attention leaves in the kept state, from what the point before left: the carried logarithms and the
  weighted values of all the keys read so far.
-/
module

public import proofs.«01_k».proof.Proof.SbReference
public import proofs.«01_k».proof.Proof.SbSteps

@[expose] public section

noncomputable section

open Idealize.ShloMosaic Idealize.ShloMosaic.TcCoe Idealize.SL.Sem

namespace Cert.KernelIdeal.Sb

open Cert.KernelIdeal Cert.KernelIdeal.Gen Cert.Sb

variable {P : Rows} {CK : Cache} (CV : Cache) (hf : Finite P CK) (n : Fin 32)
  (ue : Vec Ideal S256x384 .bf16) (hue : ∀ k c, ue (ix2 k c) = ueE k c)

/-- The scores and the values of a group's heads. -/
abbrev zz (P : Rows) (CK : Cache) (n : Fin 32) (c : Fin 4) : Fin 4 → Fin 64 → ℕ → ℝ := fun i r p => scoreR P CK n (hd c i) r p
abbrev vv (P : Rows) (CV : Cache) (n : Fin 32) (c : Fin 4) : Fin 4 → Fin 64 → ℕ → EReal := fun i d p => entry 2048 (by omega) P CV n (hd c i) d p

/-- The stored queries. -/
def QueriesAre (P : Rows) (n : Fin 32) (Q : Fin 16 → Vec Ideal S1x64x64 .bf16) : Prop :=
  ∀ (h : Fin 16) (r d : Fin 64), Q h (ix3 0 r d) = P (ix3 n r (colOf 0 (by omega) h d)) * ((1 / 8 * L : ℝ) : EReal)

/-- A chunk of the cache. -/
def ChunkIs (C : Cache) (n : Fin 32) (S : ℕ) (hS : S + 1024 ≤ 4096) (X : Vec Ideal S1x16x64x1024 .f32) : Prop :=
  ∀ (h : Fin 16) (d : Fin 64) (k : Fin 1024), X (ix4 0 h d k) = C (ix4 n ⟨S + k.val, by omega⟩ h d)

/-- A block of columns of the projections. -/
def ColsAre (P : Rows) (n : Fin 32) (off : ℕ) (ho : off ≤ 2048) (X : Vec Ideal S1x64x1024 .f32) : Prop :=
  ∀ (r : Fin 64) (k : Fin 1024), X (ix3 0 r k) = P (ix3 n r ⟨off + k.val, by omega⟩)

theorem hd_grp (h : Fin 16) : hd (grp h) (pos h) = h := Fin.ext (by show 4 * (h.val / 4) + h.val % 4 = h.val; omega)

theorem zz_grp (h : Fin 16) (r : Fin 64) : zz P CK n (grp h) (pos h) r = scoreR P CK n h r := by
  show scoreR P CK n (hd (grp h) (pos h)) r = _
  rw [hd_grp]

theorem vv_grp (h : Fin 16) (d : Fin 64) : vv P CV n (grp h) (pos h) d = entry 2048 (by omega) P CV n h d := by
  show entry 2048 (by omega) P CV n (hd (grp h) (pos h)) d = _
  rw [hd_grp]

theorem cols_at {off : ℕ} {ho : off ≤ 2048} {X : Vec Ideal S1x64x1024 .f32} (hX : ColsAre P n off ho X) (h : Fin 16) (r d : Fin 64) :
    X (ix3 0 r ⟨64 * h.val + d.val, by omega⟩) = P (ix3 n r (colOf off ho h d)) := by
  rw [hX]
  congr 2
  apply Fin.ext
  show off + (64 * h.val + d.val) = off + 64 * h.val + d.val
  omega

theorem scaled_are {X : Vec Ideal S1x64x1024 .f32} (hX : ColsAre P n 0 (by omega) X) : QueriesAre P n (scaled X) := by
  intro h r d
  rw [scaled_at, cols_at n hX]

theorem block_at {C : Cache} (off : ℕ) (ho : off ≤ 2048) {S : ℕ} {hS : S + 1024 ≤ 4096} {X : Vec Ideal S1x16x64x1024 .f32} (hX : ChunkIs C n S hS X)
    (m : Fin 4) (h : Fin 16) (d : Fin 64) (k : Fin 256) :
    cacheBlock X m h (ix2 d k) = entry off ho P C n h d (S + 256 * m.val + k.val) := by
  have hm := m.isLt
  have hk := k.isLt
  rw [cacheBlock_at, hX]
  unfold entry
  rw [dif_pos (show S + 256 * m.val + k.val < 4096 by omega)]
  congr 2
  apply Fin.ext
  show S + (256 * m.val + k.val) = S + 256 * m.val + k.val
  omega

theorem new_at (C : Cache) {off : ℕ} {ho : off ≤ 2048} {X : Vec Ideal S1x64x1024 .f32} (hX : ColsAre P n off ho X) (h : Fin 16) (d : Fin 64) (k : Fin 256) :
    newBlock X h (ix2 d k) = entry off ho P C n h d (4096 + k.val) := by
  rw [newBlock_at]
  unfold entry
  rw [dif_neg (show ¬ 4096 + k.val < 4096 by omega)]
  by_cases hk : k.val < 64
  · rw [dif_pos hk, dif_pos (show 4096 + k.val < 4160 by omega), cols_at n hX]
    have e : (⟨k.val, hk⟩ : Fin 64) = ⟨4096 + k.val - 4096, by omega⟩ := Fin.ext (Nat.add_sub_cancel_left 4096 k.val).symm
    rw [e]
  · rw [dif_neg hk, dif_neg (show ¬ 4096 + k.val < 4160 by omega)]

section Chunk
variable {Q : Fin 16 → Vec Ideal S1x64x64 .bf16} (hQ : QueriesAre P n Q) {K V : Vec Ideal S1x16x64x1024 .f32} {S : ℕ} {hS : S + 1024 ≤ 4096}
  (hK : ChunkIs CK n S hS K) (hV : ChunkIs CV n S hS V)

include hf hQ hK in
theorem z_chunk (c m i : Fin 4) (r : Fin 64) (k : Fin 256) :
    zOf Q K c m (ix2 (rw4 i r) k) = ((L * zz P CK n c i r (S + 256 * m.val + k.val) : ℝ) : EReal) := by
  unfold zOf
  rw [scores_at, ← score_scaled hf]
  refine Finset.sum_congr rfl fun d _ => ?_
  rw [queries_at, hQ, block_at (P := P) n 1024 (by omega) hK]

include hf hQ hK hue in
theorem carry_chunk_is (c : Fin 4) (R : Vec Ideal S1x256x128 .f32) (hR : CarryIs (zz P CK n c) (S + 1024) (run3 R)) :
    CarryIs (zz P CK n c) S (run3 (carryChunk ue Q K c R)) :=
  carry_chunk ue hue _ Q K c S hS (z_chunk hf n hQ hK c) R hR

include hf hQ hK hV hue in
theorem acc_chunk_is (h : Fin 16) (R : Vec Ideal S1x256x128 .f32) (hR : CarryIs (zz P CK n (grp h)) (S + 1024) (run3 R))
    (A : Vec Ideal S1x64x64 .f32) (r d : Fin 64) (hA : A (ix3 0 r d) = outR (scoreR P CK n h r) r.val (entry 2048 (by omega) P CV n h d) (S + 1024)) :
    accAfter A (chunkOut ue Q K V (grp h) (pos h) R) (ix3 0 r d) = outR (scoreR P CK n h r) r.val (entry 2048 (by omega) P CV n h d) S := by
  have e := out_chunk ue hue (zz P CK n (grp h)) (vv P CV n (grp h)) Q K V (grp h) S hS (z_chunk hf n hQ hK (grp h))
    (fun m i d k => block_at (P := P) n 2048 (by omega) hV m (hd (grp h) i) d k) R hR (pos h) r d
  rw [zz_grp, vv_grp] at e
  rw [accAfter_at, hA, e]

end Chunk

section Fresh
variable {Q : Fin 16 → Vec Ideal S1x64x64 .bf16} (hQ : QueriesAre P n Q) {K V : Vec Ideal S1x64x1024 .f32}
  (hK : ColsAre P n 1024 (by omega) K) (hV : ColsAre P n 2048 (by omega) V)

include hf hQ hK in
theorem z_new (c i : Fin 4) (r : Fin 64) (k : Fin 256) :
    zNew Q K c (ix2 (rw4 i r) k) = ((L * zz P CK n c i r (4096 + k.val) : ℝ) : EReal) := by
  unfold zNew
  rw [scores_at, ← score_scaled hf]
  refine Finset.sum_congr rfl fun d _ => ?_
  rw [queries_at, hQ, new_at n CK hK]

include hf hQ hK hue in
theorem carry_new_is (c : Fin 4) (R : Vec Ideal S1x256x128 .f32) (hR : CarryIs (zz P CK n c) 4352 (run3 R)) :
    CarryIs (zz P CK n c) 4096 (run3 (carryNew ue Q K c R)) :=
  carry_new ue hue _ Q K c (fun i r k _ => z_new hf n hQ hK c i r k) R hR

include hf hQ hK hV hue in
theorem acc_new_is (h : Fin 16) (R : Vec Ideal S1x256x128 .f32) (hR : CarryIs (zz P CK n (grp h)) 4352 (run3 R))
    (A : Vec Ideal S1x64x64 .f32) (r d : Fin 64) (hA : A (ix3 0 r d) = 0) :
    accAfter A (newOut ue Q K V (grp h) (pos h) R) (ix3 0 r d) = outR (scoreR P CK n h r) r.val (entry 2048 (by omega) P CV n h d) 4096 := by
  have e := out_new ue hue (zz P CK n (grp h)) (vv P CV n (grp h)) Q K V (grp h) (fun i r k _ => z_new hf n hQ hK (grp h) i r k)
    (fun i d k => new_at n CV hV (hd (grp h) i) d k) R hR (pos h) r d
  rw [zz_grp, vv_grp] at e
  rw [accAfter_at, hA, zero_add, e]

end Fresh

/-! ## The state -/

/-- The state after the keys from `S` on. -/
structure StateIs (P : Rows) (CK CV : Cache) (n : Fin 32) (S : ℕ) (q : Vec Ideal S16x64x64 .bf16) (R : Vec Ideal S4x256x128 .f32) (A : Vec Ideal S16x64x64 .f32) : Prop where
  queries : QueriesAre P n (headAt q)
  carry : ∀ c, CarryIs (zz P CK n c) S (run3 (groupAt R c))
  acc : ∀ (h : Fin 16) (r d : Fin 64), headAt A h (ix3 0 r d) = outR (scoreR P CK n h r) r.val (entry 2048 (by omega) P CV n h d) S

theorem head_ofHeads {e : EltTy} (G : Fin 16 → Vec Ideal S1x64x64 e) (h : Fin 16) (r d : Fin 64) : headAt (ofHeads G) h (ix3 0 r d) = G h (ix3 0 r d) :=
  headAt_at (ofHeads G) h r d

theorem run3_ofGroups (G : Fin 4 → Vec Ideal S1x256x128 .f32) (g : Fin 4) (a : Fin 256) (l : Fin 128) :
    run3 (groupAt (ofGroups G) g) (ix2 a l) = run3 (G g) (ix2 a l) := by
  rw [run3_at, run3_at]
  exact groupAt_at (ofGroups G) g a l

include hf hue in
theorem state_chunk {q : Vec Ideal S16x64x64 .bf16} {R : Vec Ideal S4x256x128 .f32} {A : Vec Ideal S16x64x64 .f32} {K V : Vec Ideal S1x16x64x1024 .f32}
    (S : ℕ) (hS : S + 1024 ≤ 4096) (hK : ChunkIs CK n S hS K) (hV : ChunkIs CV n S hS V) (h : StateIs P CK CV n (S + 1024) q R A) :
    StateIs P CK CV n S q (ofGroups fun g => carryChunk ue (headAt q) K g (groupAt R g))
      (ofHeads fun h => accAfter (headAt A h) (chunkOut ue (headAt q) K V (grp h) (pos h) (groupAt R (grp h)))) where
  queries := h.queries
  carry c := by
    intro i r l
    rw [run3_ofGroups]
    exact carry_chunk_is hf n ue hue h.queries hK c _ (h.carry c) i r l
  acc hh r d := by
    rw [head_ofHeads]
    exact acc_chunk_is CV hf n ue hue h.queries hK hV hh _ (h.carry _) _ r d (h.acc hh r d)

theorem carry_start (R : Vec Ideal S4x256x128 .f32) (hR : ∀ j, R j = 0) (c : Fin 4) : CarryIs (zz P CK n c) 4352 (run3 (groupAt R c)) := by
  intro i r l
  rw [run3_at, groupAt_at, hR]
  unfold fromR
  rw [Finset.Ico_self, Finset.sum_empty, mul_zero]
  rfl

include hf hue in
theorem state_first {R : Vec Ideal S4x256x128 .f32} {A : Vec Ideal S16x64x64 .f32} (hR : ∀ j, R j = 0) (hA : ∀ j, A j = 0)
    {X0 X1 X2 : Vec Ideal S1x64x1024 .f32} {K V : Vec Ideal S1x16x64x1024 .f32} {o0 : 0 ≤ 2048} {o1 : 1024 ≤ 2048} {o2 : 2048 ≤ 2048}
    {hS : 3072 + 1024 ≤ 4096} (h0 : ColsAre P n 0 o0 X0) (h1 : ColsAre P n 1024 o1 X1) (h2 : ColsAre P n 2048 o2 X2)
    (hK : ChunkIs CK n 3072 hS K) (hV : ChunkIs CV n 3072 hS V) :
    StateIs P CK CV n 3072 (ofHeads (scaled X0))
      (ofGroups fun g => carryChunk ue (scaled X0) K g (carryNew ue (scaled X0) X1 g (groupAt R g)))
      (ofHeads fun h => accAfter (accAfter (headAt A h) (newOut ue (scaled X0) X1 X2 (grp h) (pos h) (groupAt R (grp h))))
        (chunkOut ue (scaled X0) K V (grp h) (pos h) (carryNew ue (scaled X0) X1 (grp h) (groupAt R (grp h))))) where
  queries := by
    intro h r d
    rw [head_ofHeads]
    exact scaled_are n h0 h r d
  carry c := by
    intro i r l
    rw [run3_ofGroups]
    exact carry_chunk_is hf n ue hue (scaled_are n h0) hK c _ (carry_new_is hf n ue hue (scaled_are n h0) h1 c _ (carry_start n R hR c)) i r l
  acc hh r d := by
    rw [head_ofHeads]
    exact acc_chunk_is CV hf n ue hue (scaled_are n h0) hK hV hh _ (carry_new_is hf n ue hue (scaled_are n h0) h1 _ _ (carry_start n R hR _)) _ r d
      (acc_new_is CV hf n ue hue (scaled_are n h0) h1 h2 hh _ (carry_start n R hR _) _ r d (by rw [headAt_at, hA]))

end Cert.KernelIdeal.Sb

end
-- ==== Proof.SbFirst.lean ====
module

public import proofs.«01_k».proof.Proof.SbBlock

@[expose] public section

set_option maxHeartbeats 4000000
noncomputable section
open Idealize.ShloMosaic Idealize.ShloMosaic.TcCoe Idealize.ShloMosaic.ValueIdx Idealize.SL.Sem
namespace Cert.KernelIdeal.Sb
open Cert.KernelIdeal Cert.KernelIdeal.Gen
variable {F : FTy → Type} [FloatOps F] [Named F]
variable (c : Dev nD) (i : grid0.Coords)
  (a2 : Memref sig .tc .vmem S1x64x1024 .f32) (h2 : a2.IsWhole) (a3 : Memref sig .tc .vmem S1x64x1024 .f32) (h3 : a3.IsWhole)
  (a4 : Memref sig .tc .vmem S1x64x1024 .f32) (h4 : a4.IsWhole) (a5 : Memref sig .tc .vmem S1x16x64x1024 .f32) (h5 : a5.IsWhole)
  (a6 : Memref sig .tc .vmem S1x16x64x1024 .f32) (h6 : a6.IsWhole) (a7 : Memref sig .tc .vmem S256x384 .bf16) (h7 : a7.IsWhole)
  (a8 : Memref sig .tc .vmem S1x64x1024 .f32) (h8 : a8.IsWhole) (a9 : Memref sig .tc .vmem S16x64x64 .bf16) (h9 : a9.IsWhole)
  (a10 : Memref sig .tc .vmem S4x256x128 .f32) (h10 : a10.IsWhole) (a11 : Memref sig .tc .vmem S16x64x64 .f32) (h11 : a11.IsWhole)
  (x0 x1 x2 : Vec F S1x64x1024 .f32) (x3 x4 : Vec F S1x16x64x1024 .f32) (x5 : Vec F S256x384 .bf16) (xs0 : Vec F S16x64x64 .bf16) (xs1 : Vec F S4x256x128 .f32) (xs2 : Vec F S16x64x64 .f32)

theorem acc_A (hc0 : cond0_0 i) (hc1 : ¬cond0_1 i) :
    sout0_A_2 c i a2 h2 a3 h3 a4 h4 a5 h5 a6 h6 a7 h7 a8 h8 a9 h9 a10 h10 a11 h11 hc0 hc1 x0 x1 x2 x3 x4 x5
      = ofHeads fun h => accAfter (accAfter (headAt k0_pay4 h) (newOut x5 (scaled x0) x1 x2 (grp h) (pos h) (groupAt k0_pay3 (grp h))))
          (chunkOut x5 (scaled x0) x3 x4 (grp h) (pos h) (carryNew x5 (scaled x0) x1 (grp h) (groupAt k0_pay3 (grp h)))) := by
  funext y
  unfold sout0_A_2
  rw [View.read_writes_junk_eq_canon]
  unfold kernelRun0_A
  dsimp only
  sl_unfold_words
  simp (disch := decide) only [↓ wide_eq, ↓ padded_eq, ↓ View.readCov_skip, ↓ View.readCov_cons_toLoadRect, ↓ View.readCov_fill, View.readAt_eq_ld, h2.read_unread, h3.read_unread, h4.read_unread, h5.read_unread, h6.read_unread, h7.read_unread, h9.read_unread, h10.read_unread, h11.read_unread]
  rw [ld_ue]
  refine View.canon_append_of_piecesOf (s := S16x64x64) _ _ [_, _, _, _, _, _, _, _, _, _, _, _, _, _, _, _]
    ⟨piece_head _ 15 (inb_head 15) _ ?_, piece_head _ 14 (inb_head 14) _ ?_, piece_head _ 13 (inb_head 13) _ ?_, piece_head _ 12 (inb_head 12) _ ?_, piece_head _ 11 (inb_head 11) _ ?_, piece_head _ 10 (inb_head 10) _ ?_, piece_head _ 9 (inb_head 9) _ ?_, piece_head _ 8 (inb_head 8) _ ?_, piece_head _ 7 (inb_head 7) _ ?_, piece_head _ 6 (inb_head 6) _ ?_, piece_head _ 5 (inb_head 5) _ ?_, piece_head _ 4 (inb_head 4) _ ?_, piece_head _ 3 (inb_head 3) _ ?_, piece_head _ 2 (inb_head 2) _ ?_, piece_head _ 1 (inb_head 1) _ ?_, piece_head _ 0 (inb_head 0) _ ?_, trivial⟩ y
    (View.cover_of_tiledL (s := S16x64x64) _ S1x64x64.size (by sl_kernel_rfl) y)
  all_goals exact rfl

end Cert.KernelIdeal.Sb
-- ==== Proof.SbMiddle.lean ====
module

public import proofs.«01_k».proof.Proof.SbBlock

@[expose] public section

set_option maxHeartbeats 4000000
noncomputable section
open Idealize.ShloMosaic Idealize.ShloMosaic.TcCoe Idealize.ShloMosaic.ValueIdx Idealize.SL.Sem
namespace Cert.KernelIdeal.Sb
open Cert.KernelIdeal Cert.KernelIdeal.Gen
variable {F : FTy → Type} [FloatOps F] [Named F]
variable (c : Dev nD) (i : grid0.Coords)
  (a2 : Memref sig .tc .vmem S1x64x1024 .f32) (h2 : a2.IsWhole) (a3 : Memref sig .tc .vmem S1x64x1024 .f32) (h3 : a3.IsWhole)
  (a4 : Memref sig .tc .vmem S1x64x1024 .f32) (h4 : a4.IsWhole) (a5 : Memref sig .tc .vmem S1x16x64x1024 .f32) (h5 : a5.IsWhole)
  (a6 : Memref sig .tc .vmem S1x16x64x1024 .f32) (h6 : a6.IsWhole) (a7 : Memref sig .tc .vmem S256x384 .bf16) (h7 : a7.IsWhole)
  (a8 : Memref sig .tc .vmem S1x64x1024 .f32) (h8 : a8.IsWhole) (a9 : Memref sig .tc .vmem S16x64x64 .bf16) (h9 : a9.IsWhole)
  (a10 : Memref sig .tc .vmem S4x256x128 .f32) (h10 : a10.IsWhole) (a11 : Memref sig .tc .vmem S16x64x64 .f32) (h11 : a11.IsWhole)
  (x0 x1 x2 : Vec F S1x64x1024 .f32) (x3 x4 : Vec F S1x16x64x1024 .f32) (x5 : Vec F S256x384 .bf16) (xs0 : Vec F S16x64x64 .bf16) (xs1 : Vec F S4x256x128 .f32) (xs2 : Vec F S16x64x64 .f32)

theorem carry_B (hc0 : ¬cond0_0 i) (hc1 : ¬cond0_1 i) :
    sout0_B_1 c i a2 h2 a3 h3 a4 h4 a5 h5 a6 h6 a7 h7 a8 h8 a9 h9 a10 h10 a11 h11 hc0 hc1 x0 x1 x2 x3 x4 x5 xs0 xs1 xs2
      = ofGroups fun g => carryChunk x5 (headAt xs0) x3 g (groupAt xs1 g) := by
  funext y
  unfold sout0_B_1
  rw [View.read_writes_junk_eq_canon]
  refine View.canon_apply_of_pieces _ _ (View.PiecesOf.mem ?_) y (scover0_B_1 c i a2 h2 a3 h3 a4 h4 a5 h5 a6 h6 a7 h7 a8 h8 a9 h9 a10 h10 a11 h11 hc0 hc1 x0 x1 x2 x3 x4 x5 xs0 xs1 xs2 y)
  unfold kernelRun0_B
  dsimp only
  sl_unfold_words
  simp (disch := decide) only [↓ View.readCov_skip, ↓ View.readCov_cons_toLoadRect, ↓ View.readCov_fill, View.readAt_eq_ld, h2.read_unread, h3.read_unread, h4.read_unread, h5.read_unread, h6.read_unread, h7.read_unread, h9.read_unread, h10.read_unread, h11.read_unread, ld_ue]
  try rw [h2.read_unread]
  try rw [h3.read_unread]
  try rw [h4.read_unread]
  try rw [ld_ue]
  refine ⟨piece_group _ 3 (inb_group 3) _ ?_, piece_group _ 2 (inb_group 2) _ ?_, piece_group _ 1 (inb_group 1) _ ?_, piece_group _ 0 (inb_group 0) _ ?_, trivial⟩
  all_goals exact rfl

theorem acc_B (hc0 : ¬cond0_0 i) (hc1 : ¬cond0_1 i) :
    sout0_B_2 c i a2 h2 a3 h3 a4 h4 a5 h5 a6 h6 a7 h7 a8 h8 a9 h9 a10 h10 a11 h11 hc0 hc1 x0 x1 x2 x3 x4 x5 xs0 xs1 xs2
      = ofHeads fun h => accAfter (headAt xs2 h) (chunkOut x5 (headAt xs0) x3 x4 (grp h) (pos h) (groupAt xs1 (grp h))) := by
  funext y
  unfold sout0_B_2
  rw [View.read_writes_junk_eq_canon]
  refine View.canon_apply_of_pieces _ _ (View.PiecesOf.mem ?_) y (scover0_B_2 c i a2 h2 a3 h3 a4 h4 a5 h5 a6 h6 a7 h7 a8 h8 a9 h9 a10 h10 a11 h11 hc0 hc1 x0 x1 x2 x3 x4 x5 xs0 xs1 xs2 y)
  unfold kernelRun0_B
  dsimp only
  sl_unfold_words
  simp (disch := decide) only [↓ View.readCov_skip, ↓ View.readCov_cons_toLoadRect, ↓ View.readCov_fill, View.readAt_eq_ld, h2.read_unread, h3.read_unread, h4.read_unread, h5.read_unread, h6.read_unread, h7.read_unread, h9.read_unread, h10.read_unread, h11.read_unread, ld_ue]
  try rw [h2.read_unread]
  try rw [h3.read_unread]
  try rw [h4.read_unread]
  try rw [ld_ue]
  refine ⟨piece_head _ 15 (inb_head 15) _ ?_, piece_head _ 14 (inb_head 14) _ ?_, piece_head _ 13 (inb_head 13) _ ?_, piece_head _ 12 (inb_head 12) _ ?_, piece_head _ 11 (inb_head 11) _ ?_, piece_head _ 10 (inb_head 10) _ ?_, piece_head _ 9 (inb_head 9) _ ?_, piece_head _ 8 (inb_head 8) _ ?_, piece_head _ 7 (inb_head 7) _ ?_, piece_head _ 6 (inb_head 6) _ ?_, piece_head _ 5 (inb_head 5) _ ?_, piece_head _ 4 (inb_head 4) _ ?_, piece_head _ 3 (inb_head 3) _ ?_, piece_head _ 2 (inb_head 2) _ ?_, piece_head _ 1 (inb_head 1) _ ?_, piece_head _ 0 (inb_head 0) _ ?_, trivial⟩
  all_goals exact rfl

end Cert.KernelIdeal.Sb
-- ==== Proof.SbFirstQueries.lean ====
module

public import proofs.«01_k».proof.Proof.SbBlock

@[expose] public section

set_option maxHeartbeats 4000000
noncomputable section
open Idealize.ShloMosaic Idealize.ShloMosaic.TcCoe Idealize.ShloMosaic.ValueIdx Idealize.SL.Sem
namespace Cert.KernelIdeal.Sb
open Cert.KernelIdeal Cert.KernelIdeal.Gen
variable {F : FTy → Type} [FloatOps F] [Named F]
variable (c : Dev nD) (i : grid0.Coords)
  (a2 : Memref sig .tc .vmem S1x64x1024 .f32) (h2 : a2.IsWhole) (a3 : Memref sig .tc .vmem S1x64x1024 .f32) (h3 : a3.IsWhole)
  (a4 : Memref sig .tc .vmem S1x64x1024 .f32) (h4 : a4.IsWhole) (a5 : Memref sig .tc .vmem S1x16x64x1024 .f32) (h5 : a5.IsWhole)
  (a6 : Memref sig .tc .vmem S1x16x64x1024 .f32) (h6 : a6.IsWhole) (a7 : Memref sig .tc .vmem S256x384 .bf16) (h7 : a7.IsWhole)
  (a8 : Memref sig .tc .vmem S1x64x1024 .f32) (h8 : a8.IsWhole) (a9 : Memref sig .tc .vmem S16x64x64 .bf16) (h9 : a9.IsWhole)
  (a10 : Memref sig .tc .vmem S4x256x128 .f32) (h10 : a10.IsWhole) (a11 : Memref sig .tc .vmem S16x64x64 .f32) (h11 : a11.IsWhole)
  (x0 x1 x2 : Vec F S1x64x1024 .f32) (x3 x4 : Vec F S1x16x64x1024 .f32) (x5 : Vec F S256x384 .bf16) (xs0 : Vec F S16x64x64 .bf16) (xs1 : Vec F S4x256x128 .f32) (xs2 : Vec F S16x64x64 .f32)

theorem queries_A (hc0 : cond0_0 i) (hc1 : ¬cond0_1 i) :
    sout0_A_0 c i a2 h2 a3 h3 a4 h4 a5 h5 a6 h6 a7 h7 a8 h8 a9 h9 a10 h10 a11 h11 hc0 hc1 x0 x1 x2 x3 x4 x5 = ofHeads (scaled x0) := by
  funext y
  unfold sout0_A_0
  rw [View.read_writes_junk_eq_canon]
  refine View.canon_apply_of_pieces _ _ (View.PiecesOf.mem ?_) y (scover0_A_0 c i a2 h2 a3 h3 a4 h4 a5 h5 a6 h6 a7 h7 a8 h8 a9 h9 a10 h10 a11 h11 hc0 hc1 x0 x1 x2 x3 x4 x5 y)
  unfold kernelRun0_A
  dsimp only
  sl_unfold_words
  simp (disch := decide) only [↓ wide_eq, ↓ padded_eq, ↓ View.readCov_skip, ↓ View.readCov_cons_toLoadRect, ↓ View.readCov_fill, View.readAt_eq_ld, h2.read_unread, h3.read_unread, h4.read_unread, h5.read_unread, h6.read_unread, h7.read_unread, h9.read_unread, h10.read_unread, h11.read_unread, ld_ue]
  refine ⟨piece_head _ 15 (inb_head 15) _ ?_, piece_head _ 14 (inb_head 14) _ ?_, piece_head _ 13 (inb_head 13) _ ?_, piece_head _ 12 (inb_head 12) _ ?_, piece_head _ 11 (inb_head 11) _ ?_, piece_head _ 10 (inb_head 10) _ ?_, piece_head _ 9 (inb_head 9) _ ?_, piece_head _ 8 (inb_head 8) _ ?_, piece_head _ 7 (inb_head 7) _ ?_, piece_head _ 6 (inb_head 6) _ ?_, piece_head _ 5 (inb_head 5) _ ?_, piece_head _ 4 (inb_head 4) _ ?_, piece_head _ 3 (inb_head 3) _ ?_, piece_head _ 2 (inb_head 2) _ ?_, piece_head _ 1 (inb_head 1) _ ?_, piece_head _ 0 (inb_head 0) _ ?_, trivial⟩
  all_goals exact rfl

end Cert.KernelIdeal.Sb
-- ==== Proof.SbFirstCarry.lean ====
module

public import proofs.«01_k».proof.Proof.SbBlock

@[expose] public section

set_option maxHeartbeats 4000000
noncomputable section
open Idealize.ShloMosaic Idealize.ShloMosaic.TcCoe Idealize.ShloMosaic.ValueIdx Idealize.SL.Sem
namespace Cert.KernelIdeal.Sb
open Cert.KernelIdeal Cert.KernelIdeal.Gen
variable {F : FTy → Type} [FloatOps F] [Named F]
variable (c : Dev nD) (i : grid0.Coords)
  (a2 : Memref sig .tc .vmem S1x64x1024 .f32) (h2 : a2.IsWhole) (a3 : Memref sig .tc .vmem S1x64x1024 .f32) (h3 : a3.IsWhole)
  (a4 : Memref sig .tc .vmem S1x64x1024 .f32) (h4 : a4.IsWhole) (a5 : Memref sig .tc .vmem S1x16x64x1024 .f32) (h5 : a5.IsWhole)
  (a6 : Memref sig .tc .vmem S1x16x64x1024 .f32) (h6 : a6.IsWhole) (a7 : Memref sig .tc .vmem S256x384 .bf16) (h7 : a7.IsWhole)
  (a8 : Memref sig .tc .vmem S1x64x1024 .f32) (h8 : a8.IsWhole) (a9 : Memref sig .tc .vmem S16x64x64 .bf16) (h9 : a9.IsWhole)
  (a10 : Memref sig .tc .vmem S4x256x128 .f32) (h10 : a10.IsWhole) (a11 : Memref sig .tc .vmem S16x64x64 .f32) (h11 : a11.IsWhole)
  (x0 x1 x2 : Vec F S1x64x1024 .f32) (x3 x4 : Vec F S1x16x64x1024 .f32) (x5 : Vec F S256x384 .bf16) (xs0 : Vec F S16x64x64 .bf16) (xs1 : Vec F S4x256x128 .f32) (xs2 : Vec F S16x64x64 .f32)

theorem carry_A (hc0 : cond0_0 i) (hc1 : ¬cond0_1 i) :
    sout0_A_1 c i a2 h2 a3 h3 a4 h4 a5 h5 a6 h6 a7 h7 a8 h8 a9 h9 a10 h10 a11 h11 hc0 hc1 x0 x1 x2 x3 x4 x5
      = ofGroups fun g => carryChunk x5 (scaled x0) x3 g (carryNew x5 (scaled x0) x1 g (groupAt k0_pay3 g)) := by
  funext y
  unfold sout0_A_1
  rw [View.read_writes_junk_eq_canon]
  unfold kernelRun0_A
  dsimp only
  sl_unfold_words
  simp (disch := decide) only [↓ wide_eq, ↓ padded_eq, ↓ View.readCov_skip, ↓ View.readCov_cons_toLoadRect, ↓ View.readCov_fill, View.readAt_eq_ld, h2.read_unread, h3.read_unread, h4.read_unread, h5.read_unread, h6.read_unread, h7.read_unread, h9.read_unread, h10.read_unread, h11.read_unread]
  rw [ld_ue]
  refine View.canon_append_of_piecesOf (s := S4x256x128) _ _ [_, _, _, _] ⟨piece_group _ 3 (inb_group 3) _ ?_, piece_group _ 2 (inb_group 2) _ ?_, piece_group _ 1 (inb_group 1) _ ?_, piece_group _ 0 (inb_group 0) _ ?_, trivial⟩ y
    (View.cover_of_tiledL (s := S4x256x128) _ S1x256x128.size (by sl_kernel_rfl) y)
  all_goals exact rfl

end Cert.KernelIdeal.Sb
-- ==== Proof.SbLast.lean ====
module

public import proofs.«01_k».proof.Proof.SbBlock

@[expose] public section

set_option maxHeartbeats 4000000
noncomputable section
open Idealize.ShloMosaic Idealize.ShloMosaic.TcCoe Idealize.ShloMosaic.ValueIdx Idealize.SL.Sem
namespace Cert.KernelIdeal.Sb
open Cert.KernelIdeal Cert.KernelIdeal.Gen
variable {F : FTy → Type} [FloatOps F] [Named F]
variable (c : Dev nD) (i : grid0.Coords)
  (a2 : Memref sig .tc .vmem S1x64x1024 .f32) (h2 : a2.IsWhole) (a3 : Memref sig .tc .vmem S1x64x1024 .f32) (h3 : a3.IsWhole)
  (a4 : Memref sig .tc .vmem S1x64x1024 .f32) (h4 : a4.IsWhole) (a5 : Memref sig .tc .vmem S1x16x64x1024 .f32) (h5 : a5.IsWhole)
  (a6 : Memref sig .tc .vmem S1x16x64x1024 .f32) (h6 : a6.IsWhole) (a7 : Memref sig .tc .vmem S256x384 .bf16) (h7 : a7.IsWhole)
  (a8 : Memref sig .tc .vmem S1x64x1024 .f32) (h8 : a8.IsWhole) (a9 : Memref sig .tc .vmem S16x64x64 .bf16) (h9 : a9.IsWhole)
  (a10 : Memref sig .tc .vmem S4x256x128 .f32) (h10 : a10.IsWhole) (a11 : Memref sig .tc .vmem S16x64x64 .f32) (h11 : a11.IsWhole)
  (x0 x1 x2 : Vec F S1x64x1024 .f32) (x3 x4 : Vec F S1x16x64x1024 .f32) (x5 : Vec F S256x384 .bf16) (xs0 : Vec F S16x64x64 .bf16) (xs1 : Vec F S4x256x128 .f32) (xs2 : Vec F S16x64x64 .f32)

/-- The sixteen heads side by side: the block of results. -/
def joined (G : Fin 16 → Vec F S1x64x64 .f32) : FVec F S1x64x1024 .f32 :=
  shapeCast S1x64x1024 (concatenate S64x1024 1
    [⟨S64x64, shapeCast S64x64 (G 0) shapeCasts_S1x64x64_S64x64⟩, ⟨S64x64, shapeCast S64x64 (G 1) shapeCasts_S1x64x64_S64x64⟩, ⟨S64x64, shapeCast S64x64 (G 2) shapeCasts_S1x64x64_S64x64⟩, ⟨S64x64, shapeCast S64x64 (G 3) shapeCasts_S1x64x64_S64x64⟩, ⟨S64x64, shapeCast S64x64 (G 4) shapeCasts_S1x64x64_S64x64⟩, ⟨S64x64, shapeCast S64x64 (G 5) shapeCasts_S1x64x64_S64x64⟩, ⟨S64x64, shapeCast S64x64 (G 6) shapeCasts_S1x64x64_S64x64⟩, ⟨S64x64, shapeCast S64x64 (G 7) shapeCasts_S1x64x64_S64x64⟩, ⟨S64x64, shapeCast S64x64 (G 8) shapeCasts_S1x64x64_S64x64⟩, ⟨S64x64, shapeCast S64x64 (G 9) shapeCasts_S1x64x64_S64x64⟩, ⟨S64x64, shapeCast S64x64 (G 10) shapeCasts_S1x64x64_S64x64⟩, ⟨S64x64, shapeCast S64x64 (G 11) shapeCasts_S1x64x64_S64x64⟩, ⟨S64x64, shapeCast S64x64 (G 12) shapeCasts_S1x64x64_S64x64⟩, ⟨S64x64, shapeCast S64x64 (G 13) shapeCasts_S1x64x64_S64x64⟩, ⟨S64x64, shapeCast S64x64 (G 14) shapeCasts_S1x64x64_S64x64⟩, ⟨S64x64, shapeCast S64x64 (G 15) shapeCasts_S1x64x64_S64x64⟩] concatenates_S64x64_S64x64_S64x64_S64x64_S64x64_S64x64_S64x64_S64x64_S64x64_S64x64_S64x64_S64x64_S64x64_S64x64_S64x64_S64x64_S64x1024_d1) shapeCasts_S64x1024_S1x64x1024

theorem carry_C (hc0 : ¬cond0_0 i) (hc1 : cond0_1 i) :
    sout0_C_1 c i a2 h2 a3 h3 a4 h4 a5 h5 a6 h6 a7 h7 a8 h8 a9 h9 a10 h10 a11 h11 hc0 hc1 x0 x1 x2 x3 x4 x5 xs0 xs1 xs2
      = ofGroups fun g => carryChunk x5 (headAt xs0) x3 g (groupAt xs1 g) := by
  funext y
  unfold sout0_C_1
  rw [View.read_writes_junk_eq_canon]
  refine View.canon_apply_of_pieces _ _ (View.PiecesOf.mem ?_) y (scover0_C_1 c i a2 h2 a3 h3 a4 h4 a5 h5 a6 h6 a7 h7 a8 h8 a9 h9 a10 h10 a11 h11 hc0 hc1 x0 x1 x2 x3 x4 x5 xs0 xs1 xs2 y)
  unfold kernelRun0_C
  dsimp only
  sl_unfold_words
  simp (disch := decide) only [↓ View.readCov_skip, ↓ View.readCov_cons_toLoadRect, ↓ View.readCov_fill, View.readAt_eq_ld, h2.read_unread, h3.read_unread, h4.read_unread, h5.read_unread, h6.read_unread, h7.read_unread, h9.read_unread, h10.read_unread, h11.read_unread, ld_ue]
  try rw [h2.read_unread]
  try rw [h3.read_unread]
  try rw [h4.read_unread]
  try rw [ld_ue]
  refine ⟨piece_group _ 3 (inb_group 3) _ ?_, piece_group _ 2 (inb_group 2) _ ?_, piece_group _ 1 (inb_group 1) _ ?_, piece_group _ 0 (inb_group 0) _ ?_, trivial⟩
  all_goals exact rfl

theorem acc_C (hc0 : ¬cond0_0 i) (hc1 : cond0_1 i) :
    sout0_C_2 c i a2 h2 a3 h3 a4 h4 a5 h5 a6 h6 a7 h7 a8 h8 a9 h9 a10 h10 a11 h11 hc0 hc1 x0 x1 x2 x3 x4 x5 xs0 xs1 xs2
      = ofHeads fun h => accAfter (headAt xs2 h) (chunkOut x5 (headAt xs0) x3 x4 (grp h) (pos h) (groupAt xs1 (grp h))) := by
  funext y
  unfold sout0_C_2
  rw [View.read_writes_junk_eq_canon]
  refine View.canon_apply_of_pieces _ _ (View.PiecesOf.mem ?_) y (scover0_C_2 c i a2 h2 a3 h3 a4 h4 a5 h5 a6 h6 a7 h7 a8 h8 a9 h9 a10 h10 a11 h11 hc0 hc1 x0 x1 x2 x3 x4 x5 xs0 xs1 xs2 y)
  unfold kernelRun0_C
  dsimp only
  sl_unfold_words
  simp (disch := decide) only [↓ View.readCov_skip, ↓ View.readCov_cons_toLoadRect, ↓ View.readCov_fill, View.readAt_eq_ld, h2.read_unread, h3.read_unread, h4.read_unread, h5.read_unread, h6.read_unread, h7.read_unread, h9.read_unread, h10.read_unread, h11.read_unread, ld_ue]
  try rw [h2.read_unread]
  try rw [h3.read_unread]
  try rw [h4.read_unread]
  try rw [ld_ue]
  refine ⟨piece_head _ 15 (inb_head 15) _ ?_, piece_head _ 14 (inb_head 14) _ ?_, piece_head _ 13 (inb_head 13) _ ?_, piece_head _ 12 (inb_head 12) _ ?_, piece_head _ 11 (inb_head 11) _ ?_, piece_head _ 10 (inb_head 10) _ ?_, piece_head _ 9 (inb_head 9) _ ?_, piece_head _ 8 (inb_head 8) _ ?_, piece_head _ 7 (inb_head 7) _ ?_, piece_head _ 6 (inb_head 6) _ ?_, piece_head _ 5 (inb_head 5) _ ?_, piece_head _ 4 (inb_head 4) _ ?_, piece_head _ 3 (inb_head 3) _ ?_, piece_head _ 2 (inb_head 2) _ ?_, piece_head _ 1 (inb_head 1) _ ?_, piece_head _ 0 (inb_head 0) _ ?_, trivial⟩
  all_goals exact rfl

theorem hz3 : (![0, 0, 0] : Fin 3 → Nat) = fun _ => 0 := by
  funext a; match a with | 0 => rfl | 1 => rfl | 2 => rfl

theorem out_C (hc0 : ¬cond0_0 i) (hc1 : cond0_1 i) :
    out0_C_6 c i a2 h2 a3 h3 a4 h4 a5 h5 a6 h6 a7 h7 a8 h8 a9 h9 a10 h10 a11 h11 hc0 hc1 x0 x1 x2 x3 x4 x5 xs0 xs1 xs2
      = joined fun h => accAfter (headAt xs2 h) (chunkOut x5 (headAt xs0) x3 x4 (grp h) (pos h) (groupAt xs1 (grp h))) := by
  unfold out0_C_6
  rw [View.read_writes_junk_eq_canon]
  unfold kernelRun0_C
  dsimp only
  sl_unfold_words
  simp (disch := decide) only [↓ View.readCov_skip, ↓ View.readCov_cons_toLoadRect, ↓ View.readCov_fill, View.readAt_eq_ld, h2.read_unread, h3.read_unread, h4.read_unread, h5.read_unread, h6.read_unread, h7.read_unread, h9.read_unread, h10.read_unread, h11.read_unread, ld_ue]
  try rw [h2.read_unread]
  try rw [h3.read_unread]
  try rw [h4.read_unread]
  try rw [ld_ue]
  rw [View.canon_unit_zero hz3]
  exact rfl

end Cert.KernelIdeal.Sb
-- ==== Proof.SbJoined.lean ====
/-
  Sixteen heads side by side, read at a column: the head is the column's quotient, the place in it the remainder.
-/
module

public import proofs.«01_k».proof.Proof.SbLast
public import Idealize.ShloMosaic.Lib.Pointwise

@[expose] public section

noncomputable section

open Idealize.ShloMosaic Idealize.ShloMosaic.TcCoe Idealize.SL.Sem

namespace Cert.KernelIdeal.Sb

open Cert.KernelIdeal Cert.KernelIdeal.Gen

/-- Pieces of 64 columns. -/
abbrev pieces (l : List (S64x64.Idx → EReal)) : List ((s : Shape) × (s.Idx → EReal)) := l.map fun p => ⟨S64x64, p⟩

theorem pieces_at (r : Fin 64) (C : Fin 1024) : ∀ (l : List (S64x64.Idx → EReal))
    (hs : ∀ s ∈ (pieces l).map (·.1), s.FitsOff S64x1024 (1 : Fin 2)) (c : ℕ) (hc : c < (axisSizes S64x1024 (1 : Fin 2) (pieces l)).sum)
    (k : ℕ) (hk : k < l.length) (d : Fin 64) (h : c = 64 * k + d.val),
    concatenateAt S64x1024 (1 : Fin 2) (ix2 r C) (pieces l) hs c hc = l[k] (ix2 r d) := by
  intro l
  induction l with
  | nil => intro hs c hc k hk; exact absurd hk (Nat.not_lt_zero _)
  | cons p l ih =>
    intro hs c hc k hk d h
    have hd := d.isLt
    have first : ∀ (q : Fin 2) (hq), (⟨if q.val = 1 then c else (ix2 r C (q.cast rfl)).val, hq⟩ : Fin (S64x64.size q)) = ix2 r d q ∨ k ≠ 0 := by
      intro q hq
      by_cases h0 : k = 0
      · left
        apply Fin.ext
        match q with
        | ⟨0, _⟩ => rfl
        | ⟨1, _⟩ => show c = d.val; omega
      · exact Or.inr h0
    cases l with
    | nil =>
      have h0 : k = 0 := by simp at hk; exact hk
      subst h0
      refine (concatenateAt_singleton (t := S64x1024) (1 : Fin 2) (ix2 r C) p hs c hc).trans ?_
      rw [Shape.Idx.norm_def]
      show p _ = p _
      congr 1
      funext q
      exact (first q _).resolve_right (by simp)
    | cons p' l =>
      refine (concatenateAt_cons (t := S64x1024) (1 : Fin 2) (ix2 r C) p ⟨S64x64, p'⟩ (pieces l) hs c hc).trans ?_
      cases k with
      | zero =>
        refine (dif_pos (show c < 64 by omega)).trans ?_
        rw [Shape.Idx.norm_def]
        show p _ = p _
        congr 1
        funext q
        exact (first q _).resolve_right (by simp)
      | succ k =>
        refine (dif_neg (show ¬ c < 64 by omega)).trans ?_
        exact ih _ (c - 64) _ k (by simp at hk ⊢; omega) d (by omega)

theorem joined_at (G : Fin 16 → Vec Ideal S1x64x64 .f32) (r : Fin 64) (C : Fin 1024) :
    joined G (ix3 0 r C) = G ⟨C.val / 64, by omega⟩ (ix3 0 r ⟨C.val % 64, by omega⟩) := by
  have hC := C.isLt
  have lift : ∀ y : Vec Ideal S64x1024 .f32, shapeCast S1x64x1024 y shapeCasts_S64x1024_S1x64x1024 (ix3 0 r C) = y (ix2 r C) := by
    intro y
    pointwise
  have drop : ∀ (y : Vec Ideal S1x64x64 .f32) (d : Fin 64), shapeCast S64x64 y shapeCasts_S1x64x64_S64x64 (ix2 r d) = y (ix3 0 r d) := by
    intro y d
    pointwise
  have nth : ∀ (p : Fin 16 → S64x64.Idx → EReal) (h : Fin 16) (hh : h.val < 16),
      [p 0, p 1, p 2, p 3, p 4, p 5, p 6, p 7, p 8, p 9, p 10, p 11, p 12, p 13, p 14, p 15][h.val]'hh = p h := by
    intro p h hh
    fin_cases h <;> rfl
  have key : ∀ (p : Fin 16 → S64x64.Idx → EReal)
      (hs : ∀ s ∈ (pieces [p 0, p 1, p 2, p 3, p 4, p 5, p 6, p 7, p 8, p 9, p 10, p 11, p 12, p 13, p 14, p 15]).map (·.1), s.FitsOff S64x1024 (1 : Fin 2))
      (hc : C.val < (axisSizes S64x1024 (1 : Fin 2) (pieces [p 0, p 1, p 2, p 3, p 4, p 5, p 6, p 7, p 8, p 9, p 10, p 11, p 12, p 13, p 14, p 15])).sum),
      concatenateAt S64x1024 (1 : Fin 2) (ix2 r C) (pieces [p 0, p 1, p 2, p 3, p 4, p 5, p 6, p 7, p 8, p 9, p 10, p 11, p 12, p 13, p 14, p 15]) hs C.val hc
        = p ⟨C.val / 64, by omega⟩ (ix2 r ⟨C.val % 64, by omega⟩) := by
    intro p hs hc
    refine (pieces_at r C [p 0, p 1, p 2, p 3, p 4, p 5, p 6, p 7, p 8, p 9, p 10, p 11, p 12, p 13, p 14, p 15] hs C.val hc
      (C.val / 64) (by show C.val / 64 < 16; omega) ⟨C.val % 64, by omega⟩ (by show C.val = 64 * (C.val / 64) + C.val % 64; omega)).trans ?_
    exact congrFun (nth p ⟨C.val / 64, by omega⟩ (by show C.val / 64 < 16; omega)) _
  unfold joined
  refine (lift _).trans ((concatenate_apply S64x1024 (1 : Fin 2) _ _ (ix2 r C)).trans ?_)
  refine Eq.trans ?_ (drop (G ⟨C.val / 64, by omega⟩) ⟨C.val % 64, by omega⟩)
  exact key (fun h => shapeCast S64x64 (G h) shapeCasts_S1x64x64_S64x64) _ _

end Cert.KernelIdeal.Sb

end
-- ==== Proof.SbValue.lean ====
/-
  The attention kernel's result: the arrays at its entry, the points' blocks of them, the kept state by induction on the
  points, and the array the last points of the runs write.
-/
module

public import proofs.«01_k».proof.Proof.SbState
public import proofs.«01_k».proof.Proof.SbFirst
public import proofs.«01_k».proof.Proof.SbMiddle
public import proofs.«01_k».proof.Proof.SbFirstQueries
public import proofs.«01_k».proof.Proof.SbFirstCarry
public import proofs.«01_k».proof.Proof.SbJoined
public import Idealize.ShloMosaic.Lib.Pointwise

@[expose] public section

noncomputable section

open Idealize.ShloMosaic Idealize.ShloMosaic.TcCoe Idealize.SL.Sem

namespace Cert.KernelIdeal.Sb

open Cert.KernelIdeal Cert.KernelIdeal.Gen Cert.KernelIdeal.Value Cert.Sb

/-! ## The arrays at the kernel's entry -/

variable (m : (ℓ : Loc nD τ sig) → Buf (Elt Ideal) ℓ) (c : Dev nD)

/-- The projections, the cached keys and the cached values. -/
abbrev P : Rows := m ((c : Thread nD τ).loc main_arg0)
abbrev CK : Cache := m ((c : Thread nD τ).loc main_arg1)
abbrev CV : Cache := m ((c : Thread nD τ).loc main_arg2)

theorem V_arg0 : (V m c main_arg0 : Vec Ideal S32x64x10752 .f32) = P m c := by
  show StableHlo.after hostOps0 _ (Proc.devRef .tc main_arg0) = _
  after_results

theorem V_v9 : (V m c main_v9 : Vec Ideal S32x16x64x4096 .f32)
    = transpose S32x16x64x4096 [0, 2, 3, 1] (CK m c : Vec Ideal S32x4096x16x64 .f32) transposes_S32x4096x16x64_S32x16x64x4096_0_2_3_1 := by
  show StableHlo.after hostOps0 _ (Proc.devRef .tc main_v9) = _
  after_results

theorem V_v10 : (V m c main_v10 : Vec Ideal S32x16x64x4096 .f32)
    = transpose S32x16x64x4096 [0, 2, 3, 1] (CV m c : Vec Ideal S32x4096x16x64 .f32) transposes_S32x4096x16x64_S32x16x64x4096_0_2_3_1 := by
  show StableHlo.after hostOps0 _ (Proc.devRef .tc main_v10) = _
  after_results

/-- The constant matrix. -/
def ones : Vec Ideal S256x384 .bf16 :=
  concatenate S256x384 1 [⟨S256x256, (uitofp .bf16 (cmpi .sgt
      (broadcastInDim S256x256 ![0, 1] bcast_S256x1_S256x256_0_1 (broadcastInDim S256x1 ![0] bcast_S256_S256x1_0 (iotaInDim S256 32 0)))
      (broadcastInDim S256x256 ![0, 1] bcast_S1x256_S256x256_0_1 (broadcastInDim S1x256 ![1] bcast_S256_S1x256_1 (iotaInDim S256 32 0)))) : FVec Ideal S256x256 .bf16)⟩,
    ⟨S256x128, (broadcastInDim S256x128 ![] bcast_S_S256x128 (constant S_ .bf16 0x3F80#16) : FVec Ideal S256x128 .bf16)⟩]
    concatenates_S256x256_S256x128_S256x384_d1

theorem V_v8 : (V m c main_v8 : Vec Ideal S256x384 .bf16) = ones := by
  show StableHlo.after hostOps0 _ (Proc.devRef .tc main_v8) = _
  after_results
  rfl

theorem one_bits : Ideal.ofBits .bf16 0x3F80#16 = 1 := by
  simp [Ideal.ofBits, Ideal.ieee, -EReal.coe_mul]
  norm_num

theorem ones_at (k : Fin 256) (l : Fin 384) : ones (ix2 k l) = ueE k l := by
  have hl := l.isLt
  pointwise [ones]
  unfold ueE
  by_cases h : l.val < 256
  · rw [dif_pos h, if_pos h]
    show FloatOps.uitofp (F := Ideal) FTy.bf16 (IntOp.cmpi CmpIPredicate.slt (BitVec.ofNat 32 l.val) (BitVec.ofNat 32 k.val)) = _
    rw [slt_ofNat _ _ (by omega) (by omega)]
    by_cases hk : l.val < k.val
    · rw [if_pos hk, if_pos hk]
      show (((1#1 : BitVec 1).toNat : ℝ) : EReal) = 1
      simp
    · rw [if_neg hk, if_neg hk]
      show (((0#1 : BitVec 1).toNat : ℝ) : EReal) = 0
      simp
  · rw [dif_neg h, if_neg h]

theorem flip_at (y : Vec Ideal S32x4096x16x64 .f32) (n : Fin 32) (h : Fin 16) (d : Fin 64) (p : Fin 4096) :
    transpose S32x16x64x4096 [0, 2, 3, 1] y transposes_S32x4096x16x64_S32x16x64x4096_0_2_3_1 (ix4 n h d p) = y (ix4 n p h d) := by
  pointwise

/-! ## The points' blocks -/

theorem idx0 : ∀ t : Fin cfg0.N, win0_0.index t (0 : Fin 3) = t.val / 4 ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val / 4 ∧ win0_1.index t (1 : Fin 3) = 0 ∧ win0_1.index t (2 : Fin 3) = 1 :=
  (by decide +kernel : ∀ t : Fin grid0.N, _)
theorem idx2 : ∀ t : Fin cfg0.N, win0_2.index t (0 : Fin 3) = t.val / 4 ∧ win0_2.index t (1 : Fin 3) = 0 ∧ win0_2.index t (2 : Fin 3) = 2 :=
  (by decide +kernel : ∀ t : Fin grid0.N, _)
theorem idx3 : ∀ t : Fin cfg0.N, win0_3.index t (0 : Fin 4) = t.val / 4 ∧ win0_3.index t (1 : Fin 4) = 0 ∧ win0_3.index t (2 : Fin 4) = 0
    ∧ win0_3.index t (3 : Fin 4) = 3 - t.val % 4 := (by decide +kernel : ∀ t : Fin grid0.N, _)
theorem idx4 : ∀ t : Fin cfg0.N, win0_4.index t (0 : Fin 4) = t.val / 4 ∧ win0_4.index t (1 : Fin 4) = 0 ∧ win0_4.index t (2 : Fin 4) = 0
    ∧ win0_4.index t (3 : Fin 4) = 3 - t.val % 4 := (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)

theorem lt_N (t : Fin cfg0.N) : t.val < 128 := lt_of_lt_of_eq t.isLt N_0

/-- The batch of a point, and the start of its chunk of the cache. -/
def batch (t : ℕ) (ht : t < cfg0.N) : Fin 32 := ⟨t / 4, by have := lt_of_lt_of_eq ht N_0; omega⟩
def start (t : ℕ) : ℕ := 1024 * (3 - t % 4)

theorem start_le (t : ℕ) : start t + 1024 ≤ 4096 := by unfold start; omega

theorem blk5 (t : Fin cfg0.N) (k : Fin 256) (l : Fin 384) : (iblk m c 5 t : Vec Ideal S256x384 .bf16) (ix2 k l) = ueE k l := by
  unfold iblk
  rw [View.read_apply]
  have e : (V m c main_v8 : Vec Ideal S256x384 .bf16) (ix2 k l) = ueE k l := by rw [V_v8]; exact ones_at k l
  rw [← e]
  show (V m c main_v8 : Vec Ideal S256x384 .bf16) _ = _
  congr 1
  funext a
  apply Fin.ext
  match a with
  | ⟨0, _⟩ => show win0_5.index t 0 * 256 + 1 * k.val = k.val; rw [(idx5 t).1]; omega
  | ⟨1, _⟩ => show win0_5.index t 1 * 384 + 1 * l.val = l.val; rw [(idx5 t).2]; omega

theorem blk3 (t : Fin cfg0.N) : ChunkIs (CK m c) (batch t.val t.isLt) (start t.val) (start_le _) (iblk m c 3 t : Vec Ideal S1x16x64x1024 .f32) := by
  intro h d k
  have ht := lt_N t
  unfold iblk
  rw [View.read_apply]
  have e : (V m c main_v9 : Vec Ideal S32x16x64x4096 .f32) (ix4 (batch t.val t.isLt) h d ⟨start t.val + k.val, by have := start_le t.val; omega⟩)
      = CK m c (ix4 (batch t.val t.isLt) ⟨start t.val + k.val, by have := start_le t.val; omega⟩ h d) := by
    rw [V_v9]; exact flip_at _ _ _ _ _
  rw [← e]
  show (V m c main_v9 : Vec Ideal S32x16x64x4096 .f32) _ = _
  congr 1
  funext a
  apply Fin.ext
  match a with
  | ⟨0, _⟩ => show win0_3.index t 0 * 1 + 1 * 0 = t.val / 4; rw [(idx3 t).1]; omega
  | ⟨1, _⟩ => show win0_3.index t 1 * 16 + 1 * h.val = h.val; rw [(idx3 t).2.1]; omega
  | ⟨2, _⟩ => show win0_3.index t 2 * 64 + 1 * d.val = d.val; rw [(idx3 t).2.2.1]; omega
  | ⟨3, _⟩ => show win0_3.index t 3 * 1024 + 1 * k.val = 1024 * (3 - t.val % 4) + k.val; rw [(idx3 t).2.2.2]; omega

theorem blk4 (t : Fin cfg0.N) : ChunkIs (CV m c) (batch t.val t.isLt) (start t.val) (start_le _) (iblk m c 4 t : Vec Ideal S1x16x64x1024 .f32) := by
  intro h d k
  have ht := lt_N t
  unfold iblk
  rw [View.read_apply]
  have e : (V m c main_v10 : Vec Ideal S32x16x64x4096 .f32) (ix4 (batch t.val t.isLt) h d ⟨start t.val + k.val, by have := start_le t.val; omega⟩)
      = CV m c (ix4 (batch t.val t.isLt) ⟨start t.val + k.val, by have := start_le t.val; omega⟩ h d) := by
    rw [V_v10]; exact flip_at _ _ _ _ _
  rw [← e]
  show (V m c main_v10 : Vec Ideal S32x16x64x4096 .f32) _ = _
  congr 1
  funext a
  apply Fin.ext
  match a with
  | ⟨0, _⟩ => show win0_4.index t 0 * 1 + 1 * 0 = t.val / 4; rw [(idx4 t).1]; omega
  | ⟨1, _⟩ => show win0_4.index t 1 * 16 + 1 * h.val = h.val; rw [(idx4 t).2.1]; omega
  | ⟨2, _⟩ => show win0_4.index t 2 * 64 + 1 * d.val = d.val; rw [(idx4 t).2.2.1]; omega
  | ⟨3, _⟩ => show win0_4.index t 3 * 1024 + 1 * k.val = 1024 * (3 - t.val % 4) + k.val; rw [(idx4 t).2.2.2]; omega

theorem blk0 (t : Fin cfg0.N) : ColsAre (P m c) (batch t.val t.isLt) 0 (by omega) (X0_0 m c t : Vec Ideal S1x64x1024 .f32) := by
  intro r k
  have ht := lt_N t
  unfold X0_0 Pipeline.Window.fill
  rw [dif_pos (moved0_0 t _)]
  unfold iblk
  rw [View.read_apply]
  have e : (V m c main_arg0 : Vec Ideal S32x64x10752 .f32) (ix3 (batch t.val t.isLt) r ⟨0 + k.val, by omega⟩)
      = P m c (ix3 (batch t.val t.isLt) r ⟨0 + k.val, by omega⟩) := by rw [V_arg0]
  rw [← e]
  show (V m c main_arg0 : Vec Ideal S32x64x10752 .f32) _ = _
  congr 1
  funext a
  apply Fin.ext
  match a with
  | ⟨0, _⟩ => show win0_0.index t 0 * 1 + 1 * 0 = t.val / 4; rw [(idx0 t).1]; omega
  | ⟨1, _⟩ => show win0_0.index t 1 * 64 + 1 * r.val = r.val; rw [(idx0 t).2.1]; omega
  | ⟨2, _⟩ => show win0_0.index t 2 * 1024 + 1 * k.val = 0 + k.val; rw [(idx0 t).2.2]; omega

theorem blk1 (t : Fin cfg0.N) : ColsAre (P m c) (batch t.val t.isLt) 1024 (by omega) (X0_1 m c t : Vec Ideal S1x64x1024 .f32) := by
  intro r k
  have ht := lt_N t
  unfold X0_1 Pipeline.Window.fill
  rw [dif_pos (moved0_1 t _)]
  unfold iblk
  rw [View.read_apply]
  have e : (V m c main_arg0 : Vec Ideal S32x64x10752 .f32) (ix3 (batch t.val t.isLt) r ⟨1024 + k.val, by omega⟩)
      = P m c (ix3 (batch t.val t.isLt) r ⟨1024 + k.val, by omega⟩) := by rw [V_arg0]
  rw [← e]
  show (V m c main_arg0 : Vec Ideal S32x64x10752 .f32) _ = _
  congr 1
  funext a
  apply Fin.ext
  match a with
  | ⟨0, _⟩ => show win0_1.index t 0 * 1 + 1 * 0 = t.val / 4; rw [(idx1 t).1]; omega
  | ⟨1, _⟩ => show win0_1.index t 1 * 64 + 1 * r.val = r.val; rw [(idx1 t).2.1]; omega
  | ⟨2, _⟩ => show win0_1.index t 2 * 1024 + 1 * k.val = 1024 + k.val; rw [(idx1 t).2.2]; omega

theorem blk2 (t : Fin cfg0.N) : ColsAre (P m c) (batch t.val t.isLt) 2048 (by omega) (X0_2 m c t : Vec Ideal S1x64x1024 .f32) := by
  intro r k
  have ht := lt_N t
  unfold X0_2 Pipeline.Window.fill
  rw [dif_pos (moved0_2 t _)]
  unfold iblk
  rw [View.read_apply]
  have e : (V m c main_arg0 : Vec Ideal S32x64x10752 .f32) (ix3 (batch t.val t.isLt) r ⟨2048 + k.val, by omega⟩)
      = P m c (ix3 (batch t.val t.isLt) r ⟨2048 + k.val, by omega⟩) := by rw [V_arg0]
  rw [← e]
  show (V m c main_arg0 : Vec Ideal S32x64x10752 .f32) _ = _
  congr 1
  funext a
  apply Fin.ext
  match a with
  | ⟨0, _⟩ => show win0_2.index t 0 * 1 + 1 * 0 = t.val / 4; rw [(idx2 t).1]; omega
  | ⟨1, _⟩ => show win0_2.index t 1 * 64 + 1 * r.val = r.val; rw [(idx2 t).2.1]; omega
  | ⟨2, _⟩ => show win0_2.index t 2 * 1024 + 1 * k.val = 2048 + k.val; rw [(idx2 t).2.2]; omega

/-! ## The kept state -/

theorem pay3_zero : ∀ j, k0_pay3 (F := Ideal) j = (0 : EReal) := by
  intro j
  pointwise [k0_pay3]

theorem pay4_zero : ∀ j, k0_pay4 (F := Ideal) j = (0 : EReal) := by
  intro j
  pointwise [k0_pay4]

variable (hf : Finite (P m c) (CK m c))

/-- What is kept after point `t`. -/
abbrev Kept (t : ℕ) (ht : t < cfg0.N) (s : Vec Ideal S1x64x1024 .f32 × Vec Ideal S16x64x64 .bf16 × Vec Ideal S4x256x128 .f32 × Vec Ideal S16x64x64 .f32) : Prop :=
  StateIs (P m c) (CK m c) (CV m c) (batch t ht) (start t) s.2.1 s.2.2.1 s.2.2.2

include hf in
theorem kept_first (t : Fin cfg0.N) (s) (h0 : t.val % 4 = 0) : Kept m c t.val t.isLt (stAt0 m c t.val t.isLt s) := by
  rw [stAt0_A m c t s h0 (by omega)]
  unfold Kept
  dsimp only
  rw [queries_A, carry_A, acc_A]
  have hs : start t.val = 3072 := by unfold start; rw [h0]
  have h3 := blk3 m c t
  have h4 := blk4 m c t
  simp only [hs] at h3 h4 ⊢
  exact state_first (CV m c) hf (batch t.val t.isLt) _ (blk5 m c t) pay3_zero pay4_zero (blk0 m c t) (blk1 m c t) (blk2 m c t) h3 h4

include hf in
theorem kept_next (t : ℕ) (ht : t + 1 < cfg0.N) (s) (h0 : ¬ (t + 1) % 4 = 0) (h : Kept m c t (Nat.lt_of_succ_lt ht) s) :
    Kept m c (t + 1) ht (stAt0 m c (t + 1) ht s) := by
  have hn : batch t (Nat.lt_of_succ_lt ht) = batch (t + 1) ht := Fin.ext (by show t / 4 = (t + 1) / 4; omega)
  have hs : start t = start (t + 1) + 1024 := by unfold start; omega
  unfold Kept at h
  rw [hn, hs] at h
  have step := state_chunk (CV m c) hf (batch (t + 1) ht) _ (blk5 m c ⟨t + 1, ht⟩) (start (t + 1)) (start_le _) (blk3 m c ⟨t + 1, ht⟩) (blk4 m c ⟨t + 1, ht⟩) h
  by_cases h1 : (t + 1) % 4 = 3
  · rw [stAt0_C m c ⟨t + 1, ht⟩ s h0 h1]
    unfold Kept
    dsimp only
    rw [carry_C, acc_C]
    exact step
  · rw [stAt0_B m c ⟨t + 1, ht⟩ s h0 h1]
    unfold Kept
    dsimp only
    rw [carry_B, acc_B]
    exact step

include hf in
theorem kept_at : ∀ (t : ℕ) (ht : t < cfg0.N), Kept m c t ht (outsAt0 m c t ht) := by
  intro t
  induction t with
  | zero =>
    intro ht
    rw [outsAt0_zero]
    exact kept_first m c hf ⟨0, ht⟩ _ rfl
  | succ t ih =>
    intro ht
    rw [outsAt0_succ]
    by_cases h0 : (t + 1) % 4 = 0
    · exact kept_first m c hf ⟨t + 1, ht⟩ _ h0
    · exact kept_next m c hf t ht _ h0 (ih _)

include hf in
/-- What the last point of a run writes. -/
theorem out_at (t : ℕ) (ht : t < cfg0.N) (h1 : t % 4 = 3) (r : Fin 64) (C : Fin 1024) :
    (outsAt0 m c t ht).1 (ix3 0 r C) = result (P m c) (CK m c) (CV m c) (batch t ht) ⟨C.val / 64, by omega⟩ r ⟨C.val % 64, by omega⟩ := by
  have hk := (kept_at m c hf t ht).acc
  obtain ⟨p, rfl⟩ : ∃ p, t = p + 1 := ⟨t - 1, by omega⟩
  have h0 : ¬ (p + 1) % 4 = 0 := by omega
  have hs : start (p + 1) = 0 := by unfold start; rw [h1]
  rw [hs] at hk
  rw [outsAt0_succ] at hk ⊢
  generalize outsAt0 m c p (Nat.lt_of_succ_lt ht) = s at hk ⊢
  rw [stAt0_C m c ⟨p + 1, ht⟩ s h0 h1] at hk ⊢
  dsimp only at hk ⊢
  rw [acc_C] at hk
  rw [out_C, joined_at]
  have e := hk ⟨C.val / 64, by omega⟩ r ⟨C.val % 64, by omega⟩
  rw [head_ofHeads] at e
  exact e

include hf in
/-- The result array. -/
theorem G6_at (n : Fin 32) (r : Fin 64) (C : Fin 1024) :
    G6 m c (ix3 n r C) = result (P m c) (CK m c) (CV m c) n ⟨C.val / 64, by omega⟩ r ⟨C.val % 64, by omega⟩ := by
  have hn := n.isLt
  have hr := r.isLt
  have hC := C.isLt
  have hrun : run6Of (ix3 n r C) = n.val := by
    show 1 * (n.val / 1 - 0) + 1 * (r.val / 64 - 0) + 1 * (C.val / 1024 - 0) = n.val
    omega
  have hpt : pt6Of (ix3 n r C) = 4 * n.val + 3 := by rw [← hrun]
  have hlt : pt6Of (ix3 n r C) < cfg0.N := by rw [hpt, show cfg0.N = 128 from N_0]; omega
  have hloc : loc6Of (ix3 n r C) = ix3 0 r C := by
    funext a
    apply Fin.ext
    match a with
    | ⟨0, _⟩ => show n.val % 1 = 0; omega
    | ⟨1, _⟩ => show r.val % 64 = r.val; omega
    | ⟨2, _⟩ => show C.val % 1024 = C.val; omega
  have hb : batch (pt6Of (ix3 n r C)) hlt = n := Fin.ext (by show pt6Of (ix3 n r C) / 4 = n.val; rw [hpt]; omega)
  unfold G6
  rw [dif_pos hlt, ← outsAt0_sweep m c _ hlt, hloc, out_at m c hf _ hlt (by rw [hpt]; omega), hb]

end Cert.KernelIdeal.Sb

end
-- ==== Proof.SbClaim.lean ====
/-
  The attention claim: run from memories that agree on the arguments, finite in the queries and the keys, the kernel and the
  reference end with the same result array and leave the arguments as they were.
-/
module

public import proofs.«01_k».proof.Defs
public import proofs.«01_k».proof.Proof.SbValue
public import proofs.«01_k».proof.Proof.Gen.KernelIdeal
public import proofs.«01_k».proof.Proof.Gen.ReferenceIdeal

@[expose] public section

noncomputable section

open Idealize.ShloMosaic Idealize.ShloMosaic.TcCoe Idealize.SL.Sem

namespace Cert.SbClaim

/-- The side conditions the precondition's function takes. -/
theorem pre_facts : Cert.Pre_finite_scores.Facts where
  slices_S32x64x10752_S32x64x2048_0_0_0 := by decide
  bcast_S_S32x64x2048 := by decide
  bcast_S_S32x4096x16x64 := by decide

/-- An entry whose absolute value is below infinity is finite. -/
theorem finite_of (x : EReal) (h : FloatOps.cmpf (F := Ideal) (φ := .f32) .olt (FloatOps.hostAbsf (F := Ideal) (φ := .f32) x) (FloatOps.ofBits (F := Ideal) .f32 0x7F800000#32) = 1#1) :
    x ≠ ⊤ ∧ x ≠ ⊥ := by
  have hi : FloatOps.ofBits (F := Ideal) .f32 0x7F800000#32 = (⊤ : EReal) := by
    show Ideal.ofBits .f32 0x7F800000#32 = ⊤
    simp [Ideal.ofBits, Ideal.ieee]
  rw [hi] at h
  have ht : max x (-x) < (⊤ : EReal) := by
    by_contra hn
    have e : BitVec.ofBool (decide (max x (-x) < (⊤ : EReal))) = 1#1 := h
    rw [decide_eq_false hn] at e
    exact absurd e (by decide)
  exact ⟨fun e => by simp [e] at ht, fun e => by simp [e] at ht⟩

variable (m : (ℓ : Loc Cert.KernelIdeal.nD Cert.KernelIdeal.τ Cert.KernelIdeal.sig) → Buf (Elt Ideal) ℓ) (c : Dev Cert.KernelIdeal.nD)

/-- The precondition, read at an entry. -/
theorem finite (h : Cert.Pre_KernelIdeal_finite_scores (hPre_finite_scores := pre_facts) m) :
    Cert.Sb.Finite (Cert.KernelIdeal.Sb.P m c) (Cert.KernelIdeal.Sb.CK m c) := by
  obtain ⟨h1, h2⟩ := h c
  refine ⟨fun n r k hk => ?_, fun j => ?_⟩
  · have e := congrFun h1 (ix3 n r ⟨k.val, hk⟩)
    unfold Cert.Pre_finite_scores.fn at e
    pointwise at e
    exact finite_of _ e
  · have e := congrFun h2 j
    unfold Cert.Pre_finite_scores.fn at e
    pointwise at e
    exact finite_of _ e

/-- The two result arrays are one. -/
theorem result_eq (h : Cert.Pre_KernelIdeal_finite_scores (hPre_finite_scores := pre_facts) m) :
    (Cert.ReferenceIdeal.Read.val_main_v32 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)))
      = Cert.KernelIdeal.Value.G6 (F := Ideal) m c := by
  have hf := finite m c h
  funext j
  obtain ⟨n, r, C, rfl⟩ : ∃ (n : Fin 32) (r : Fin 64) (C : Fin 1024), j = ix3 n r C := ⟨j 0, j 1, j 2, eq_ix3 j⟩
  exact (Cert.ReferenceIdeal.Sb.value_at (x0 := Cert.KernelIdeal.Sb.P m c) (x1 := Cert.KernelIdeal.Sb.CK m c) (Cert.KernelIdeal.Sb.CV m c) hf n r C).trans
    (Cert.KernelIdeal.Sb.G6_at m c hf n r C).symm

/-- The value claim. -/
theorem algebraic : Cert.algebraic_KernelIdeal_ReferenceIdeal_pre_finite_scores
    (hKernelIdeal := Cert.KernelIdeal.Gen.facts) (hReferenceIdeal := Cert.ReferenceIdeal.Gen.facts) (hPre_finite_scores := pre_facts) := by
  intro m ρ m' ρ' hpre hagree
  refine ⟨fun c => Cert.KernelIdeal.Value.G6 (F := Ideal) m c, Cert.KernelIdeal.Value.run m ρ, ?_⟩
  refine (θ_run _ _ _).mono (fun r h c => ?_) (Cert.ReferenceIdeal.Value.run (F := Ideal) m' ρ')
  obtain ⟨h0, h1, h2⟩ := hagree c
  refine ⟨(h c).1.trans ?_, (h c).2⟩
  refine (Cert.ReferenceIdeal.Read.val_main_v32_eq m' c).trans ?_
  rw [h0, h1, h2]
  exact result_eq m c hpre

end Cert.SbClaim

end
-- ==== Proof.MixPoint.lean ====
/-
  The input projection kernel's point, read: what each case of its frame leaves in the output block and in the
  normalised rows it keeps, as the body's payloads over the point's input blocks.
-/
module

public import proofs.«01_k».proof.Proof.Gen.Kernel3Ideal.Value
public import Idealize.ShloMosaic.Lib.ValueIdx
public import Idealize.ShloMosaic.Lib.Pipeline.Value
public import Idealize.ShloMosaic.Lib.Tactic

@[expose] public section

noncomputable section

open Idealize.ShloMosaic Idealize.ShloMosaic.TcCoe Idealize.SL.Sem

namespace Cert.Kernel3Ideal.Mix

open Cert.Kernel3Ideal Cert.Kernel3Ideal.Gen

variable {F : FTy → Type} [FloatOps F]

theorem hz : (![0, 0] : Fin 2 → Nat) = fun _ => 0 := funext fun a => by fin_cases a <;> rfl

section Point
variable (c : Dev nD) (i : grid0.Coords)
  (a2 : Memref sig .tc .vmem S1024x2048 .f32) (h2 : a2.IsWhole) (a3 : Memref sig .tc .vmem S1x2048 .f32) (h3 : a3.IsWhole)
  (a4 : Memref sig .tc .vmem S2048x512 .bf16) (h4 : a4.IsWhole) (a5 : Memref sig .tc .vmem S1x512 .f32) (h5 : a5.IsWhole)
  (a6 : Memref sig .tc .vmem S512x512 .bf16) (h6 : a6.IsWhole) (a7 : Memref sig .tc .vmem S1024x512 .f32) (h7 : a7.IsWhole)
  (a8 : Memref sig .tc .vmem S1024x2048 .bf16) (h8 : a8.IsWhole)
  (x0 : Vec F S1024x2048 .f32) (x1 : Vec F S1x2048 .f32) (x2 : Vec F S2048x512 .bf16) (x3 : Vec F S1x512 .f32)
  (x4 : Vec F S512x512 .bf16) (xs0 : Vec F S1024x2048 .bf16)

/-- A row block's first point keeps the normalised rows, -/
theorem rows_A (hc0 : cond0_0 i) (hc1 : cond0_1 i) (hc2 : ¬cond0_2 i) :
    sout0_A_0 c i a2 h2 a3 h3 a4 h4 a5 h5 a6 h6 a7 h7 a8 h8 hc0 hc1 hc2 x0 x1 x2 x3 x4 = k0_pay1 x0 x1 := by
  unfold sout0_A_0
  rw [View.read_writes_eq_canon _ _ _ (scover0_A_0 c i a2 h2 a3 h3 a4 h4 a5 h5 a6 h6 a7 h7 a8 h8 hc0 hc1 hc2 x0 x1 x2 x3 x4)]
  unfold kernelRun0_A
  dsimp only
  sl_unfold_words
  rw [View.canon_unit_zero hz]
  simp only [View.readAt_eq_ld, h2.read_unread, h3.read_unread, View.ld_unit_zero (S := S1024x2048) hz, View.ld_unit_zero (S := S1x2048) hz]

/-- and writes the first block's heads, normalised; -/
theorem out_A (hc0 : cond0_0 i) (hc1 : cond0_1 i) (hc2 : ¬cond0_2 i) :
    out0_A_5 c i a2 h2 a3 h3 a4 h4 a5 h5 a6 h6 a7 h7 a8 h8 hc0 hc1 hc2 x0 x1 x2 x3 x4 = k0_pay3 (k0_pay1 x0 x1) x2 x4 x3 := by
  unfold out0_A_5
  rw [View.read_writes_eq_canon _ _ _ (cover0_A_5 c i a2 h2 a3 h3 a4 h4 a5 h5 a6 h6 a7 h7 a8 h8 hc0 hc1 hc2 x0 x1 x2 x3 x4)]
  unfold kernelRun0_A
  dsimp only
  sl_unfold_words
  rw [View.canon_unit_zero hz]
  simp only [View.readCov_unit_zero (S := S1024x2048) _ hz, View.readAt_eq_ld, h2.read_unread, h3.read_unread, h4.read_unread,
    h5.read_unread, h6.read_unread, View.ld_unit_zero (S := S1024x2048) hz, View.ld_unit_zero (S := S1x2048) hz,
    View.ld_unit_zero (S := S2048x512) hz, View.ld_unit_zero (S := S1x512) hz, View.ld_unit_zero (S := S512x512) hz]

/-- a later point of the queries and keys writes its block's heads, normalised, from the rows it finds, -/
theorem out_B (hc0 : ¬cond0_0 i) (hc1 : cond0_1 i) (hc2 : ¬cond0_2 i) :
    out0_B_5 c i a2 h2 a3 h3 a4 h4 a5 h5 a6 h6 a7 h7 a8 h8 hc0 hc1 hc2 x0 x1 x2 x3 x4 xs0 = k0_pay3 xs0 x2 x4 x3 := by
  unfold out0_B_5
  rw [View.read_writes_eq_canon _ _ _ (cover0_B_5 c i a2 h2 a3 h3 a4 h4 a5 h5 a6 h6 a7 h7 a8 h8 hc0 hc1 hc2 x0 x1 x2 x3 x4 xs0)]
  unfold kernelRun0_B
  dsimp only
  sl_unfold_words
  rw [View.canon_unit_zero hz]
  simp only [View.readAt_eq_ld, h4.read_unread, h5.read_unread, h6.read_unread, h8.read_unread, View.ld_unit_zero (S := S1024x2048) hz,
    View.ld_unit_zero (S := S2048x512) hz, View.ld_unit_zero (S := S1x512) hz, View.ld_unit_zero (S := S512x512) hz]

/-- and a point past them writes its block's product as it is. -/
theorem out_C (hc0 : ¬cond0_0 i) (hc1 : ¬cond0_1 i) (hc2 : cond0_2 i) :
    out0_C_5 c i a2 h2 a3 h3 a4 h4 a5 h5 a6 h6 a7 h7 a8 h8 hc0 hc1 hc2 x0 x1 x2 x3 x4 xs0 = k0_pay2 xs0 x2 := by
  unfold out0_C_5
  rw [View.read_writes_eq_canon _ _ _ (cover0_C_5 c i a2 h2 a3 h3 a4 h4 a5 h5 a6 h6 a7 h7 a8 h8 hc0 hc1 hc2 x0 x1 x2 x3 x4 xs0)]
  unfold kernelRun0_C
  dsimp only
  sl_unfold_words
  rw [View.canon_unit_zero hz]
  simp only [View.readAt_eq_ld, h4.read_unread, h8.read_unread, View.ld_unit_zero (S := S1024x2048) hz, View.ld_unit_zero (S := S2048x512) hz]

end Point

end Cert.Kernel3Ideal.Mix

end
-- ==== Proof.MixSpec.lean ====
/-
  The input projection on extended reals, row by row: the products of a normalised row with the weights' columns, the
  per-head root-mean-square scale of the query and key columns, and the order the columns are written in; with the
  facts that finite rows and weights have finite products, and that over finite products the kernel's two sums over a
  block of eight heads are the head's own mean square.
-/
module

public import proofs.«01_k».proof.Proof.FfnSpec

@[expose] public section

noncomputable section

open Idealize.ShloMosaic

namespace Cert.Mix

/-- Column `n` of the 10688. -/
def col (n : ℕ) : Fin 10688 := ⟨n % 10688, Nat.mod_lt _ (by decide)⟩

/-- Column `n` of a head's 64. -/
def lane (n : ℕ) : Fin 64 := ⟨n % 64, Nat.mod_lt _ (by decide)⟩

/-- The reciprocal root mean square of a head's 64 entries. -/
def headScale (p : Fin 64 → EReal) : EReal :=
  Ideal.rsqrt (Ideal.div (∑ d, p d * p d) (Ideal.ofBits .f32 0x42800000#32) + Ideal.ofBits .f32 0x358637BD#32)

/-- The product of a normalised row with a column of the weights. -/
def proj (n : Fin 2048 → EReal) (w : Fin 2048 → Fin 10688 → EReal) (C : Fin 10688) : EReal := ∑ k, n k * w k C

/-- Something over the columns, in the order they are written in: queries, keys, values and the recurrence's columns,
    then the gates, then the low-rank columns, then padding. -/
def placed (f : Fin 10688 → EReal) (C : ℕ) : EReal :=
  if C < 6144 then f (col C) else if C < 10240 then f (col (C + 448)) else if C < 10688 then f (col (C - 4096)) else 0

/-- A row of the result: the query and key heads normalised and scaled, the rest as they are. -/
def entry (p : Fin 10688 → EReal) (qn kn : Fin 64 → EReal) (C : ℕ) : EReal :=
  if C < 1024 then p (col C) * headScale (fun d => p (col (64 * (C / 64) + d.val))) * qn (lane C)
  else if C < 2048 then p (col C) * headScale (fun d => p (col (64 * (C / 64) + d.val))) * kn (lane C)
  else placed p C

/-- The products with the placed weights are the placed products. -/
theorem placed_proj (n : Fin 2048 → EReal) (w : Fin 2048 → Fin 10688 → EReal) (C : ℕ) :
    ∑ k, n k * placed (w k) C = placed (proj n w) C := by
  unfold placed
  by_cases h1 : C < 6144
  · simp only [if_pos h1]; rfl
  · simp only [if_neg h1]
    by_cases h2 : C < 10240
    · simp only [if_pos h2]; rfl
    · simp only [if_neg h2]
      by_cases h3 : C < 10688
      · simp only [if_pos h3]; rfl
      · simp only [if_neg h3, mul_zero, Finset.sum_const_zero]

/-! ## Finite values -/

/-- An extended real that is a real. -/
def Real' (x : EReal) : Prop := ∃ r : ℝ, x = (r : EReal)

theorem real_of {x : EReal} (h : x ≠ ⊤ ∧ x ≠ ⊥) : Real' x := ⟨x.toReal, (EReal.coe_toReal h.1 h.2).symm⟩

theorem Real'.mul {x y : EReal} (hx : Real' x) (hy : Real' y) : Real' (x * y) := by
  obtain ⟨a, rfl⟩ := hx
  obtain ⟨b, rfl⟩ := hy
  exact ⟨a * b, (EReal.coe_mul a b).symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Real'.sum {n : ℕ} {f : Fin n → EReal} (h : ∀ i, Real' (f i)) : Real' (∑ i, f i) := by
  choose r hr using h
  exact ⟨∑ i, r i, by rw [coe_sum]; exact Finset.sum_congr rfl fun i _ => hr i⟩

/-- The three constants as reals. -/
theorem width_bits : Ideal.ofBits .f32 0x45000000#32 = ((2048 : ℝ) : EReal) := by
  simp [Ideal.ofBits, Ideal.ieee, -EReal.coe_mul]
  norm_num

theorem head_bits : Ideal.ofBits .f32 0x42800000#32 = ((64 : ℝ) : EReal) := by
  simp [Ideal.ofBits, Ideal.ieee, -EReal.coe_mul]
  norm_num

theorem recip_bits : Ideal.ofBits .f32 0x3C800000#32 = ((64⁻¹ : ℝ) : EReal) := by
  simp [Ideal.ofBits, Ideal.ieee, -EReal.coe_mul]
  norm_num

theorem eps_bits : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul]

theorem div_real (x : EReal) {y : ℝ} (hy : y ≠ 0) : Ideal.div x (y : EReal) = x * ((y⁻¹ : ℝ) : EReal) := by
  unfold Ideal.div
  rw [if_neg (by exact_mod_cast hy), EReal.coe_inv]

theorem rsqrt_real {r : ℝ} (h : 0 < r) : Real' (Ideal.rsqrt (r : EReal)) := by
  refine ⟨(Real.sqrt r)⁻¹, ?_⟩
  show (if r < 0 then (⊥ : EReal) else if r = 0 then ⊤ else ((Real.sqrt r)⁻¹ : ℝ)) = _
  rw [if_neg (not_lt.mpr h.le), if_neg h.ne']

/-- A finite row with a finite scale has a finite normalised row. -/
theorem normed_real {X g : Fin 2048 → EReal} (hX : ∀ k, Real' (X k)) (hg : ∀ k, Real' (g k)) (k : Fin 2048) :
    Real' (Cert.Ffn.normed X g k) := by
  unfold Cert.Ffn.normed
  refine Real'.mul (Real'.mul (hX k) ?_) (hg k)
  choose x hx using hX
  obtain ⟨e, he, hE⟩ := eps_bits
  have hs : ∑ j, X j * X j = ((∑ j, x j * x j : ℝ) : EReal) := by
    rw [coe_sum]
    exact Finset.sum_congr rfl fun j _ => by rw [hx j, EReal.coe_mul]
  rw [hs, width_bits, div_real _ (by norm_num), hE, ← EReal.coe_mul, ← EReal.coe_add]
  refine rsqrt_real (add_pos_of_nonneg_of_pos (mul_nonneg (Finset.sum_nonneg fun j _ => mul_self_nonneg _) (by norm_num)) he)

/-- Finite rows and weights have finite products. -/
theorem proj_real {n : Fin 2048 → EReal} {w : Fin 2048 → Fin 10688 → EReal} {C : Fin 10688}
    (hn : ∀ k, Real' (n k)) (hw : ∀ k, Real' (w k C)) : Real' (proj n w C) :=
  Real'.sum fun k => (hn k).mul (hw k)

/-! ## The kernel's sums over a block of eight heads -/

/-- One on the columns of the same head of a block, zero elsewhere. -/
def same (l e : Fin 512) : EReal := if l.val / 64 = e.val / 64 then 1 else 0

/-- Column `64 h + d` of a block. -/
def inHead (h : ℕ) (d : Fin 64) : Fin 512 := ⟨(64 * h + d.val) % 512, Nat.mod_lt _ (by decide)⟩

theorem sum_same (f : Fin 512 → EReal) (e : Fin 512) : ∑ l, f l * same l e = ∑ d : Fin 64, f (inHead (e.val / 64) d) := by
  have he := e.isLt
  have s : ∑ l : Fin 512, f l * same l e = ∑ h : Fin 8, ∑ d : Fin 64, f (inHead h.val d) * same (inHead h.val d) e := by
    rw [← Fintype.sum_prod_type']
    refine (Fintype.sum_equiv (finProdFinEquiv (m := 8) (n := 64)) _ _ fun p => ?_).symm
    have hp : inHead p.1.val p.2 = finProdFinEquiv (m := 8) (n := 64) p := by
      have := p.1.isLt
      have := p.2.isLt
      apply Fin.ext
      show (64 * p.1.val + p.2.val) % 512 = p.2.val + 64 * p.1.val
      omega
    rw [hp]
  rw [s, Finset.sum_eq_single (⟨e.val / 64, by omega⟩ : Fin 8)]
  · refine Finset.sum_congr rfl fun d _ => ?_
    have hd := d.isLt
    rw [same, if_pos (by show (64 * (e.val / 64) + d.val) % 512 / 64 = e.val / 64; omega), mul_one]
  · intro h _ hne
    refine Finset.sum_eq_zero fun d _ => ?_
    have hd := d.isLt
    have hh := h.isLt
    have hv : h.val ≠ e.val / 64 := fun q => hne (Fin.ext q)
    rw [same, if_neg (by show ¬ (64 * h.val + d.val) % 512 / 64 = e.val / 64; omega), mul_zero]
  · intro hn
    exact absurd (Finset.mem_univ _) hn

/-- Over finite entries the two sums, divided by 64, are the head's mean square. -/
theorem head_mean {q : Fin 512 → EReal} (hq : ∀ l, Real' (q l)) (e : Fin 512) :
    (∑ l, q l * q l * same l e + ∑ l, (q l * q l - q l * q l) * same l e) * Ideal.ofBits .f32 0x3C800000#32
      = Ideal.div (∑ d : Fin 64, q (inHead (e.val / 64) d) * q (inHead (e.val / 64) d)) (Ideal.ofBits .f32 0x42800000#32) := by
  have z : ∑ l, (q l * q l - q l * q l) * same l e = 0 := by
    refine Finset.sum_eq_zero fun l _ => ?_
    obtain ⟨r, hr⟩ := hq l
    rw [hr, ← EReal.coe_mul, ← EReal.coe_sub, sub_self, EReal.coe_zero, zero_mul]
  rw [z, add_zero, sum_same (fun l => q l * q l), head_bits, div_real _ (by norm_num), recip_bits]

/-- A query or key column of the kernel's block `j` over finite products is the row's entry. -/
theorem entry_head {p : Fin 10688 → EReal} (hp : ∀ C < 2048, Real' (p (col C))) (qn kn : Fin 64 → EReal) {j : ℕ} (hj : j ≤ 3) (e : Fin 512) :
    p (col (512 * j + e.val))
        * Ideal.rsqrt ((∑ l : Fin 512, p (col (512 * j + l.val)) * p (col (512 * j + l.val)) * same l e
            + ∑ l : Fin 512, (p (col (512 * j + l.val)) * p (col (512 * j + l.val)) - p (col (512 * j + l.val)) * p (col (512 * j + l.val))) * same l e)
              * Ideal.ofBits .f32 0x3C800000#32 + Ideal.ofBits .f32 0x358637BD#32)
        * (if 512 * j + e.val < 1024 then qn (lane (512 * j + e.val)) else kn (lane (512 * j + e.val)))
      = entry p qn kn (512 * j + e.val) := by
  have he := e.isLt
  rw [head_mean (q := fun l : Fin 512 => p (col (512 * j + l.val))) (fun l => hp _ (by have := l.isLt; omega)) e]
  have hs : (fun d : Fin 64 => p (col (512 * j + (inHead (e.val / 64) d).val))) = fun d => p (col (64 * ((512 * j + e.val) / 64) + d.val)) := by
    funext d
    have hd := d.isLt
    congr 2
    show 512 * j + (64 * (e.val / 64) + d.val) % 512 = _
    omega
  have hh : ∀ f g : Fin 64 → EReal, f = g →
      Ideal.rsqrt (Ideal.div (∑ d, f d * f d) (Ideal.ofBits .f32 0x42800000#32) + Ideal.ofBits .f32 0x358637BD#32) = headScale g := by
    rintro f _ rfl
    rfl
  rw [hh _ _ hs]
  unfold entry
  by_cases h1 : 512 * j + e.val < 1024
  · rw [if_pos h1, if_pos h1]
  · rw [if_neg h1, if_neg h1, if_pos (show 512 * j + e.val < 2048 by omega)]

end Cert.Mix

end
-- ==== Proof.MixValue.lean ====
/-
  The input projection kernel's result: the arrays at its entry, the points' blocks of them, the kept rows by induction on
  the points, and the array the points write, which over finite heads is row by row the row of MixSpec.
-/
module

public import proofs.«01_k».proof.Proof.MixPoint
public import proofs.«01_k».proof.Proof.MixSpec
public import Idealize.ShloMosaic.Lib.Pointwise

@[expose] public section

noncomputable section

open Idealize.ShloMosaic Idealize.ShloMosaic.TcCoe Idealize.SL.Sem

namespace Cert.Kernel3Ideal.Mix

open Cert.Kernel3Ideal Cert.Kernel3Ideal.Gen Cert.Kernel3Ideal.Value

/-! ## The payloads at an index -/

theorem pay1_at (x : Vec Ideal S1024x2048 .f32) (g : Vec Ideal S1x2048 .f32) (r : Fin 1024) (k : Fin 2048) :
    k0_pay1 (F := Ideal) x g (ix2 r k) = Cert.Ffn.normed (fun j => x (ix2 r j)) (fun j => g (ix2 0 j)) k := by
  pointwise [k0_pay1]
  rfl

theorem pay2_at (n : Vec Ideal S1024x2048 .bf16) (w : Vec Ideal S2048x512 .bf16) (r : Fin 1024) (e : Fin 512) :
    k0_pay2 (F := Ideal) n w (ix2 r e) = ∑ k, n (ix2 r k) * w (ix2 k e) := by
  pointwise [k0_pay2]

theorem pay3_at (n : Vec Ideal S1024x2048 .bf16) (w : Vec Ideal S2048x512 .bf16) (b : Vec Ideal S512x512 .bf16) (g : Vec Ideal S1x512 .f32)
    (r : Fin 1024) (e : Fin 512) :
    k0_pay3 (F := Ideal) n w b g (ix2 r e)
      = k0_pay2 (F := Ideal) n w (ix2 r e)
          * Ideal.rsqrt ((∑ l, k0_pay2 (F := Ideal) n w (ix2 r l) * k0_pay2 (F := Ideal) n w (ix2 r l) * b (ix2 l e)
              + ∑ l, (k0_pay2 (F := Ideal) n w (ix2 r l) * k0_pay2 (F := Ideal) n w (ix2 r l)
                  - k0_pay2 (F := Ideal) n w (ix2 r l) * k0_pay2 (F := Ideal) n w (ix2 r l)) * b (ix2 l e))
                * Ideal.ofBits .f32 0x3C800000#32 + Ideal.ofBits .f32 0x358637BD#32)
          * g (ix2 0 e) := by
  unfold k0_pay3
  generalize k0_pay2 (F := Ideal) n w = y
  pointwise

/-! ## The arrays at the kernel's entry -/

variable (m : (ℓ : Loc nD τ sig) → Buf (Elt Ideal) ℓ) (c : Dev nD)

/-- The placed weights. -/
def weights (y : Vec Ideal S2048x10688 .f32) : Vec Ideal S2048x10752 .f32 :=
  concatenate S2048x10752 1 [⟨S2048x6144, extractStridedSlice S2048x6144 ![0, 0] y slices_S2048x10688_S2048x6144_0_0⟩,
    ⟨S2048x4096, extractStridedSlice S2048x4096 ![0, 6592] y slices_S2048x10688_S2048x4096_0_6592⟩,
    ⟨S2048x448, extractStridedSlice S2048x448 ![0, 6144] y slices_S2048x10688_S2048x448_0_6144⟩,
    ⟨S2048x64, (broadcastInDim S2048x64 ![] bcast_S_S2048x64 (constant (F := Ideal) S_ .f32 0x00000000#32) : FVec Ideal S2048x64 .f32)⟩]
    concatenates_S2048x6144_S2048x4096_S2048x448_S2048x64_S2048x10752_d1

theorem weights_at (y : Vec Ideal S2048x10688 .f32) (k : Fin 2048) (C : Fin 10752) :
    weights y (ix2 k C) = Cert.Mix.placed (fun j => y (ix2 k j)) C.val := by
  have hC := C.isLt
  have cols : ∀ {a b : ℕ} (h : a < 10688), a = b → y (ix2 k ⟨a, h⟩) = y (ix2 k (Cert.Mix.col b)) := by
    rintro a _ h rfl
    exact congrArg (fun z => y (ix2 k z)) (Fin.ext (Nat.mod_eq_of_lt h).symm)
  pointwise [weights]
  unfold Cert.Mix.placed
  by_cases h1 : C.val < 6144
  · rw [dif_pos h1, if_pos h1]
    exact cols _ rfl
  rw [dif_neg h1, if_neg h1]
  by_cases h2 : C.val < 10240
  · rw [dif_pos (show C.val - 6144 < 4096 by omega), if_pos h2]
    exact cols _ (by omega)
  rw [dif_neg (show ¬ C.val - 6144 < 4096 by omega), if_neg h2]
  by_cases h3 : C.val < 10688
  · rw [dif_pos (show C.val - 6144 - 4096 < 448 by omega), if_pos h3]
    exact cols _ (by omega)
  · rw [dif_neg (show ¬ C.val - 6144 - 4096 < 448 by omega), if_neg h3]

theorem V_v5 : (V m c main_v5 : Vec Ideal S2048x10752 .bf16) = (weights (m ((c : Thread nD τ).loc main_arg2)) : Vec Ideal S2048x10752 .f32) := by
  show StableHlo.after (hostOps0 (F := Ideal)) _ (Proc.devRef .tc main_v5) = _
  after_results
  rfl

/-- The heads' gains. -/
def gains (q k : Vec Ideal S64 .f32) : Vec Ideal S1x10752 .f32 :=
  shapeCast S1x10752 (concatenate S10752 0 [
    ⟨S1024, shapeCast S1024 (broadcastInDim S16x64 ![0, 1] bcast_S1x64_S16x64_0_1 (shapeCast S1x64 q shapeCasts_S64_S1x64)) shapeCasts_S16x64_S1024⟩,
    ⟨S1024, shapeCast S1024 (broadcastInDim S16x64 ![0, 1] bcast_S1x64_S16x64_0_1 (shapeCast S1x64 k shapeCasts_S64_S1x64)) shapeCasts_S16x64_S1024⟩,
    ⟨S8704, (broadcastInDim S8704 ![] bcast_S_S8704 (constant (F := Ideal) S_ .f32 0x3F800000#32) : FVec Ideal S8704 .f32)⟩]
    concatenates_S1024_S1024_S8704_S10752_d0) shapeCasts_S10752_S1x10752

theorem gains_at (q k : Vec Ideal S64 .f32) (C : Fin 10752) (hC : C.val < 2048) :
    gains q k (ix2 0 C) = if C.val < 1024 then q (ix1 (Cert.Mix.lane C.val)) else k (ix1 (Cert.Mix.lane C.val)) := by
  pointwise [gains]
  by_cases h1 : C.val < 1024
  · rw [dif_pos h1, if_pos h1]
    rfl
  · rw [dif_neg h1, if_neg h1, dif_pos (show C.val - 1024 < 1024 by omega)]
    congr 2
    exact Fin.ext (show (C.val - 1024) % 64 = C.val % 64 by omega)

theorem V_v14 : (V m c main_v14 : Vec Ideal S1x10752 .f32)
    = gains (m ((c : Thread nD τ).loc main_arg3)) (m ((c : Thread nD τ).loc main_arg4)) := by
  show StableHlo.after (hostOps0 (F := Ideal)) _ (Proc.devRef .tc main_v14) = _
  after_results
  rfl

/-- The numbers below 512 divided by 64, rounded down, as the host computes them. -/
def quotients : IVec S512 32 :=
  select (andi (cmpi .ne (signi (iotaInDim S512 32 0)) (broadcastInDim S512 ![] bcast_S_S512 (signi (constantI S_ 32 64#32))))
      (cmpi .ne (Host.remsi (iotaInDim S512 32 0) (broadcastInDim S512 ![] bcast_S_S512 (constantI S_ 32 64#32)))
        (broadcastInDim S512 ![] bcast_S_S512 (constantI S_ 32 0#32))))
    (subi (Host.divsi (iotaInDim S512 32 0) (broadcastInDim S512 ![] bcast_S_S512 (constantI S_ 32 64#32)))
      (broadcastInDim S512 ![] bcast_S_S512 (constantI S_ 32 1#32)))
    (Host.divsi (iotaInDim S512 32 0) (broadcastInDim S512 ![] bcast_S_S512 (constantI S_ 32 64#32)))

theorem quotients_at (l : Fin 512) : quotients (ix1 l) = BitVec.ofNat 32 (l.val / 64) := by
  pointwise [quotients]
  revert l
  decide +kernel

/-- The matrix of ones on the pairs of columns of one head. -/
def heads : Vec Ideal S512x512 .bf16 :=
  uitofp (F := Ideal) .bf16 (cmpi .eq (broadcastInDim S512x512 ![0, 1] bcast_S512x1_S512x512_0_1 (broadcastInDim S512x1 ![0] bcast_S512_S512x1_0 quotients))
      (broadcastInDim S512x512 ![0, 1] bcast_S1x512_S512x512_0_1 (broadcastInDim S1x512 ![1] bcast_S512_S1x512_1 quotients)))

theorem heads_at (l e : Fin 512) : heads (ix2 l e) = Cert.Mix.same l e := by
  pointwise [heads, quotients_at]
  have hl := l.isLt
  have he := e.isLt
  unfold Cert.Mix.same
  have hq : (BitVec.ofNat 32 (l.val / 64) = BitVec.ofNat 32 (e.val / 64)) ↔ l.val / 64 = e.val / 64 := by
    rw [← BitVec.toNat_inj, BitVec.toNat_ofNat, BitVec.toNat_ofNat]
    omega
  show (((BitVec.ofBool (BitVec.ofNat 32 (l.val / 64) == BitVec.ofNat 32 (e.val / 64))).toNat : ℝ) : EReal) = _
  by_cases h : l.val / 64 = e.val / 64
  · rw [if_pos h, h]
    simp
  · rw [if_neg h, beq_eq_false_iff_ne.mpr (fun g => h (hq.mp g))]
    simp

theorem V_v22 : (V m c main_v22 : Vec Ideal S512x512 .bf16) = heads := by
  show StableHlo.after (hostOps0_2 (F := Ideal)) (StableHlo.after (hostOps0_1 (F := Ideal)) (StableHlo.after (hostOps0 (F := Ideal)) _)) (Proc.devRef .tc main_v22) = _
  after_results
  rfl

theorem V_arg0 : (V m c main_arg0 : Vec Ideal S16384x2048 .f32) = m ((c : Thread nD τ).loc main_arg0) := by
  show StableHlo.after (hostOps0 (F := Ideal)) _ (Proc.devRef .tc main_arg0) = _
  after_results

theorem lift_at (y : Vec Ideal S2048 .f32) (k : Fin 2048) :
    shapeCast S1x2048 y shapeCasts_S2048_S1x2048 (ix2 0 k) = y (ix1 k) := by
  pointwise

theorem V_v23 : (V m c main_v23 : Vec Ideal S1x2048 .f32)
    = shapeCast S1x2048 (m ((c : Thread nD τ).loc main_arg1) : Vec Ideal S2048 .f32) shapeCasts_S2048_S1x2048 := by
  show StableHlo.after (hostOps0_2 (F := Ideal)) (StableHlo.after (hostOps0_1 (F := Ideal)) (StableHlo.after (hostOps0 (F := Ideal)) _)) (Proc.devRef .tc main_v23) = _
  after_results
  rfl

/-- The rows, their scale, the weights and the heads' scales as functions of their coordinates. -/
def X (R : Fin 16384) (k : Fin 2048) : EReal := m ((c : Thread nD τ).loc main_arg0) (ix2 R k)
def gS (k : Fin 2048) : EReal := m ((c : Thread nD τ).loc main_arg1) (ix1 k)
def W (k : Fin 2048) (C : Fin 10688) : EReal := m ((c : Thread nD τ).loc main_arg2) (ix2 k C)
def qN (d : Fin 64) : EReal := m ((c : Thread nD τ).loc main_arg3) (ix1 d)
def kN (d : Fin 64) : EReal := m ((c : Thread nD τ).loc main_arg4) (ix1 d)

/-! ## The points' input blocks -/

/-- Row `1024 q + r` of the 16384, and column `512 j + e` of the 10752. -/
def row (q : ℕ) (r : Fin 1024) : Fin 16384 := ⟨(1024 * q + r.val) % 16384, Nat.mod_lt _ (by decide)⟩
def wide (j : ℕ) (e : Fin 512) : Fin 10752 := ⟨(512 * j + e.val) % 10752, Nat.mod_lt _ (by decide)⟩

theorem wide_val {j : ℕ} (hj : j < 21) (e : Fin 512) : (wide j e).val = 512 * j + e.val :=
  Nat.mod_eq_of_lt (by have := e.isLt; omega)

theorem idx0 : ∀ t : Fin cfg0.N, win0_0.index t (0 : Fin 2) = t.val / 21 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val % 21 :=
  (by decide +kernel : ∀ t : Fin grid0.N, _)
theorem idx3 : ∀ t : Fin cfg0.N, win0_3.index t (0 : Fin 2) = 0 ∧ win0_3.index t (1 : Fin 2) = t.val % 21 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)

theorem lt_N (t : Fin cfg0.N) : t.val < 336 := lt_of_lt_of_eq t.isLt N_0

theorem blk0 (t : Fin cfg0.N) (r : Fin 1024) (k : Fin 2048) :
    (iblk m c 0 t : Vec Ideal S1024x2048 .f32) (ix2 r k) = X m c (row (t.val / 21) r) k := by
  have ht := lt_N t
  have hr := r.isLt
  unfold iblk
  rw [View.read_apply]
  have e : (V m c main_arg0 : Vec Ideal S16384x2048 .f32) (ix2 (row (t.val / 21) r) k) = X m c (row (t.val / 21) r) k := by rw [V_arg0]; rfl
  rw [← e]
  show (V m c main_arg0 : Vec Ideal S16384x2048 .f32) _ = _
  congr 1
  funext a
  apply Fin.ext
  match a with
  | ⟨0, _⟩ => show win0_0.index t 0 * 1024 + 1 * r.val = (1024 * (t.val / 21) + r.val) % 16384; rw [(idx0 t).1]; omega
  | ⟨1, _⟩ => show win0_0.index t 1 * 2048 + 1 * k.val = k.val; rw [(idx0 t).2]; omega

theorem blk1 (t : Fin cfg0.N) (k : Fin 2048) :
    (iblk m c 1 t : Vec Ideal S1x2048 .f32) (ix2 0 k) = gS m c k := by
  unfold iblk
  rw [View.read_apply]
  have e : (V m c main_v23 : Vec Ideal S1x2048 .f32) (ix2 0 k) = gS m c k := by rw [V_v23]; exact lift_at _ k
  rw [← e]
  show (V m c main_v23 : Vec Ideal S1x2048 .f32) _ = _
  congr 1
  funext a
  apply Fin.ext
  match a with
  | ⟨0, _⟩ => show win0_1.index t 0 * 1 + 1 * 0 = 0; rw [(idx1 t).1]
  | ⟨1, _⟩ => show win0_1.index t 1 * 2048 + 1 * k.val = k.val; rw [(idx1 t).2]; omega

theorem blk2 (t : Fin cfg0.N) (k : Fin 2048) (e : Fin 512) :
    (iblk m c 2 t : Vec Ideal S2048x512 .bf16) (ix2 k e) = Cert.Mix.placed (W m c k) (512 * (t.val % 21) + e.val) := by
  have he := e.isLt
  unfold iblk
  rw [View.read_apply]
  have h : (V m c main_v5 : Vec Ideal S2048x10752 .bf16) (ix2 k (wide (t.val % 21) e)) = Cert.Mix.placed (W m c k) (512 * (t.val % 21) + e.val) := by
    rw [V_v5, ← wide_val (Nat.mod_lt _ (by decide)) e]
    exact weights_at _ k _
  rw [← h]
  show (V m c main_v5 : Vec Ideal S2048x10752 .bf16) _ = _
  congr 1
  funext a
  apply Fin.ext
  match a with
  | ⟨0, _⟩ => show win0_2.index t 0 * 2048 + 1 * k.val = k.val; rw [(idx2 t).1]; omega
  | ⟨1, _⟩ => show win0_2.index t 1 * 512 + 1 * e.val = (512 * (t.val % 21) + e.val) % 10752; rw [(idx2 t).2]; omega

theorem blk3 (t : Fin cfg0.N) (hj : t.val % 21 ≤ 3) (e : Fin 512) :
    (iblk m c 3 t : Vec Ideal S1x512 .f32) (ix2 0 e)
      = if 512 * (t.val % 21) + e.val < 1024 then qN m c (Cert.Mix.lane (512 * (t.val % 21) + e.val))
        else kN m c (Cert.Mix.lane (512 * (t.val % 21) + e.val)) := by
  have he := e.isLt
  unfold iblk
  rw [View.read_apply]
  have h : (V m c main_v14 : Vec Ideal S1x10752 .f32) (ix2 0 (wide (t.val % 21) e))
      = if 512 * (t.val % 21) + e.val < 1024 then qN m c (Cert.Mix.lane (512 * (t.val % 21) + e.val))
        else kN m c (Cert.Mix.lane (512 * (t.val % 21) + e.val)) := by
    have hv := wide_val (Nat.mod_lt t.val (show 0 < 21 by decide)) e
    rw [V_v14, ← hv]
    exact gains_at _ _ _ (by rw [hv]; omega)
  rw [← h]
  show (V m c main_v14 : Vec Ideal S1x10752 .f32) _ = _
  congr 1
  funext a
  apply Fin.ext
  match a with
  | ⟨0, _⟩ => show win0_3.index t 0 * 1 + 1 * 0 = 0; rw [(idx3 t).1]
  | ⟨1, _⟩ => show win0_3.index t 1 * 512 + 1 * e.val = (512 * (t.val % 21) + e.val) % 10752; rw [(idx3 t).2]; omega

theorem blk4 (t : Fin cfg0.N) (l e : Fin 512) :
    (iblk m c 4 t : Vec Ideal S512x512 .bf16) (ix2 l e) = Cert.Mix.same l e := by
  unfold iblk
  rw [View.read_apply]
  have h : (V m c main_v22 : Vec Ideal S512x512 .bf16) (ix2 l e) = Cert.Mix.same l e := by rw [V_v22]; exact heads_at l e
  rw [← h]
  show (V m c main_v22 : Vec Ideal S512x512 .bf16) _ = _
  congr 1
  funext a
  apply Fin.ext
  match a with
  | ⟨0, _⟩ => show win0_4.index t 0 * 512 + 1 * l.val = l.val; rw [(idx4 t).1]; omega
  | ⟨1, _⟩ => show win0_4.index t 1 * 512 + 1 * e.val = e.val; rw [(idx4 t).2]; omega

/-! ## The points in order -/

/-- The normalised row `R` and its products. -/
abbrev nrm (R : Fin 16384) : Fin 2048 → EReal := Cert.Ffn.normed (X m c R) (gS m c)
abbrev prods (R : Fin 16384) : Fin 10688 → EReal := Cert.Mix.proj (nrm m c R) (W m c)

/-- Rows, scale and query and key weights without infinities. -/
structure Finite : Prop where
  rows : ∀ R k, Cert.Mix.Real' (X m c R k)
  scale : ∀ k, Cert.Mix.Real' (gS m c k)
  cols : ∀ k, ∀ C < 2048, Cert.Mix.Real' (W m c k (Cert.Mix.col C))

theorem Finite.prods {m c} (hf : Finite m c) (R : Fin 16384) : ∀ C < 2048, Cert.Mix.Real' (prods m c R (Cert.Mix.col C)) :=
  fun C hC => Cert.Mix.proj_real (fun k => Cert.Mix.normed_real (hf.rows R) hf.scale k) (fun k => hf.cols k C hC)

/-- A point's product. -/
theorem product_at (t : Fin cfg0.N) (n : Vec Ideal S1024x2048 .bf16) (R : Fin 16384) (r : Fin 1024) (hn : ∀ k, n (ix2 r k) = nrm m c R k)
    (e : Fin 512) :
    k0_pay2 (F := Ideal) n (iblk m c 2 t) (ix2 r e) = Cert.Mix.placed (prods m c R) (512 * (t.val % 21) + e.val) := by
  rw [pay2_at]
  simp only [hn, blk2]
  exact Cert.Mix.placed_proj _ _ _

/-- A point's block of the queries and keys. -/
theorem block_at (hf : Finite m c) (t : Fin cfg0.N) (hj : t.val % 21 ≤ 3) (n : Vec Ideal S1024x2048 .bf16) (R : Fin 16384) (r : Fin 1024)
    (hn : ∀ k, n (ix2 r k) = nrm m c R k) (e : Fin 512) :
    k0_pay3 (F := Ideal) n (iblk m c 2 t) (iblk m c 4 t) (iblk m c 3 t) (ix2 r e)
      = Cert.Mix.entry (prods m c R) (qN m c) (kN m c) (512 * (t.val % 21) + e.val) := by
  have hq : ∀ l : Fin 512, k0_pay2 (F := Ideal) n (iblk m c 2 t) (ix2 r l) = prods m c R (Cert.Mix.col (512 * (t.val % 21) + l.val)) := by
    intro l
    have hl := l.isLt
    rw [product_at m c t n R r hn l]
    exact if_pos (by omega)
  rw [pay3_at, blk3 m c t hj]
  simp only [hq, blk4]
  exact Cert.Mix.entry_head (hf.prods R) _ _ hj e

/-- After point `t`: the kept rows, and the block it wrote. -/
theorem state_at (hf : Finite m c) : ∀ (t : ℕ) (ht : t < cfg0.N),
    (∀ r k, (outsAt0 m c t ht).2 (ix2 r k) = nrm m c (row (t / 21) r) k)
      ∧ ∀ r e, (outsAt0 m c t ht).1 (ix2 r e)
          = Cert.Mix.entry (prods m c (row (t / 21) r)) (qN m c) (kN m c) (512 * (t % 21) + e.val) := by
  have first : ∀ (t : ℕ) (ht : t < cfg0.N) (acc), t % 21 = 0 →
      (∀ r k, (stAt0 m c t ht acc).2 (ix2 r k) = nrm m c (row (t / 21) r) k)
      ∧ ∀ r e, (stAt0 m c t ht acc).1 (ix2 r e)
          = Cert.Mix.entry (prods m c (row (t / 21) r)) (qN m c) (kN m c) (512 * (t % 21) + e.val) := by
    intro t ht acc h0
    rw [stAt0_A m c ⟨t, ht⟩ acc h0 (by show t % 21 ≤ 3; omega) (by show ¬ 4 ≤ t % 21; omega)]
    have rows : ∀ r k, k0_pay1 (F := Ideal) (iblk m c 0 ⟨t, ht⟩) (iblk m c 1 ⟨t, ht⟩) (ix2 r k) = nrm m c (row (t / 21) r) k := by
      intro r k
      rw [pay1_at]
      simp only [blk0, blk1]
    refine ⟨fun r k => ?_, fun r e => ?_⟩
    · dsimp only
      rw [rows_A]
      exact rows r k
    · dsimp only
      rw [out_A]
      exact block_at m c hf ⟨t, ht⟩ (by show t % 21 ≤ 3; omega) _ _ r (rows r) e
  intro t
  induction t with
  | zero =>
    intro ht
    rw [outsAt0_zero]
    exact first 0 ht _ rfl
  | succ t ih =>
    intro ht
    rw [outsAt0_succ]
    obtain ⟨ih1, -⟩ := ih (Nat.lt_of_succ_lt ht)
    by_cases h0 : (t + 1) % 21 = 0
    · exact first _ ht _ h0
    · have hq : t / 21 = (t + 1) / 21 := by omega
      rw [hq] at ih1
      generalize outsAt0 m c t (Nat.lt_of_succ_lt ht) = s at ih1 ⊢
      by_cases h1 : (t + 1) % 21 ≤ 3
      · rw [stAt0_B m c ⟨t + 1, ht⟩ s h0 h1 (by show ¬ 4 ≤ (t + 1) % 21; omega)]
        refine ⟨ih1, fun r e => ?_⟩
        dsimp only
        rw [out_B]
        exact block_at m c hf ⟨t + 1, ht⟩ h1 _ _ r (ih1 r) e
      · rw [stAt0_C m c ⟨t + 1, ht⟩ s h0 h1 (by show 4 ≤ (t + 1) % 21; omega)]
        refine ⟨ih1, fun r e => ?_⟩
        dsimp only
        rw [out_C, product_at m c ⟨t + 1, ht⟩ _ _ r (ih1 r) e]
        unfold Cert.Mix.entry
        dsimp only
        rw [if_neg (by omega), if_neg (by omega)]

/-- The result array. -/
theorem G5_at (hf : Finite m c) (R : Fin 16384) (C : Fin 10752) :
    G5 m c (ix2 R C) = Cert.Mix.entry (prods m c R) (qN m c) (kN m c) C.val := by
  have hR := R.isLt
  have hC := C.isLt
  have hpt : pt5Of (ix2 R C) = 21 * (R.val / 1024) + C.val / 512 := by
    show 21 * (R.val / 1024 - 0) + 1 * (C.val / 512 - 0) = _
    omega
  have hlt : pt5Of (ix2 R C) < cfg0.N := by rw [hpt, show cfg0.N = 336 from N_0]; omega
  have hloc : loc5Of (ix2 R C) = ix2 ⟨R.val % 1024, by omega⟩ ⟨C.val % 512, by omega⟩ := by
    funext a
    apply Fin.ext
    match a with
    | ⟨0, _⟩ => rfl
    | ⟨1, _⟩ => rfl
  have hrow : row (pt5Of (ix2 R C) / 21) ⟨R.val % 1024, by omega⟩ = R := by
    apply Fin.ext
    show (1024 * (pt5Of (ix2 R C) / 21) + R.val % 1024) % 16384 = R.val
    rw [hpt]
    omega
  unfold G5
  rw [dif_pos hlt, ← outsAt0_sweep m c _ hlt, hloc, (state_at m c hf _ hlt).2, hrow]
  congr 1
  dsimp only
  rw [hpt]
  omega

end Cert.Kernel3Ideal.Mix

end
-- ==== Proof.MixReference.lean ====
/-
  The input projection reference at an index: row by row it is the row of MixSpec.
-/
module

public import proofs.«01_k».proof.Proof.MixSpec
public import proofs.«01_k».proof.Proof.Gen.Reference3Ideal.Read
public import Idealize.ShloMosaic.Lib.Pointwise

@[expose] public section

noncomputable section

open Idealize.ShloMosaic Idealize.ShloMosaic.TcCoe Idealize.SL.Sem

namespace Cert.Reference3Ideal.Mix

open Cert.Reference3Ideal Cert.Reference3Ideal.Gen Cert.Reference3Ideal.Read

variable (x0 : (⟨S16384x2048, .f32⟩ : BufTy).Contents (Elt Ideal)) (x1 : (⟨S2048, .f32⟩ : BufTy).Contents (Elt Ideal))
  (x2 : (⟨S2048x10688, .f32⟩ : BufTy).Contents (Elt Ideal)) (x3 x4 : (⟨S64, .f32⟩ : BufTy).Contents (Elt Ideal))

/-- The products of row `R`. -/
def products (R : Fin 16384) : Fin 10688 → EReal :=
  Cert.Mix.proj (Cert.Ffn.normed (fun j => x0 (ix2 R j)) (fun j => x1 (ix1 j))) (fun k C => x2 (ix2 k C))

/-- The normalised rows. -/
theorem normed_at (R : Fin 16384) (k : Fin 2048) :
    val_main_v12 (F := Ideal) x0 x1 (ix2 R k) = Cert.Ffn.normed (fun j => x0 (ix2 R j)) (fun j => x1 (ix1 j)) k := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  rfl

theorem products_at (R : Fin 16384) (C : Fin 10688) : val_main_v13 (F := Ideal) x0 x1 x2 (ix2 R C) = products x0 x1 x2 R C := by
  pointwise [val_main_v13, normed_at]
  rfl

/-- The queries and the keys before their normalisation, head by head. -/
theorem query_at (R : Fin 16384) (h : Fin 16) (d : Fin 64) :
    val_main_v15 (F := Ideal) x0 x1 x2 (ix3 R h d) = products x0 x1 x2 R (Cert.Mix.col (64 * h.val + d.val)) := by
  have hh := h.isLt
  have hd := d.isLt
  have e : val_main_v15 (F := Ideal) x0 x1 x2 (ix3 R h d)
      = val_main_v13 (F := Ideal) x0 x1 x2 (ix2 R (Cert.Mix.col (64 * h.val + d.val))) := by
    unfold val_main_v15 val_main_v14
    generalize val_main_v13 (F := Ideal) x0 x1 x2 = y
    pointwise
    congr 2
    apply Fin.ext
    show _ = (64 * h.val + d.val) % 10688
    simp only [Fin.val_mk]
    omega
  rw [e, products_at]

theorem key_at (R : Fin 16384) (h : Fin 16) (d : Fin 64) :
    val_main_v30 (F := Ideal) x0 x1 x2 (ix3 R h d) = products x0 x1 x2 R (Cert.Mix.col (1024 + (64 * h.val + d.val))) := by
  have hh := h.isLt
  have hd := d.isLt
  have e : val_main_v30 (F := Ideal) x0 x1 x2 (ix3 R h d)
      = val_main_v13 (F := Ideal) x0 x1 x2 (ix2 R (Cert.Mix.col (1024 + (64 * h.val + d.val)))) := by
    unfold val_main_v30 val_main_v29
    generalize val_main_v13 (F := Ideal) x0 x1 x2 = y
    pointwise
    congr 2
    apply Fin.ext
    show _ = (1024 + (64 * h.val + d.val)) % 10688
    simp only [Fin.val_mk]
    omega
  rw [e, products_at]

/-- The normalised queries and keys. -/
theorem queries_at (R : Fin 16384) (h : Fin 16) (d : Fin 64) :
    val_main_v28 (F := Ideal) x0 x1 x2 x3 (ix3 R h d)
      = products x0 x1 x2 R (Cert.Mix.col (64 * h.val + d.val))
          * Cert.Mix.headScale (fun k => products x0 x1 x2 R (Cert.Mix.col (64 * h.val + k.val))) * x3 (ix1 d) := by
  pointwise [val_main_v28, val_main_v27, val_main_v26, val_main_v25, val_main_v24, val_main_v23, val_main_v22, val_main_v21,
    val_main_v20, val_main_v19, val_main_v18, val_main_v17, val_main_v16, val_main_cst_2, val_main_cst_3, val_main_cst_4, query_at]
  rfl

theorem keys_at (R : Fin 16384) (h : Fin 16) (d : Fin 64) :
    val_main_v43 (F := Ideal) x0 x1 x2 x4 (ix3 R h d)
      = products x0 x1 x2 R (Cert.Mix.col (1024 + (64 * h.val + d.val)))
          * Cert.Mix.headScale (fun k => products x0 x1 x2 R (Cert.Mix.col (1024 + (64 * h.val + k.val)))) * x4 (ix1 d) := by
  pointwise [val_main_v43, val_main_v42, val_main_v41, val_main_v40, val_main_v39, val_main_v38, val_main_v37, val_main_v36,
    val_main_v35, val_main_v34, val_main_v33, val_main_v32, val_main_v31, val_main_cst_5, val_main_cst_6, val_main_cst_7, key_at]
  rfl

/-! ## The columns copied as they are -/

theorem at_col (R : Fin 16384) {n : ℕ} (h : n < 10688) :
    val_main_v13 (F := Ideal) x0 x1 x2 (ix2 R ⟨n, h⟩) = products x0 x1 x2 R (Cert.Mix.col n) := by
  rw [products_at]
  congr 1
  exact Fin.ext (Nat.mod_eq_of_lt h).symm

theorem values_at (R : Fin 16384) (n : ℕ) (hn : n < 1024) (hw : 2048 + n < 10688) :
    val_main_v44 (F := Ideal) x0 x1 x2 (ix2 R ⟨n, hn⟩) = products x0 x1 x2 R (Cert.Mix.col (2048 + n)) := by
  refine Eq.trans ?_ (at_col x0 x1 x2 R hw)
  unfold val_main_v44
  generalize val_main_v13 (F := Ideal) x0 x1 x2 = y
  pointwise

theorem recurrence_at (R : Fin 16384) (n : ℕ) (hn : n < 3072) (hw : 3072 + n < 10688) :
    val_main_v45 (F := Ideal) x0 x1 x2 (ix2 R ⟨n, hn⟩) = products x0 x1 x2 R (Cert.Mix.col (3072 + n)) := by
  refine Eq.trans ?_ (at_col x0 x1 x2 R hw)
  unfold val_main_v45
  generalize val_main_v13 (F := Ideal) x0 x1 x2 = y
  pointwise

theorem gates_at (R : Fin 16384) (n : ℕ) (hn : n < 4096) (hw : 6592 + n < 10688) :
    val_main_v47 (F := Ideal) x0 x1 x2 (ix2 R ⟨n, hn⟩) = products x0 x1 x2 R (Cert.Mix.col (6592 + n)) := by
  refine Eq.trans ?_ (at_col x0 x1 x2 R hw)
  unfold val_main_v47
  generalize val_main_v13 (F := Ideal) x0 x1 x2 = y
  pointwise

theorem lowRank_at (R : Fin 16384) (n : ℕ) (hn : n < 448) (hw : 6144 + n < 10688) :
    val_main_v46 (F := Ideal) x0 x1 x2 (ix2 R ⟨n, hn⟩) = products x0 x1 x2 R (Cert.Mix.col (6144 + n)) := by
  refine Eq.trans ?_ (at_col x0 x1 x2 R hw)
  unfold val_main_v46
  generalize val_main_v13 (F := Ideal) x0 x1 x2 = y
  pointwise

/-- The result's seven pieces, joined. -/
theorem joined_at (a b : Vec Ideal S16384x1024 .f32) (v : Vec Ideal S16384x1024 .f32) (s : Vec Ideal S16384x3072 .f32)
    (g : Vec Ideal S16384x4096 .f32) (l : Vec Ideal S16384x448 .f32) (z : Vec Ideal S16384x64 .f32) (R : Fin 16384) (C : Fin 10752) :
    concatenate S16384x10752 1 [⟨S16384x1024, a⟩, ⟨S16384x1024, b⟩, ⟨S16384x1024, v⟩, ⟨S16384x3072, s⟩, ⟨S16384x4096, g⟩, ⟨S16384x448, l⟩, ⟨S16384x64, z⟩]
        concatenates_S16384x1024_S16384x1024_S16384x1024_S16384x3072_S16384x4096_S16384x448_S16384x64_S16384x10752_d1 (ix2 R C)
      = if h1 : C.val < 1024 then a (ix2 R ⟨C.val, h1⟩)
        else if h2 : C.val - 1024 < 1024 then b (ix2 R ⟨C.val - 1024, h2⟩)
        else if h3 : C.val - 1024 - 1024 < 1024 then v (ix2 R ⟨C.val - 1024 - 1024, h3⟩)
        else if h4 : C.val - 1024 - 1024 - 1024 < 3072 then s (ix2 R ⟨C.val - 1024 - 1024 - 1024, h4⟩)
        else if h5 : C.val - 1024 - 1024 - 1024 - 3072 < 4096 then g (ix2 R ⟨C.val - 1024 - 1024 - 1024 - 3072, h5⟩)
        else if h6 : C.val - 1024 - 1024 - 1024 - 3072 - 4096 < 448 then l (ix2 R ⟨C.val - 1024 - 1024 - 1024 - 3072 - 4096, h6⟩)
        else z (ix2 R ⟨C.val - 1024 - 1024 - 1024 - 3072 - 4096 - 448, by omega⟩) := by
  pointwise

/-- Sixteen heads side by side. -/
theorem heads_at (y : Vec Ideal S16384x16x64 .f32) (R : Fin 16384) (C : ℕ) (hC : C < 1024) :
    shapeCast S16384x1024 y shapeCasts_S16384x16x64_S16384x1024 (ix2 R ⟨C, hC⟩) = y (ix3 R ⟨C / 64, by omega⟩ ⟨C % 64, by omega⟩) := by
  pointwise

/-- The result. -/
theorem result_at (R : Fin 16384) (C : Fin 10752) :
    val_main_v51 (F := Ideal) x0 x1 x2 x3 x4 (ix2 R C)
      = Cert.Mix.entry (products x0 x1 x2 R) (fun d => x3 (ix1 d)) (fun d => x4 (ix1 d)) C.val := by
  have hC := C.isLt
  have cols : ∀ {a b : ℕ}, a = b → products x0 x1 x2 R (Cert.Mix.col a) = products x0 x1 x2 R (Cert.Mix.col b) := fun h => by rw [h]
  unfold val_main_v51
  refine (joined_at _ _ _ _ _ _ _ R C).trans ?_
  unfold Cert.Mix.entry Cert.Mix.placed
  by_cases h1 : C.val < 1024
  · rw [dif_pos h1, if_pos h1]
    unfold val_main_v48
    refine (heads_at _ R C.val h1).trans ((queries_at x0 x1 x2 x3 R _ _).trans ?_)
    dsimp only
    rw [show 64 * (C.val / 64) + C.val % 64 = C.val by omega]
    rfl
  rw [dif_neg h1, if_neg h1]
  by_cases h2 : C.val < 2048
  · rw [dif_pos (show C.val - 1024 < 1024 by omega), if_pos h2]
    unfold val_main_v49
    refine (heads_at _ R (C.val - 1024) (by omega)).trans ((keys_at x0 x1 x2 x4 R _ _).trans ?_)
    dsimp only
    rw [show 1024 + (64 * ((C.val - 1024) / 64) + (C.val - 1024) % 64) = C.val by omega]
    have hl : (⟨(C.val - 1024) % 64, by omega⟩ : Fin 64) = Cert.Mix.lane C.val := Fin.ext (show (C.val - 1024) % 64 = C.val % 64 by omega)
    rw [hl]
    congr 3
    funext k
    exact cols (by omega)
  rw [dif_neg (show ¬ C.val - 1024 < 1024 by omega), if_neg h2]
  by_cases h3 : C.val < 3072
  · rw [dif_pos (show C.val - 1024 - 1024 < 1024 by omega), if_pos (show C.val < 6144 by omega)]
    exact (values_at x0 x1 x2 R (C.val - 1024 - 1024) (by omega) (by omega)).trans (cols (by omega))
  rw [dif_neg (show ¬ C.val - 1024 - 1024 < 1024 by omega)]
  by_cases h4 : C.val < 6144
  · rw [dif_pos (show C.val - 1024 - 1024 - 1024 < 3072 by omega), if_pos h4]
    exact (recurrence_at x0 x1 x2 R (C.val - 1024 - 1024 - 1024) (by omega) (by omega)).trans (cols (by omega))
  rw [dif_neg (show ¬ C.val - 1024 - 1024 - 1024 < 3072 by omega), if_neg h4]
  by_cases h5 : C.val < 10240
  · rw [dif_pos (show C.val - 1024 - 1024 - 1024 - 3072 < 4096 by omega), if_pos h5]
    exact (gates_at x0 x1 x2 R (C.val - 1024 - 1024 - 1024 - 3072) (by omega) (by omega)).trans (cols (by omega))
  rw [dif_neg (show ¬ C.val - 1024 - 1024 - 1024 - 3072 < 4096 by omega), if_neg h5]
  by_cases h6 : C.val < 10688
  · rw [dif_pos (show C.val - 1024 - 1024 - 1024 - 3072 - 4096 < 448 by omega), if_pos h6]
    exact (lowRank_at x0 x1 x2 R (C.val - 1024 - 1024 - 1024 - 3072 - 4096) (by omega) (by omega)).trans (cols (by omega))
  rw [dif_neg (show ¬ C.val - 1024 - 1024 - 1024 - 3072 - 4096 < 448 by omega), if_neg h6]
  rw [val_main_v50_apply, val_main_cst_8_apply]
  show Ideal.ofBits .f32 0x00000000#32 = 0
  simp [Ideal.ofBits, Ideal.ieee]

end Cert.Reference3Ideal.Mix

end
-- ==== Proof.MixClaim.lean ====
/-
  The input projection claim: run from memories that agree on the arguments, finite in the rows, their scale and the query and
  key weights, the kernel and the reference end with the same result array and leave the arguments as they were.
-/
module

public import proofs.«01_k».proof.Defs
public import proofs.«01_k».proof.Proof.MixValue
public import proofs.«01_k».proof.Proof.MixReference
public import proofs.«01_k».proof.Proof.SbClaim
public import proofs.«01_k».proof.Proof.Gen.Kernel3Ideal
public import proofs.«01_k».proof.Proof.Gen.Reference3Ideal
public import proofs.«01_k».proof.Proof.Gen.Reference3Ideal.Run

@[expose] public section

noncomputable section

open Idealize.ShloMosaic Idealize.ShloMosaic.TcCoe Idealize.SL.Sem

namespace Cert.MixClaim

/-- The side conditions the precondition's function takes. -/
theorem pre_facts : Cert.Pre_finite_heads.Facts where
  bcast_S_S16384x2048 := by decide
  bcast_S_S2048 := by decide
  slices_S2048x10688_S2048x2048_0_0 := by decide
  bcast_S_S2048x2048 := by decide

variable (m : (ℓ : Loc Cert.Kernel3Ideal.nD Cert.Kernel3Ideal.τ Cert.Kernel3Ideal.sig) → Buf (Elt Ideal) ℓ) (c : Dev Cert.Kernel3Ideal.nD)

/-- The precondition, read at an entry. -/
theorem finite (h : Cert.Pre_Kernel3Ideal_finite_heads (hPre_finite_heads := pre_facts) m) : Cert.Kernel3Ideal.Mix.Finite m c := by
  obtain ⟨h1, h2, h3⟩ := h c
  refine ⟨fun R k => ?_, fun k => ?_, fun k C hC => ?_⟩
  · have e := congrFun h1 (ix2 R k)
    unfold Cert.Pre_finite_heads.fn at e
    pointwise at e
    exact Cert.Mix.real_of (Cert.SbClaim.finite_of _ e)
  · have e := congrFun h2 (ix1 k)
    unfold Cert.Pre_finite_heads.fn at e
    pointwise at e
    exact Cert.Mix.real_of (Cert.SbClaim.finite_of _ e)
  · have e := congrFun h3 (ix2 k ⟨C, hC⟩)
    unfold Cert.Pre_finite_heads.fn at e
    pointwise at e
    have r := Cert.Mix.real_of (Cert.SbClaim.finite_of _ e)
    have hc : Cert.Mix.col C = ⟨C, by omega⟩ := Fin.ext (Nat.mod_eq_of_lt (by omega))
    rw [hc]
    exact r

/-- The two result arrays are one. -/
theorem result_eq (h : Cert.Pre_Kernel3Ideal_finite_heads (hPre_finite_heads := pre_facts) m) :
    (Cert.Reference3Ideal.Read.val_main_v51 (F := Ideal)
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4)))
      = Cert.Kernel3Ideal.Value.G5 (F := Ideal) m c := by
  have hf := finite m c h
  funext j
  obtain ⟨R, C, rfl⟩ : ∃ (R : Fin 16384) (C : Fin 10752), j = ix2 R C := ⟨j 0, j 1, eq_ix2 j⟩
  rw [Cert.Reference3Ideal.Mix.result_at]
  exact (Cert.Kernel3Ideal.Mix.G5_at m c hf R C).symm

/-- The value claim. -/
theorem algebraic : Cert.algebraic_Kernel3Ideal_Reference3Ideal_pre_finite_heads
    (hKernel3Ideal := Cert.Kernel3Ideal.Gen.facts) (hReference3Ideal := Cert.Reference3Ideal.Gen.facts) (hPre_finite_heads := pre_facts) := by
  intro m ρ m' ρ' hpre hagree
  refine ⟨fun c => Cert.Kernel3Ideal.Value.G5 (F := Ideal) m c, Cert.Kernel3Ideal.Value.run m ρ, ?_⟩
  refine (θ_run _ _ _).mono (fun r h c => ?_) (Cert.Reference3Ideal.Value.run (F := Ideal) m' ρ')
  obtain ⟨h0, h1, h2, h3, h4⟩ := hagree c
  refine ⟨(h c).1.trans ?_, (h c).2⟩
  refine (Cert.Reference3Ideal.Read.val_main_v51_eq m' c).trans ?_
  rw [h0, h1, h2, h3, h4]
  exact result_eq m c hpre

end Cert.MixClaim

end
-- ==== Proof.MergePoint.lean ====
/-
  The merge and output projection kernel's point, read: what its frame leaves in the output block, as the body's payloads
  over the point's input blocks.
-/
module

public import proofs.«01_k».proof.Proof.Gen.Kernel4Ideal.Value
public import Idealize.ShloMosaic.Lib.ValueIdx
public import Idealize.ShloMosaic.Lib.Pipeline.Value
public import Idealize.ShloMosaic.Lib.Tactic

@[expose] public section

noncomputable section

open Idealize.ShloMosaic Idealize.ShloMosaic.TcCoe Idealize.SL.Sem

namespace Cert.Kernel4Ideal.Merge

open Cert.Kernel4Ideal Cert.Kernel4Ideal.Gen

variable {F : FTy → Type} [FloatOps F]

theorem hz : (![0, 0] : Fin 2 → Nat) = fun _ => 0 := funext fun a => by fin_cases a <;> rfl

/-- The block a point writes, of its input blocks. -/
def block (x0 : Vec F S256x2048 .f32) (x1 x2 x3 x4 x5 x6 : Vec F S256x1024 .f32) (x7 x8 : Vec F S256x2048 .f32)
    (x9 x10 x11 : Vec F S1x1024 .f32) (x12 : Vec F S1024x128 .bf16) (x13 x14 : Vec F S1024x2048 .bf16) (x15 : Vec F S2048x2048 .bf16) :
    Vec F S256x2048 .f32 :=
  k0_pay2 x0 (k0_pay1 (k0_pay6 (k0_pay3 x12) (k0_pay4 x12 x2) (k0_pay5 x9) x10 x3 x4 x11 x5 x6) (k0_pay7 x1 x13) x14 x7 x8) x15

section Point
variable (c : Dev nD) (i : grid0.Coords)
  (a2 : Memref sig .tc .vmem S256x2048 .f32) (h2 : a2.IsWhole) (a3 : Memref sig .tc .vmem S256x1024 .f32) (h3 : a3.IsWhole)
  (a4 : Memref sig .tc .vmem S256x1024 .f32) (h4 : a4.IsWhole) (a5 : Memref sig .tc .vmem S256x1024 .f32) (h5 : a5.IsWhole)
  (a6 : Memref sig .tc .vmem S256x1024 .f32) (h6 : a6.IsWhole) (a7 : Memref sig .tc .vmem S256x1024 .f32) (h7 : a7.IsWhole)
  (a8 : Memref sig .tc .vmem S256x1024 .f32) (h8 : a8.IsWhole) (a9 : Memref sig .tc .vmem S256x2048 .f32) (h9 : a9.IsWhole)
  (a10 : Memref sig .tc .vmem S256x2048 .f32) (h10 : a10.IsWhole) (a11 : Memref sig .tc .vmem S1x1024 .f32) (h11 : a11.IsWhole)
  (a12 : Memref sig .tc .vmem S1x1024 .f32) (h12 : a12.IsWhole) (a13 : Memref sig .tc .vmem S1x1024 .f32) (h13 : a13.IsWhole)
  (a14 : Memref sig .tc .vmem S1024x128 .bf16) (h14 : a14.IsWhole) (a15 : Memref sig .tc .vmem S1024x2048 .bf16) (h15 : a15.IsWhole)
  (a16 : Memref sig .tc .vmem S1024x2048 .bf16) (h16 : a16.IsWhole) (a17 : Memref sig .tc .vmem S2048x2048 .bf16) (h17 : a17.IsWhole)
  (a18 : Memref sig .tc .vmem S256x2048 .f32) (h18 : a18.IsWhole) (a19 : Memref sig .tc .vmem S256x2048 .bf16) (h19 : a19.IsWhole)
  (x0 : Vec F S256x2048 .f32) (x1 x2 x3 x4 x5 x6 : Vec F S256x1024 .f32) (x7 x8 : Vec F S256x2048 .f32)
  (x9 x10 x11 : Vec F S1x1024 .f32) (x12 : Vec F S1024x128 .bf16) (x13 x14 : Vec F S1024x2048 .bf16) (x15 : Vec F S2048x2048 .bf16)

/-- A point writes that block. -/
theorem out_A (hc0 : cond0_0 i) :
    out0_A_16 c i a2 h2 a3 h3 a4 h4 a5 h5 a6 h6 a7 h7 a8 h8 a9 h9 a10 h10 a11 h11 a12 h12 a13 h13 a14 h14 a15 h15 a16 h16 a17 h17 a18 h18 a19 h19
      hc0 x0 x1 x2 x3 x4 x5 x6 x7 x8 x9 x10 x11 x12 x13 x14 x15 = block x0 x1 x2 x3 x4 x5 x6 x7 x8 x9 x10 x11 x12 x13 x14 x15 := by
  unfold out0_A_16
  rw [View.read_writes_eq_canon _ _ _ (cover0_A_16 c i a2 h2 a3 h3 a4 h4 a5 h5 a6 h6 a7 h7 a8 h8 a9 h9 a10 h10 a11 h11 a12 h12 a13 h13 a14 h14 a15 h15
    a16 h16 a17 h17 a18 h18 a19 h19 hc0 x0 x1 x2 x3 x4 x5 x6 x7 x8 x9 x10 x11 x12 x13 x14 x15)]
  unfold kernelRun0_A
  dsimp only
  sl_unfold_words
  rw [View.canon_unit_zero hz]
  simp only [View.readCov_unit_zero (S := S256x2048) _ hz, View.readAt_eq_ld, h2.read_unread, h3.read_unread, h4.read_unread,
    h5.read_unread, h6.read_unread, h7.read_unread, h8.read_unread, h9.read_unread, h10.read_unread, h11.read_unread, h12.read_unread,
    h13.read_unread, h14.read_unread, h15.read_unread, h16.read_unread, h17.read_unread,
    View.ld_unit_zero (S := S256x2048) hz, View.ld_unit_zero (S := S256x1024) hz, View.ld_unit_zero (S := S1x1024) hz,
    View.ld_unit_zero (S := S1024x128) hz, View.ld_unit_zero (S := S1024x2048) hz, View.ld_unit_zero (S := S2048x2048) hz]
  rfl

end Point

end Cert.Kernel4Ideal.Merge

end
-- ==== Proof.MergeSpec.lean ====
/-
  The merge and output projection on extended reals, row by row: the recurrence's output normalised head by head, with its
  bonus and gate; the two branches' products, gated and added; and the output weights' product added to the row. With the
  fact that over finite entries the kernel's four sums over a head are the head's one sum.
-/
module

public import proofs.«01_k».proof.Proof.MixSpec

@[expose] public section

noncomputable section

open Idealize.ShloMosaic

namespace Cert.Merge

open Cert.Mix (Real' head_bits recip_bits div_real)

/-- Column `64 h + d` of the 1024. -/
def inHead (h : ℕ) (d : Fin 64) : Fin 1024 := ⟨(64 * h + d.val) % 1024, Nat.mod_lt _ (by decide)⟩

/-- The sum over the head of column `e`. -/
def headSum (f : Fin 1024 → EReal) (e : Fin 1024) : EReal := ∑ d : Fin 64, f (inHead (e.val / 64) d)

/-- The mean over the head of column `e`. -/
def mean (f : Fin 1024 → EReal) (e : Fin 1024) : EReal := Ideal.div (headSum f e) (Ideal.ofBits .f32 0x42800000#32)

/-- The deviation from the head's mean, and the deviation over the head's standard deviation. -/
def deviation (y : Fin 1024 → EReal) (e : Fin 1024) : EReal := y e - mean y e

def standard (y : Fin 1024 → EReal) (e : Fin 1024) : EReal :=
  deviation y e * Ideal.rsqrt (mean (fun l => deviation y l * deviation y l) e + Ideal.ofBits .f32 0x3A27C5AC#32)

/-- The recurrence's gated output. -/
def gated (y r k v g lw lb rk : Fin 1024 → EReal) (e : Fin 1024) : EReal :=
  (standard y e * lw e + lb e + headSum (fun l => r l * k l * rk l) e * v e) * g e

/-- The two branches, gated and added. -/
def merged (a b : Fin 2048 → EReal) (o z : Fin 1024 → EReal) (ws wr : Fin 1024 → Fin 2048 → EReal) (n : Fin 2048) : EReal :=
  Ideal.logistic (a n) * ∑ e, o e * ws e n + Ideal.logistic (b n) * ∑ e, z e * wr e n

/-- A row of the result. -/
def layer (h a b : Fin 2048 → EReal) (o z : Fin 1024 → EReal) (ws wr : Fin 1024 → Fin 2048 → EReal)
    (w : Fin 2048 → Fin 2048 → EReal) (n : Fin 2048) : EReal :=
  h n + ∑ j, merged a b o z ws wr j * w j n

/-! ## The kernel's sums over the heads -/

/-- One on the columns of head `h`, zero elsewhere. -/
def member (l : Fin 1024) (h : Fin 128) : EReal := if l.val / 64 = h.val then 1 else 0

theorem sum_member (f : Fin 1024 → EReal) (e : Fin 1024) (h : Fin 128) (hh : h.val = e.val / 64) : ∑ l, f l * member l h = headSum f e := by
  have he := e.isLt
  have s : ∑ l : Fin 1024, f l * member l h = ∑ a : Fin 16, ∑ d : Fin 64, f (inHead a.val d) * member (inHead a.val d) h := by
    rw [← Fintype.sum_prod_type']
    refine (Fintype.sum_equiv (finProdFinEquiv (m := 16) (n := 64)) _ _ fun p => ?_).symm
    have hp : inHead p.1.val p.2 = finProdFinEquiv (m := 16) (n := 64) p := by
      have := p.1.isLt
      have := p.2.isLt
      apply Fin.ext
      show (64 * p.1.val + p.2.val) % 1024 = p.2.val + 64 * p.1.val
      omega
    rw [hp]
  rw [s, Finset.sum_eq_single (⟨e.val / 64, by omega⟩ : Fin 16)]
  · refine Finset.sum_congr rfl fun d _ => ?_
    have hd := d.isLt
    rw [member, if_pos (by show (64 * (e.val / 64) + d.val) % 1024 / 64 = h.val; omega), mul_one]
  · intro a _ hne
    refine Finset.sum_eq_zero fun d _ => ?_
    have hd := d.isLt
    have ha := a.isLt
    have hv : a.val ≠ e.val / 64 := fun q => hne (Fin.ext q)
    rw [member, if_neg (by show ¬ (64 * a.val + d.val) % 1024 / 64 = h.val; omega), mul_zero]
  · intro hn
    exact absurd (Finset.mem_univ _) hn

/-- What the kernel sums over head `h`: the entries, and what their rounding left, which is nothing. -/
def low (f : Fin 1024 → EReal) (h : Fin 128) : EReal := ∑ l, f l * member l h + ∑ l, (f l - f l) * member l h

/-- And how it spreads the heads' sums over their columns, in the same two parts. -/
def spread (s : Fin 128 → EReal) (e : Fin 1024) : EReal := ∑ h, s h * member e h + ∑ h, (s h - s h) * member e h

theorem real_member (l : Fin 1024) (h : Fin 128) : Real' (member l h) := by
  unfold member
  split
  · exact ⟨1, rfl⟩
  · exact ⟨0, rfl⟩

theorem sub_self_real {x : EReal} (hx : Real' x) : x - x = 0 := by
  obtain ⟨r, rfl⟩ := hx
  rw [← EReal.coe_sub, sub_self, EReal.coe_zero]

theorem low_eq {f : Fin 1024 → EReal} (hf : ∀ l, Real' (f l)) (h : Fin 128) : low f h = ∑ l, f l * member l h := by
  unfold low
  rw [Finset.sum_eq_zero (s := Finset.univ) (f := fun l => (f l - f l) * member l h)
    (fun l _ => by rw [sub_self_real (hf l), zero_mul]), add_zero]

/-- Over finite entries the spread sums are the head's sum. -/
theorem spread_low {f : Fin 1024 → EReal} (hf : ∀ l, Real' (f l)) (e : Fin 1024) : spread (low f) e = headSum f e := by
  have he := e.isLt
  have hr : ∀ h, Real' (low f h) := fun h => by
    rw [low_eq hf]
    exact Real'.sum fun l => (hf l).mul (real_member l h)
  unfold spread
  rw [Finset.sum_eq_zero (s := Finset.univ) (f := fun h => (low f h - low f h) * member e h)
    (fun h _ => by rw [sub_self_real (hr h), zero_mul]), add_zero]
  rw [Finset.sum_eq_single (⟨e.val / 64, by omega⟩ : Fin 128)]
  · rw [low_eq hf, sum_member f e _ rfl, member, if_pos rfl, mul_one]
  · intro h _ hne
    rw [member, if_neg (fun q => hne (Fin.ext q.symm)), mul_zero]
  · intro hn
    exact absurd (Finset.mem_univ _) hn

/-- And times the constant 1/64 they are the head's mean. -/
theorem spread_mean {f : Fin 1024 → EReal} (hf : ∀ l, Real' (f l)) (e : Fin 1024) :
    spread (low f) e * Ideal.ofBits .f32 0x3C800000#32 = mean f e := by
  rw [spread_low hf, mean, head_bits, div_real _ (by norm_num), recip_bits]

/-- Finite entries have finite deviations. -/
theorem deviation_real {y : Fin 1024 → EReal} (hy : ∀ l, Real' (y l)) (e : Fin 1024) : Real' (deviation y e) := by
  have hm : Real' (mean y e) := by
    rw [mean, head_bits, div_real _ (by norm_num)]
    exact Real'.mul (Real'.sum fun d => hy _) ⟨_, rfl⟩
  obtain ⟨a, ha⟩ := hy e
  obtain ⟨b, hb⟩ := hm
  exact ⟨a - b, by rw [deviation, ha, hb, EReal.coe_sub]⟩

end Cert.Merge

end
-- ==== Proof.MergeValue.lean ====
/-
  The merge and output projection kernel's result: the payloads at an index, the arrays at its entry, the points' blocks of
  them, and the array the points write, which over finite heads is row by row the row of MergeSpec.
-/
module

public import proofs.«01_k».proof.Proof.MergePoint
public import proofs.«01_k».proof.Proof.MergeSpec
public import Idealize.ShloMosaic.Lib.Pointwise

@[expose] public section

noncomputable section

open Idealize.ShloMosaic Idealize.ShloMosaic.TcCoe Idealize.SL.Sem

namespace Cert.Kernel4Ideal.Merge

open Cert.Kernel4Ideal Cert.Kernel4Ideal.Gen Cert.Kernel4Ideal.Value
open Cert.Mix (Real')

/-! ## The payloads at an index -/

/-- The sums over the heads, in two parts. -/
def lows (x : FVec Ideal S256x1024 .f32) (b : FVec Ideal S1024x128 .bf16) : FVec Ideal S256x128 .f32 :=
  addf (matmul dot_S256x1024_S1024x128_S256x128_1_0_0_1_n_n none (truncf .bf16 x bitsLt_bf16_f32) b (constant (F := Ideal) S256x128 .f32 0x00000000#32))
    (matmul dot_S256x1024_S1024x128_S256x128_1_0_0_1_n_n none
      (truncf .bf16 (subf x (extf .f32 (truncf .bf16 x bitsLt_bf16_f32 : FVec Ideal S256x1024 .bf16) bitsLt_bf16_f32)) bitsLt_bf16_f32) b
      (constant (F := Ideal) S256x128 .f32 0x00000000#32))

/-- And the heads' sums back on their columns. -/
def spreads (s : FVec Ideal S256x128 .f32) (b : FVec Ideal S1024x128 .bf16) : FVec Ideal S256x1024 .f32 :=
  addf (matmul dot_S256x128_S1024x128_S256x1024_1_1_0_0_n_n none (truncf .bf16 s bitsLt_bf16_f32) b (constant (F := Ideal) S256x1024 .f32 0x00000000#32))
    (matmul dot_S256x128_S1024x128_S256x1024_1_1_0_0_n_n none
      (truncf .bf16 (subf s (extf .f32 (truncf .bf16 s bitsLt_bf16_f32 : FVec Ideal S256x128 .bf16) bitsLt_bf16_f32)) bitsLt_bf16_f32) b
      (constant (F := Ideal) S256x1024 .f32 0x00000000#32))

section Rows
variable (b : FVec Ideal S1024x128 .bf16) (hb : ∀ l h, b (ix2 l h) = Cert.Merge.member l h)
include hb

theorem lows_at (x : FVec Ideal S256x1024 .f32) (r : Fin 256) (h : Fin 128) :
    lows x b (ix2 r h) = Cert.Merge.low (fun l => x (ix2 r l)) h := by
  pointwise [lows, hb]
  rfl

theorem spreads_at (s : FVec Ideal S256x128 .f32) (r : Fin 256) (e : Fin 1024) :
    spreads s b (ix2 r e) = Cert.Merge.spread (fun h => s (ix2 r h)) e := by
  pointwise [spreads, hb]
  rfl

theorem sums_at (x : FVec Ideal S256x1024 .f32) (r : Fin 256) (e : Fin 1024) (hx : ∀ l, Real' (x (ix2 r l))) :
    spreads (lows x b) b (ix2 r e) = Cert.Merge.headSum (fun l => x (ix2 r l)) e := by
  rw [spreads_at b hb]
  simp only [lows_at b hb]
  exact Cert.Merge.spread_low hx e

omit hb in
/-- The heads' means and the deviations from them. -/
def means (x : FVec Ideal S256x1024 .f32) : FVec Ideal S256x1024 .f32 :=
  mulf (spreads (lows x b) b) (broadcast S256x1024 (Scalar.ofBits (F := Ideal) .f32 0x3C800000#32))

theorem means_at (x : FVec Ideal S256x1024 .f32) (r : Fin 256) (e : Fin 1024) (hx : ∀ l, Real' (x (ix2 r l))) :
    means b x (ix2 r e) = Cert.Merge.mean (fun l => x (ix2 r l)) e := by
  have h := sums_at b hb x r e hx
  rw [← Cert.Merge.spread_mean hx e, Cert.Merge.spread_low hx e, ← h]
  unfold means
  generalize spreads (lows x b) b = s
  pointwise

omit hb in
def deviations (x : FVec Ideal S256x1024 .f32) : FVec Ideal S256x1024 .f32 := subf x (means b x)

theorem deviations_at (x : FVec Ideal S256x1024 .f32) (r : Fin 256) (e : Fin 1024) (hx : ∀ l, Real' (x (ix2 r l))) :
    deviations b x (ix2 r e) = Cert.Merge.deviation (fun l => x (ix2 r l)) e := by
  unfold Cert.Merge.deviation
  rw [← means_at b hb x r e hx]
  unfold deviations
  generalize means b x = s
  pointwise

omit hb in
theorem pay4_eq (y : Vec Ideal S1024x128 .bf16) (x : Vec Ideal S256x1024 .f32) : k0_pay4 (F := Ideal) y x
    = mulf (deviations (k0_pay3 (F := Ideal) y) x)
        (rsqrt (addf (means (k0_pay3 (F := Ideal) y) (mulf (deviations (k0_pay3 (F := Ideal) y) x) (deviations (k0_pay3 (F := Ideal) y) x)))
          (broadcast S256x1024 (Scalar.ofBits (F := Ideal) .f32 0x3A27C5AC#32)))) := rfl

/-- The deviations over the heads' standard deviations. -/
theorem standards_at (x : FVec Ideal S256x1024 .f32) (r : Fin 256) (e : Fin 1024) (hx : ∀ l, Real' (x (ix2 r l))) :
    mulf (deviations b x) (rsqrt (addf (means b (mulf (deviations b x) (deviations b x)))
      (broadcast S256x1024 (Scalar.ofBits (F := Ideal) .f32 0x3A27C5AC#32)))) (ix2 r e) = Cert.Merge.standard (fun l => x (ix2 r l)) e := by
  have sq : ∀ l, mulf (deviations b x) (deviations b x) (ix2 r l)
      = Cert.Merge.deviation (fun l => x (ix2 r l)) l * Cert.Merge.deviation (fun l => x (ix2 r l)) l := fun l => by
    rw [← deviations_at b hb x r l hx]
    rfl
  have hm := means_at b hb (mulf (deviations b x) (deviations b x)) r e
    (fun l => by rw [sq l]; exact (Cert.Merge.deviation_real hx l).mul (Cert.Merge.deviation_real hx l))
  simp only [sq] at hm
  unfold Cert.Merge.standard
  rw [← hm, ← deviations_at b hb x r e hx]
  generalize means b (mulf (deviations b x) (deviations b x)) = v
  generalize deviations b x = d
  pointwise

omit hb in
/-- The bonus's products. -/
def products (u k : FVec Ideal S256x1024 .f32) (q : FVec Ideal S1x1024 .f32) : FVec Ideal S256x1024 .f32 :=
  mulf (mulf u k) (broadcastTo S256x1024 (shapeCast S1x1024 q shapeCasts_S1x1024_S1x1024 : FVec Ideal S1x1024 .f32) broadcasts_S1x1024_S256x1024)

/-- The gated output. -/
theorem pay6_at (p : FVec Ideal S256x1024 .f32) (lw : FVec Ideal S1x1024 .f32) (lb : Vec Ideal S1x1024 .f32) (u k : Vec Ideal S256x1024 .f32)
    (q : Vec Ideal S1x1024 .f32) (v g : Vec Ideal S256x1024 .f32) (r : Fin 256) (e : Fin 1024)
    (hx : ∀ l, Real' (u (ix2 r l) * k (ix2 r l) * q (ix2 0 l))) :
    k0_pay6 (F := Ideal) b p lw lb u k q v g (ix2 r e)
      = (p (ix2 r e) * lw (ix2 0 e) + lb (ix2 0 e)
          + Cert.Merge.headSum (fun l => u (ix2 r l) * k (ix2 r l) * q (ix2 0 l)) e * v (ix2 r e)) * g (ix2 r e) := by
  have pr : ∀ l, products u k q (ix2 r l) = u (ix2 r l) * k (ix2 r l) * q (ix2 0 l) := fun l => by pointwise [products]
  have h := sums_at b hb (products u k q) r e (fun l => by rw [pr l]; exact hx l)
  simp only [pr] at h
  rw [← h]
  have e6 : k0_pay6 (F := Ideal) b p lw lb u k q v g
      = truncf .bf16 (mulf (addf (addf (mulf p (broadcastTo S256x1024 lw broadcasts_S1x1024_S256x1024))
          (broadcastTo S256x1024 (shapeCast S1x1024 lb shapeCasts_S1x1024_S1x1024 : FVec Ideal S1x1024 .f32) broadcasts_S1x1024_S256x1024))
        (mulf (spreads (lows (products u k q) b) b) v)) g) bitsLt_bf16_f32 := rfl
  rw [e6]
  generalize spreads (lows (products u k q) b) b = s
  pointwise

end Rows

theorem pay3_at (y : Vec Ideal S1024x128 .bf16) (l : Fin 1024) (h : Fin 128) : k0_pay3 (F := Ideal) y (ix2 l h) = y (ix2 l h) := by
  pointwise [k0_pay3]

theorem pay5_at (y : Vec Ideal S1x1024 .f32) (e : Fin 1024) : k0_pay5 (F := Ideal) y (ix2 0 e) = y (ix2 0 e) := by
  pointwise [k0_pay5]

theorem pay1_at (z : FVec Ideal S256x1024 .bf16) (o : FVec Ideal S256x2048 .f32) (w : Vec Ideal S1024x2048 .bf16)
    (a b : Vec Ideal S256x2048 .f32) (r : Fin 256) (n : Fin 2048) :
    k0_pay1 (F := Ideal) z o w a b (ix2 r n)
      = Ideal.logistic (a (ix2 r n)) * o (ix2 r n) + Ideal.logistic (b (ix2 r n)) * ∑ e, z (ix2 r e) * w (ix2 e n) := by
  pointwise [k0_pay1]

theorem pay7_at (o : Vec Ideal S256x1024 .f32) (w : Vec Ideal S1024x2048 .bf16) (r : Fin 256) (n : Fin 2048) :
    k0_pay7 (F := Ideal) o w (ix2 r n) = ∑ e, o (ix2 r e) * w (ix2 e n) := by
  pointwise [k0_pay7]

theorem pay2_at (h : Vec Ideal S256x2048 .f32) (z : Vec Ideal S256x2048 .bf16) (w : Vec Ideal S2048x2048 .bf16) (r : Fin 256) (n : Fin 2048) :
    k0_pay2 (F := Ideal) h z w (ix2 r n) = h (ix2 r n) + ∑ j, z (ix2 r j) * w (ix2 j n) := by
  pointwise [k0_pay2]

/-- A point's block, row by row. -/
theorem block_at (x0 : Vec Ideal S256x2048 .f32) (x1 x2 x3 x4 x5 x6 : Vec Ideal S256x1024 .f32) (x7 x8 : Vec Ideal S256x2048 .f32)
    (x9 x10 x11 : Vec Ideal S1x1024 .f32) (x12 : Vec Ideal S1024x128 .bf16) (x13 x14 : Vec Ideal S1024x2048 .bf16) (x15 : Vec Ideal S2048x2048 .bf16)
    (r : Fin 256) (n : Fin 2048) (hb : ∀ l h, x12 (ix2 l h) = Cert.Merge.member l h) (hy : ∀ l, Real' (x2 (ix2 r l)))
    (hx : ∀ l, Real' (x3 (ix2 r l) * x4 (ix2 r l) * x11 (ix2 0 l))) :
    block x0 x1 x2 x3 x4 x5 x6 x7 x8 x9 x10 x11 x12 x13 x14 x15 (ix2 r n)
      = Cert.Merge.layer (fun j => x0 (ix2 r j)) (fun j => x7 (ix2 r j)) (fun j => x8 (ix2 r j)) (fun e => x1 (ix2 r e))
          (Cert.Merge.gated (fun e => x2 (ix2 r e)) (fun e => x3 (ix2 r e)) (fun e => x4 (ix2 r e)) (fun e => x5 (ix2 r e)) (fun e => x6 (ix2 r e))
            (fun e => x9 (ix2 0 e)) (fun e => x10 (ix2 0 e)) (fun e => x11 (ix2 0 e)))
          (fun e j => x13 (ix2 e j)) (fun e j => x14 (ix2 e j)) (fun j o => x15 (ix2 j o)) n := by
  have hb' : ∀ l h, k0_pay3 (F := Ideal) x12 (ix2 l h) = Cert.Merge.member l h := fun l h => (pay3_at x12 l h).trans (hb l h)
  have h4 : ∀ e, k0_pay4 (F := Ideal) x12 x2 (ix2 r e) = Cert.Merge.standard (fun l => x2 (ix2 r l)) e := fun e => by
    rw [pay4_eq]
    exact standards_at _ hb' x2 r e hy
  unfold block
  rw [pay2_at]
  simp only [pay1_at, pay7_at, pay6_at _ hb' _ _ _ _ _ _ _ _ r _ hx, h4, pay5_at]
  rfl

/-! ## The arrays at the kernel's entry -/

variable (m : (ℓ : Loc nD τ sig) → Buf (Elt Ideal) ℓ) (c : Dev nD)

/-- The numbers below 1024 divided by 64, rounded down, as the host computes them. -/
def quotients : IVec S1024 32 :=
  select (andi (cmpi .ne (signi (iotaInDim S1024 32 0)) (broadcastInDim S1024 ![] bcast_S_S1024 (signi (constantI S_ 32 64#32))))
      (cmpi .ne (Host.remsi (iotaInDim S1024 32 0) (broadcastInDim S1024 ![] bcast_S_S1024 (constantI S_ 32 64#32)))
        (broadcastInDim S1024 ![] bcast_S_S1024 (constantI S_ 32 0#32))))
    (subi (Host.divsi (iotaInDim S1024 32 0) (broadcastInDim S1024 ![] bcast_S_S1024 (constantI S_ 32 64#32)))
      (broadcastInDim S1024 ![] bcast_S_S1024 (constantI S_ 32 1#32)))
    (Host.divsi (iotaInDim S1024 32 0) (broadcastInDim S1024 ![] bcast_S_S1024 (constantI S_ 32 64#32)))

theorem quotients_at (l : Fin 1024) : quotients (ix1 l) = BitVec.ofNat 32 (l.val / 64) := by
  pointwise [quotients]
  revert l
  decide +kernel

/-- The matrix of ones where a column is of a head. -/
def heads : Vec Ideal S1024x128 .bf16 :=
  uitofp (F := Ideal) .bf16 (cmpi .eq (broadcastInDim S1024x128 ![0, 1] bcast_S1024x1_S1024x128_0_1 (broadcastInDim S1024x1 ![0] bcast_S1024_S1024x1_0 quotients))
      (broadcastInDim S1024x128 ![0, 1] bcast_S1x128_S1024x128_0_1 (broadcastInDim S1x128 ![1] bcast_S128_S1x128_1 (iotaInDim S128 32 0))))

theorem heads_at (l : Fin 1024) (h : Fin 128) : heads (ix2 l h) = Cert.Merge.member l h := by
  pointwise [heads, quotients_at]
  have hl := l.isLt
  have hh := h.isLt
  unfold Cert.Merge.member
  have hq : (BitVec.ofNat 32 (l.val / 64) = BitVec.ofNat 32 h.val) ↔ l.val / 64 = h.val := by
    rw [← BitVec.toNat_inj, BitVec.toNat_ofNat, BitVec.toNat_ofNat]
    omega
  show (((BitVec.ofBool (BitVec.ofNat 32 (l.val / 64) == BitVec.ofNat 32 h.val)).toNat : ℝ) : EReal) = _
  by_cases g : l.val / 64 = h.val
  · rw [if_pos g, g]
    simp
  · rw [if_neg g, beq_eq_false_iff_ne.mpr (fun q => g (hq.mp q))]
    simp

theorem V_v8 : (V m c main_v8 : Vec Ideal S1024x128 .bf16) = heads := by
  show StableHlo.after (hostOps0_2 (F := Ideal)) (StableHlo.after (hostOps0_1 (F := Ideal)) (StableHlo.after (hostOps0 (F := Ideal)) _)) (Proc.devRef .tc main_v8) = _
  after_results
  rfl

theorem lift_at (y : Vec Ideal S1024 .f32) (e : Fin 1024) : shapeCast S1x1024 y shapeCasts_S1024_S1x1024 (ix2 0 e) = y (ix1 e) := by
  pointwise

theorem flat_at (y : Vec Ideal S16x64 .f32) (e : Fin 1024) :
    shapeCast S1x1024 y shapeCasts_S16x64_S1x1024 (ix2 0 e) = y (ix2 ⟨e.val / 64, by have := e.isLt; omega⟩ ⟨e.val % 64, by omega⟩) := by
  pointwise

theorem V_v9 : (V m c main_v9 : Vec Ideal S1x1024 .f32) = shapeCast S1x1024 (m ((c : Thread nD τ).loc main_arg8) : Vec Ideal S1024 .f32) shapeCasts_S1024_S1x1024 := by
  show StableHlo.after (hostOps0_2 (F := Ideal)) (StableHlo.after (hostOps0_1 (F := Ideal)) (StableHlo.after (hostOps0 (F := Ideal)) _)) (Proc.devRef .tc main_v9) = _
  after_results
  rfl

theorem V_v10 : (V m c main_v10 : Vec Ideal S1x1024 .f32) = shapeCast S1x1024 (m ((c : Thread nD τ).loc main_arg9) : Vec Ideal S1024 .f32) shapeCasts_S1024_S1x1024 := by
  show StableHlo.after (hostOps0_2 (F := Ideal)) (StableHlo.after (hostOps0_1 (F := Ideal)) (StableHlo.after (hostOps0 (F := Ideal)) _)) (Proc.devRef .tc main_v10) = _
  after_results
  rfl

theorem V_v11 : (V m c main_v11 : Vec Ideal S1x1024 .f32) = shapeCast S1x1024 (m ((c : Thread nD τ).loc main_arg10) : Vec Ideal S16x64 .f32) shapeCasts_S16x64_S1x1024 := by
  show StableHlo.after (hostOps0_2 (F := Ideal)) (StableHlo.after (hostOps0_1 (F := Ideal)) (StableHlo.after (hostOps0 (F := Ideal)) _)) (Proc.devRef .tc main_v11) = _
  after_results
  rfl

theorem V_v12 : (V m c main_v12 : Vec Ideal S1024x2048 .bf16) = (m ((c : Thread nD τ).loc main_arg11) : Vec Ideal S1024x2048 .f32) := by
  show StableHlo.after (hostOps0_2 (F := Ideal)) (StableHlo.after (hostOps0_1 (F := Ideal)) (StableHlo.after (hostOps0 (F := Ideal)) _)) (Proc.devRef .tc main_v12) = _
  after_results
  rfl

theorem V_v13 : (V m c main_v13 : Vec Ideal S1024x2048 .bf16) = (m ((c : Thread nD τ).loc main_arg12) : Vec Ideal S1024x2048 .f32) := by
  show StableHlo.after (hostOps0_2 (F := Ideal)) (StableHlo.after (hostOps0_1 (F := Ideal)) (StableHlo.after (hostOps0 (F := Ideal)) _)) (Proc.devRef .tc main_v13) = _
  after_results
  rfl

theorem V_v14 : (V m c main_v14 : Vec Ideal S2048x2048 .bf16) = (m ((c : Thread nD τ).loc main_arg13) : Vec Ideal S2048x2048 .f32) := by
  show StableHlo.after (hostOps0_2 (F := Ideal)) (StableHlo.after (hostOps0_1 (F := Ideal)) (StableHlo.after (hostOps0 (F := Ideal)) _)) (Proc.devRef .tc main_v14) = _
  after_results
  rfl

/-! ## The points' input blocks -/

/-- Row `256 q + r` of the 16384. -/
def row (q : ℕ) (r : Fin 256) : Fin 16384 := ⟨(256 * q + r.val) % 16384, Nat.mod_lt _ (by decide)⟩

theorem lt_N (t : Fin cfg0.N) : t.val < 64 := lt_of_lt_of_eq t.isLt N_0

theorem row_val (t : Fin cfg0.N) (r : Fin 256) : (row t.val r).val = t.val * 256 + r.val := by
  have ht := lt_N t
  have hr := r.isLt
  show (256 * t.val + r.val) % 16384 = _
  omega

/-- An entry is the one its coordinates name. -/
theorem entry_eq {a b : ℕ} {α : Type} (y : (⟨2, ![a, b]⟩ : Shape).Idx → α) (i : (⟨2, ![a, b]⟩ : Shape).Idx) (p : Fin a) (q : Fin b)
    (hp : (i 0).val = p.val) (hq : (i 1).val = q.val) : y i = y (ix2 p q) := by
  rw [eq_ix2 i]
  exact congrArg₂ (fun p q => y (ix2 p q)) (Fin.ext hp) (Fin.ext hq)

/-- Every point's rows start at 256 times its number, -/
theorem starts : ∀ t : Fin cfg0.N, (win0_0.index t (0 : Fin 2) = t.val ∧ win0_1.index t (0 : Fin 2) = t.val ∧ win0_2.index t (0 : Fin 2) = t.val)
    ∧ (win0_3.index t (0 : Fin 2) = t.val ∧ win0_4.index t (0 : Fin 2) = t.val ∧ win0_5.index t (0 : Fin 2) = t.val)
    ∧ (win0_6.index t (0 : Fin 2) = t.val ∧ win0_7.index t (0 : Fin 2) = t.val ∧ win0_8.index t (0 : Fin 2) = t.val ∧ win0_16.index t (0 : Fin 2) = t.val) :=
  (by decide +kernel : ∀ t : Fin grid0.N, _)

/-- and the gates' columns at 6144 and 8192. -/
theorem gates : ∀ t : Fin cfg0.N, win0_7.index t (1 : Fin 2) = 3 ∧ win0_8.index t (1 : Fin 2) = 4 :=
  (by decide +kernel : ∀ t : Fin grid0.N, _)

/-- The grid's second coordinate is always zero, so the blocks named by it are the first. -/
theorem firsts : ∀ t : Fin cfg0.N, win0_0.index t (1 : Fin 2) = 0 ∧ win0_15.index t (1 : Fin 2) = 0 ∧ win0_16.index t (1 : Fin 2) = 0 :=
  (by decide +kernel : ∀ t : Fin grid0.N, _)

variable (t : Fin cfg0.N) (r : Fin 256)

/-- A block of rows, and a block that is its whole array. -/
theorem rows_eq {n : ℕ} {α : Type} (y : (⟨2, ![16384, n]⟩ : Shape).Idx → α) (i : (⟨2, ![16384, n]⟩ : Shape).Idx) (e : Fin n) (w z : ℕ)
    (hw : w = t.val) (hz : z = 0) (h0 : (i 0).val = w * 256 + 1 * r.val) (h1 : (i 1).val = z * n + 1 * e.val) : y i = y (ix2 (row t.val r) e) :=
  entry_eq y i _ _ (by rw [h0, hw, row_val, one_mul]) (by rw [h1, hz, zero_mul, one_mul, zero_add])

theorem whole_eq {a b : ℕ} {α : Type} (y : (⟨2, ![a, b]⟩ : Shape).Idx → α) (i : (⟨2, ![a, b]⟩ : Shape).Idx) (p : Fin a) (q : Fin b) (w z : ℕ)
    (hw : w = 0) (hz : z = 0) (h0 : (i 0).val = w * a + 1 * p.val) (h1 : (i 1).val = z * b + 1 * q.val) : y i = y (ix2 p q) :=
  entry_eq y i p q (by rw [h0, hw, zero_mul, one_mul, zero_add]) (by rw [h1, hz, zero_mul, one_mul, zero_add])

theorem blk0 (e : Fin 2048) : (iblk m c 0 t : Vec Ideal S256x2048 .f32) (ix2 r e) = m ((c : Thread nD τ).loc main_arg0) (ix2 (row t.val r) e) := by
  unfold iblk
  rw [View.read_apply]
  show (V m c main_arg0 : Vec Ideal S16384x2048 .f32) _ = _
  rw [V_main_arg0]
  exact rows_eq t r _ _ e (win0_0.index t 0) (win0_0.index t 1) (starts t).1.1 (firsts t).1 rfl rfl

theorem blk1 (e : Fin 1024) : (iblk m c 1 t : Vec Ideal S256x1024 .f32) (ix2 r e) = m ((c : Thread nD τ).loc main_arg1) (ix2 (row t.val r) e) := by
  unfold iblk
  rw [View.read_apply]
  show (V m c main_arg1 : Vec Ideal S16384x1024 .f32) _ = _
  rw [V_main_arg1]
  exact rows_eq t r _ _ e (win0_1.index t 0) (win0_1.index t 1) (starts t).1.2.1 rfl rfl rfl

theorem blk2 (e : Fin 1024) : (iblk m c 2 t : Vec Ideal S256x1024 .f32) (ix2 r e) = m ((c : Thread nD τ).loc main_arg2) (ix2 (row t.val r) e) := by
  unfold iblk
  rw [View.read_apply]
  show (V m c main_arg2 : Vec Ideal S16384x1024 .f32) _ = _
  rw [V_main_arg2]
  exact rows_eq t r _ _ e (win0_2.index t 0) (win0_2.index t 1) (starts t).1.2.2 rfl rfl rfl

theorem blk3 (e : Fin 1024) : (iblk m c 3 t : Vec Ideal S256x1024 .f32) (ix2 r e) = m ((c : Thread nD τ).loc main_arg3) (ix2 (row t.val r) e) := by
  unfold iblk
  rw [View.read_apply]
  show (V m c main_arg3 : Vec Ideal S16384x1024 .f32) _ = _
  rw [V_main_arg3]
  exact rows_eq t r _ _ e (win0_3.index t 0) (win0_3.index t 1) (starts t).2.1.1 rfl rfl rfl

theorem blk4 (e : Fin 1024) : (iblk m c 4 t : Vec Ideal S256x1024 .f32) (ix2 r e) = m ((c : Thread nD τ).loc main_arg4) (ix2 (row t.val r) e) := by
  unfold iblk
  rw [View.read_apply]
  show (V m c main_arg4 : Vec Ideal S16384x1024 .f32) _ = _
  rw [V_main_arg4]
  exact rows_eq t r _ _ e (win0_4.index t 0) (win0_4.index t 1) (starts t).2.1.2.1 rfl rfl rfl

theorem blk5 (e : Fin 1024) : (iblk m c 5 t : Vec Ideal S256x1024 .f32) (ix2 r e) = m ((c : Thread nD τ).loc main_arg5) (ix2 (row t.val r) e) := by
  unfold iblk
  rw [View.read_apply]
  show (V m c main_arg5 : Vec Ideal S16384x1024 .f32) _ = _
  rw [V_main_arg5]
  exact rows_eq t r _ _ e (win0_5.index t 0) (win0_5.index t 1) (starts t).2.1.2.2 rfl rfl rfl

theorem blk6 (e : Fin 1024) : (iblk m c 6 t : Vec Ideal S256x1024 .f32) (ix2 r e) = m ((c : Thread nD τ).loc main_arg6) (ix2 (row t.val r) e) := by
  unfold iblk
  rw [View.read_apply]
  show (V m c main_arg6 : Vec Ideal S16384x1024 .f32) _ = _
  rw [V_main_arg6]
  exact rows_eq t r _ _ e (win0_6.index t 0) (win0_6.index t 1) (starts t).2.2.1 rfl rfl rfl

theorem blk7 (n : Fin 2048) :
    (X0_7 m c t : Vec Ideal S256x2048 .f32) (ix2 r n) = m ((c : Thread nD τ).loc main_arg7) (ix2 (row t.val r) ⟨6144 + n.val, by have := n.isLt; omega⟩) := by
  unfold X0_7 Pipeline.Window.fill
  rw [dif_pos (moved0_7 t (ix2 r n))]
  unfold iblk
  rw [View.read_apply]
  show (V m c main_arg7 : Vec Ideal S16384x10752 .f32) _ = _
  rw [V_main_arg7]
  refine entry_eq _ _ _ _ ?_ ?_
  · show win0_7.index t 0 * 256 + 1 * r.val = _
    rw [(starts t).2.2.2.1, row_val, one_mul]
  · show win0_7.index t 1 * 2048 + 1 * n.val = 6144 + n.val
    rw [(gates t).1]
    omega

theorem blk8 (n : Fin 2048) :
    (X0_8 m c t : Vec Ideal S256x2048 .f32) (ix2 r n) = m ((c : Thread nD τ).loc main_arg7) (ix2 (row t.val r) ⟨8192 + n.val, by have := n.isLt; omega⟩) := by
  unfold X0_8 Pipeline.Window.fill
  rw [dif_pos (moved0_8 t (ix2 r n))]
  unfold iblk
  rw [View.read_apply]
  show (V m c main_arg7 : Vec Ideal S16384x10752 .f32) _ = _
  rw [V_main_arg7]
  refine entry_eq _ _ _ _ ?_ ?_
  · show win0_8.index t 0 * 256 + 1 * r.val = _
    rw [(starts t).2.2.2.2.1, row_val, one_mul]
  · show win0_8.index t 1 * 2048 + 1 * n.val = 8192 + n.val
    rw [(gates t).2]
    omega

theorem blk9 (q : Fin 1024) : (iblk m c 9 t : Vec Ideal S1x1024 .f32) (ix2 0 q) = m ((c : Thread nD τ).loc main_arg8) (ix1 q) := by
  unfold iblk
  rw [View.read_apply]
  show (V m c main_v9 : Vec Ideal S1x1024 .f32) _ = _
  rw [V_v9]
  exact (whole_eq _ _ 0 q (win0_9.index t 0) (win0_9.index t 1) rfl rfl rfl rfl).trans (lift_at _ q)

theorem blk10 (q : Fin 1024) : (iblk m c 10 t : Vec Ideal S1x1024 .f32) (ix2 0 q) = m ((c : Thread nD τ).loc main_arg9) (ix1 q) := by
  unfold iblk
  rw [View.read_apply]
  show (V m c main_v10 : Vec Ideal S1x1024 .f32) _ = _
  rw [V_v10]
  exact (whole_eq _ _ 0 q (win0_10.index t 0) (win0_10.index t 1) rfl rfl rfl rfl).trans (lift_at _ q)

theorem blk11 (q : Fin 1024) : (iblk m c 11 t : Vec Ideal S1x1024 .f32) (ix2 0 q) = m ((c : Thread nD τ).loc main_arg10) (ix2 ⟨q.val / 64, by have := q.isLt; omega⟩ ⟨q.val % 64, by omega⟩) := by
  unfold iblk
  rw [View.read_apply]
  show (V m c main_v11 : Vec Ideal S1x1024 .f32) _ = _
  rw [V_v11]
  exact (whole_eq _ _ 0 q (win0_11.index t 0) (win0_11.index t 1) rfl rfl rfl rfl).trans (flat_at _ q)

theorem blk12 (p : Fin 1024) (q : Fin 128) : (iblk m c 12 t : Vec Ideal S1024x128 .bf16) (ix2 p q) = Cert.Merge.member p q := by
  unfold iblk
  rw [View.read_apply]
  show (V m c main_v8 : Vec Ideal S1024x128 .bf16) _ = _
  rw [V_v8]
  exact (whole_eq _ _ p q (win0_12.index t 0) (win0_12.index t 1) rfl rfl rfl rfl).trans (heads_at p q)

theorem blk13 (p : Fin 1024) (q : Fin 2048) : (iblk m c 13 t : Vec Ideal S1024x2048 .bf16) (ix2 p q) = m ((c : Thread nD τ).loc main_arg11) (ix2 p q) := by
  unfold iblk
  rw [View.read_apply]
  show (V m c main_v12 : Vec Ideal S1024x2048 .bf16) _ = _
  rw [V_v12]
  exact whole_eq _ _ p q (win0_13.index t 0) (win0_13.index t 1) rfl rfl rfl rfl

theorem blk14 (p : Fin 1024) (q : Fin 2048) : (iblk m c 14 t : Vec Ideal S1024x2048 .bf16) (ix2 p q) = m ((c : Thread nD τ).loc main_arg12) (ix2 p q) := by
  unfold iblk
  rw [View.read_apply]
  show (V m c main_v13 : Vec Ideal S1024x2048 .bf16) _ = _
  rw [V_v13]
  exact whole_eq _ _ p q (win0_14.index t 0) (win0_14.index t 1) rfl rfl rfl rfl

theorem blk15 (p : Fin 2048) (q : Fin 2048) : (iblk m c 15 t : Vec Ideal S2048x2048 .bf16) (ix2 p q) = m ((c : Thread nD τ).loc main_arg13) (ix2 p q) := by
  unfold iblk
  rw [View.read_apply]
  show (V m c main_v14 : Vec Ideal S2048x2048 .bf16) _ = _
  rw [V_v14]
  exact whole_eq _ _ p q (win0_15.index t 0) (win0_15.index t 1) rfl (firsts t).2.1 rfl rfl

/-! ## The result -/

/-- The recurrence's rows, receptances and keys, and the bonus's weights, without infinities. -/
structure Finite : Prop where
  y : ∀ R e, Real' (m ((c : Thread nD τ).loc main_arg2) (ix2 R e))
  r : ∀ R e, Real' (m ((c : Thread nD τ).loc main_arg3) (ix2 R e))
  k : ∀ R e, Real' (m ((c : Thread nD τ).loc main_arg4) (ix2 R e))
  rk : ∀ h d, Real' (m ((c : Thread nD τ).loc main_arg10) (ix2 h d))

/-- Row `R` of the result. -/
def resultRow (R : Fin 16384) : Fin 2048 → EReal :=
  Cert.Merge.layer (fun j => m ((c : Thread nD τ).loc main_arg0) (ix2 R j))
    (fun n => m ((c : Thread nD τ).loc main_arg7) (ix2 R ⟨6144 + n.val, by have := n.isLt; omega⟩))
    (fun n => m ((c : Thread nD τ).loc main_arg7) (ix2 R ⟨8192 + n.val, by have := n.isLt; omega⟩))
    (fun e => m ((c : Thread nD τ).loc main_arg1) (ix2 R e))
    (Cert.Merge.gated (fun e => m ((c : Thread nD τ).loc main_arg2) (ix2 R e)) (fun e => m ((c : Thread nD τ).loc main_arg3) (ix2 R e))
      (fun e => m ((c : Thread nD τ).loc main_arg4) (ix2 R e)) (fun e => m ((c : Thread nD τ).loc main_arg5) (ix2 R e))
      (fun e => m ((c : Thread nD τ).loc main_arg6) (ix2 R e)) (fun e => m ((c : Thread nD τ).loc main_arg8) (ix1 e))
      (fun e => m ((c : Thread nD τ).loc main_arg9) (ix1 e))
      (fun e => m ((c : Thread nD τ).loc main_arg10) (ix2 ⟨e.val / 64, by have := e.isLt; omega⟩ ⟨e.val % 64, by omega⟩)))
    (fun e j => m ((c : Thread nD τ).loc main_arg11) (ix2 e j)) (fun e j => m ((c : Thread nD τ).loc main_arg12) (ix2 e j))
    (fun j o => m ((c : Thread nD τ).loc main_arg13) (ix2 j o))

theorem outs_at (h : Finite m c) (n : Fin 2048) : outsAt0 m c t (ix2 r n) = resultRow m c (row t.val r) n := by
  unfold outsAt0
  rw [out_A, block_at _ _ _ _ _ _ _ _ _ _ _ _ _ _ _ _ r n (blk12 m c t)
    (fun l => by rw [blk2]; exact h.y _ _)
    (fun l => by rw [blk3, blk4, blk11]; exact ((h.r _ _).mul (h.k _ _)).mul (h.rk _ _))]
  simp only [blk0, blk1, blk2, blk3, blk4, blk5, blk6, blk7, blk8, blk9, blk10, blk11, blk13, blk14, blk15]
  rfl

/-- The array the points write, entry by entry. -/
theorem result_at (h : Finite m c) (R : Fin 16384) (n : Fin 2048) :
    ((dats m 0 c).arrAt 16 cfg0.N : Vec Ideal S16384x2048 .f32) (ix2 R n) = resultRow m c R n := by
  have hR := R.isLt
  obtain ⟨t, ht⟩ : ∃ t : Fin cfg0.N, t.val = R.val / 256 := ⟨⟨R.val / 256, lt_of_lt_of_eq (show R.val / 256 < 64 by omega) N_0.symm⟩, rfl⟩
  obtain ⟨r, hr⟩ : ∃ r : Fin 256, r.val = R.val % 256 := ⟨⟨R.val % 256, by omega⟩, rfl⟩
  have hrow : row t.val r = R := Fin.ext (by rw [row_val, ht, hr]; omega)
  have hb := congrFun (blocks16 m c t (flush0_16 t)) (ix2 r n)
  rw [View.read_apply, flushed16] at hb
  have ho : (cfg0.win 16).cut (grid0.coords t) (outsAt0 m c t) (ix2 r n) = outsAt0 m c t (ix2 r n) := rfl
  rw [← hrow, ← outs_at m c t r h n, ← ho, ← hb]
  exact (rows_eq t r _ _ n (win0_16.index t 0) (win0_16.index t 1) (starts t).2.2.2.2.2 (firsts t).2.2 rfl rfl).symm

end Cert.Kernel4Ideal.Merge

end
-- ==== Proof.MergeReference.lean ====
/-
  The merge and output projection reference at an index: row by row it is the row of MergeSpec.
-/
module

public import proofs.«01_k».proof.Proof.MergeSpec
public import proofs.«01_k».proof.Proof.Gen.Reference4Ideal.Read
public import Idealize.ShloMosaic.Lib.Pointwise

@[expose] public section

noncomputable section

open Idealize.ShloMosaic Idealize.ShloMosaic.TcCoe Idealize.SL.Sem

namespace Cert.Reference4Ideal.Merge

open Cert.Reference4Ideal Cert.Reference4Ideal.Gen Cert.Reference4Ideal.Read

/-- A row's heads, and heads back in a row. -/
theorem split_at (y : Vec Ideal S16384x1024 .f32) (R : Fin 16384) (h : Fin 16) (d : Fin 64) :
    shapeCast S16384x16x64 y shapeCasts_S16384x1024_S16384x16x64 (ix3 R h d) = y (ix2 R (Cert.Merge.inHead h.val d)) := by
  have hh := h.isLt
  have hd := d.isLt
  pointwise
  congr 2
  apply Fin.ext
  show _ = (64 * h.val + d.val) % 1024
  simp only [Fin.val_mk]
  omega

theorem join_at (y : Vec Ideal S16384x16x64 .f32) (R : Fin 16384) (e : Fin 1024) :
    shapeCast S16384x1024 y shapeCasts_S16384x16x64_S16384x1024 (ix2 R e)
      = y (ix3 R ⟨e.val / 64, by have := e.isLt; omega⟩ ⟨e.val % 64, by omega⟩) := by
  pointwise

theorem inHead_self (e : Fin 1024) : Cert.Merge.inHead (e.val / 64) ⟨e.val % 64, by omega⟩ = e :=
  Fin.ext (show (64 * (e.val / 64) + e.val % 64) % 1024 = e.val by have := e.isLt; omega)

variable (x0 : (⟨S16384x2048, .f32⟩ : BufTy).Contents (Elt Ideal)) (x1 x2 x3 x4 x5 x6 : (⟨S16384x1024, .f32⟩ : BufTy).Contents (Elt Ideal))
  (x7 : (⟨S16384x10752, .f32⟩ : BufTy).Contents (Elt Ideal)) (x8 x9 : (⟨S1024, .f32⟩ : BufTy).Contents (Elt Ideal))
  (x10 : (⟨S16x64, .f32⟩ : BufTy).Contents (Elt Ideal)) (x11 x12 : (⟨S1024x2048, .f32⟩ : BufTy).Contents (Elt Ideal))
  (x13 : (⟨S2048x2048, .f32⟩ : BufTy).Contents (Elt Ideal))

theorem y_at (R : Fin 16384) (h : Fin 16) (d : Fin 64) : val_main_v0 (F := Ideal) x2 (ix3 R h d) = x2 (ix2 R (Cert.Merge.inHead h.val d)) := split_at x2 R h d
theorem r_at (R : Fin 16384) (h : Fin 16) (d : Fin 64) : val_main_v1 (F := Ideal) x3 (ix3 R h d) = x3 (ix2 R (Cert.Merge.inHead h.val d)) := split_at x3 R h d
theorem k_at (R : Fin 16384) (h : Fin 16) (d : Fin 64) : val_main_v2 (F := Ideal) x4 (ix3 R h d) = x4 (ix2 R (Cert.Merge.inHead h.val d)) := split_at x4 R h d
theorem v_at (R : Fin 16384) (h : Fin 16) (d : Fin 64) : val_main_v3 (F := Ideal) x5 (ix3 R h d) = x5 (ix2 R (Cert.Merge.inHead h.val d)) := split_at x5 R h d

theorem headSum_inHead (f : Fin 1024 → EReal) (h : Fin 16) (d : Fin 64) :
    Cert.Merge.headSum f (Cert.Merge.inHead h.val d) = ∑ k : Fin 64, f (Cert.Merge.inHead h.val k) := by
  have hh := h.isLt
  have hd := d.isLt
  unfold Cert.Merge.headSum
  rw [show (Cert.Merge.inHead h.val d).val / 64 = h.val from (by show (64 * h.val + d.val) % 1024 / 64 = h.val; omega)]

/-- The heads' means, -/
theorem mean_at (R : Fin 16384) (h : Fin 16) (d : Fin 64) :
    val_main_v8 (F := Ideal) x2 (ix3 R h d) = Cert.Merge.mean (fun j => x2 (ix2 R j)) (Cert.Merge.inHead h.val d) := by
  unfold Cert.Merge.mean
  rw [headSum_inHead]
  pointwise [val_main_v8, val_main_v7, val_main_v6, val_main_v5, val_main_v4, val_main_cst, val_main_cst_0, y_at]

/-- the deviations from them, -/
theorem deviation_at (R : Fin 16384) (h : Fin 16) (d : Fin 64) :
    val_main_v9 (F := Ideal) x2 (ix3 R h d) = Cert.Merge.deviation (fun j => x2 (ix2 R j)) (Cert.Merge.inHead h.val d) := by
  pointwise [val_main_v9, y_at, mean_at]
  rfl

/-- and the deviations over their root mean square. -/
theorem standard_at (R : Fin 16384) (h : Fin 16) (d : Fin 64) :
    val_main_v23 (F := Ideal) x2 (ix3 R h d) = Cert.Merge.standard (fun j => x2 (ix2 R j)) (Cert.Merge.inHead h.val d) := by
  have a : val_main_v11 (F := Ideal) x2 = val_main_v9 (F := Ideal) x2 := rfl
  have b : val_main_v18 (F := Ideal) x2 = val_main_v9 (F := Ideal) x2 := rfl
  unfold Cert.Merge.standard Cert.Merge.mean
  rw [headSum_inHead]
  unfold val_main_v23
  rw [b]
  pointwise [val_main_v22, val_main_v21, val_main_v20, val_main_v19, val_main_v16, val_main_v15, val_main_v14, val_main_v13,
    val_main_v12, a, val_main_cst_1, val_main_cst_2, val_main_cst_3, deviation_at]

/-- The bonus. -/
theorem bonus_at (R : Fin 16384) (h : Fin 16) (d : Fin 64) :
    val_main_v38 (F := Ideal) x3 x4 x5 x10 (ix3 R h d)
      = Cert.Merge.headSum (fun j => x3 (ix2 R j) * x4 (ix2 R j) * x10 (ix2 ⟨j.val / 64, by have := j.isLt; omega⟩ ⟨j.val % 64, by omega⟩))
          (Cert.Merge.inHead h.val d) * x5 (ix2 R (Cert.Merge.inHead h.val d)) := by
  have e : ∀ k : Fin 64, (ix2 ⟨(Cert.Merge.inHead h.val k).val / 64, by have := (Cert.Merge.inHead h.val k).isLt; omega⟩
      ⟨(Cert.Merge.inHead h.val k).val % 64, by omega⟩ : S16x64.Idx) = ix2 h k := by
    intro k
    have hh := h.isLt
    have hk := k.isLt
    have h1 : (⟨(Cert.Merge.inHead h.val k).val / 64, by have := (Cert.Merge.inHead h.val k).isLt; omega⟩ : Fin 16) = h :=
      Fin.ext (by show (64 * h.val + k.val) % 1024 / 64 = h.val; omega)
    have h2 : (⟨(Cert.Merge.inHead h.val k).val % 64, by omega⟩ : Fin 64) = k :=
      Fin.ext (by show (64 * h.val + k.val) % 1024 % 64 = k.val; omega)
    rw [h1, h2]
  rw [headSum_inHead]
  simp only [e]
  pointwise [val_main_v38, val_main_v37, val_main_v36, val_main_v35, val_main_v34, val_main_v33, val_main_v32, val_main_v31,
    val_main_cst_4, r_at, k_at, v_at]

/-- The recurrence's gated output. -/
theorem gated_at (R : Fin 16384) (e : Fin 1024) :
    val_main_v41 (F := Ideal) x2 x3 x4 x5 x6 x8 x9 x10 (ix2 R e)
      = Cert.Merge.gated (fun j => x2 (ix2 R j)) (fun j => x3 (ix2 R j)) (fun j => x4 (ix2 R j)) (fun j => x5 (ix2 R j))
          (fun j => x6 (ix2 R j)) (fun j => x8 (ix1 j)) (fun j => x9 (ix1 j))
          (fun j => x10 (ix2 ⟨j.val / 64, by have := j.isLt; omega⟩ ⟨j.val % 64, by omega⟩)) e := by
  have s : val_main_v24 (F := Ideal) x2 (ix2 R e) = Cert.Merge.standard (fun j => x2 (ix2 R j)) e := by
    refine (join_at _ R e).trans ((standard_at x2 R _ _).trans ?_)
    rw [inHead_self]
  have b := (join_at (val_main_v38 (F := Ideal) x3 x4 x5 x10) R e).trans (bonus_at x3 x4 x5 x10 R _ _)
  rw [inHead_self] at b
  unfold val_main_v41 val_main_v40 val_main_v30 val_main_v27 val_main_v39
  generalize val_main_v24 (F := Ideal) x2 = p at s ⊢
  generalize shapeCast S16384x1024 (val_main_v38 (F := Ideal) x3 x4 x5 x10) shapeCasts_S16384x16x64_S16384x1024 = q at b ⊢
  pointwise [val_main_v29, val_main_v28, val_main_v26, val_main_v25]
  rw [s, b]
  rfl

/-- The gates' columns. -/
def gateSb (R : Fin 16384) (n : Fin 2048) : EReal := x7 (ix2 R ⟨6144 + n.val, by have := n.isLt; omega⟩)
def gateRw (R : Fin 16384) (n : Fin 2048) : EReal := x7 (ix2 R ⟨8192 + n.val, by have := n.isLt; omega⟩)

theorem gateSb_at (R : Fin 16384) (n : Fin 2048) : val_main_v43 (F := Ideal) x7 (ix2 R n) = gateSb x7 R n := by
  pointwise [val_main_v43]
  rfl

theorem gateRw_at (R : Fin 16384) (n : Fin 2048) : val_main_v44 (F := Ideal) x7 (ix2 R n) = gateRw x7 R n := by
  pointwise [val_main_v44]
  rfl

/-- The result. -/
theorem merged_at (R : Fin 16384) (n : Fin 2048) :
    val_main_v60 (F := Ideal) x1 x2 x3 x4 x5 x6 x7 x8 x9 x10 x11 x12 (ix2 R n)
      = Cert.Merge.merged (gateSb x7 R) (gateRw x7 R) (fun j => x1 (ix2 R j))
          (fun e => val_main_v41 (F := Ideal) x2 x3 x4 x5 x6 x8 x9 x10 (ix2 R e))
          (fun e j => x11 (ix2 e j)) (fun e j => x12 (ix2 e j)) n := by
  unfold val_main_v60 val_main_v59 val_main_v52 val_main_v42 val_main_v51
  generalize val_main_v41 (F := Ideal) x2 x3 x4 x5 x6 x8 x9 x10 = z
  pointwise [val_main_v58, val_main_v57, val_main_v56, val_main_v55, val_main_v54, val_main_v53, val_main_v50, val_main_v49,
    val_main_v48, val_main_v47, val_main_v46, val_main_v45, val_main_cst_5, val_main_cst_6, val_main_cst_7, val_main_cst_8,
    gateSb_at, gateRw_at]
  rfl

theorem result_at (R : Fin 16384) (n : Fin 2048) :
    val_main_v62 (F := Ideal) x0 x1 x2 x3 x4 x5 x6 x7 x8 x9 x10 x11 x12 x13 (ix2 R n)
      = Cert.Merge.layer (fun j => x0 (ix2 R j)) (gateSb x7 R) (gateRw x7 R) (fun j => x1 (ix2 R j))
          (Cert.Merge.gated (fun j => x2 (ix2 R j)) (fun j => x3 (ix2 R j)) (fun j => x4 (ix2 R j)) (fun j => x5 (ix2 R j))
            (fun j => x6 (ix2 R j)) (fun j => x8 (ix1 j)) (fun j => x9 (ix1 j))
            (fun j => x10 (ix2 ⟨j.val / 64, by have := j.isLt; omega⟩ ⟨j.val % 64, by omega⟩)))
          (fun e j => x11 (ix2 e j)) (fun e j => x12 (ix2 e j)) (fun j o => x13 (ix2 j o)) n := by
  have h : ∀ j, val_main_v60 (F := Ideal) x1 x2 x3 x4 x5 x6 x7 x8 x9 x10 x11 x12 (ix2 R j) = _ := merged_at x1 x2 x3 x4 x5 x6 x7 x8 x9 x10 x11 x12 R
  simp only [gated_at] at h
  unfold val_main_v62 val_main_v61
  generalize val_main_v60 (F := Ideal) x1 x2 x3 x4 x5 x6 x7 x8 x9 x10 x11 x12 = z at h ⊢
  pointwise [h]
  rfl

end Cert.Reference4Ideal.Merge

end
-- ==== Proof.MergeClaim.lean ====
/-
  The merge and output projection claim: run from memories that agree on the arguments, finite in the recurrence's rows, the
  receptances, the keys and the bonus's weights, the kernel and the reference end with the same result array and leave the
  arguments as they were.
-/
module

public import proofs.«01_k».proof.Defs
public import proofs.«01_k».proof.Proof.MergeValue
public import proofs.«01_k».proof.Proof.MergeReference
public import proofs.«01_k».proof.Proof.SbClaim
public import proofs.«01_k».proof.Proof.Gen.Kernel4Ideal
public import proofs.«01_k».proof.Proof.Gen.Reference4Ideal
public import proofs.«01_k».proof.Proof.Gen.Reference4Ideal.Run

@[expose] public section

noncomputable section

open Idealize.ShloMosaic Idealize.ShloMosaic.TcCoe Idealize.SL.Sem

namespace Cert.MergeClaim

/-- The side conditions the precondition's function takes. -/
theorem pre_facts : Cert.Pre_finite_mixer.Facts where
  bcast_S_S16384x1024 := by decide
  bcast_S_S16x64 := by decide

variable (m : (ℓ : Loc Cert.Kernel4Ideal.nD Cert.Kernel4Ideal.τ Cert.Kernel4Ideal.sig) → Buf (Elt Ideal) ℓ) (c : Dev Cert.Kernel4Ideal.nD)

/-- The precondition, read at an entry. -/
theorem finite (h : Cert.Pre_Kernel4Ideal_finite_mixer (hPre_finite_mixer := pre_facts) m) : Cert.Kernel4Ideal.Merge.Finite m c := by
  obtain ⟨h1, h2, h3, h4⟩ := h c
  refine ⟨fun R e => ?_, fun R e => ?_, fun R e => ?_, fun a d => ?_⟩
  · have z := congrFun h1 (ix2 R e)
    unfold Cert.Pre_finite_mixer.fn at z
    pointwise at z
    exact Cert.Mix.real_of (Cert.SbClaim.finite_of _ z)
  · have z := congrFun h2 (ix2 R e)
    unfold Cert.Pre_finite_mixer.fn at z
    pointwise at z
    exact Cert.Mix.real_of (Cert.SbClaim.finite_of _ z)
  · have z := congrFun h3 (ix2 R e)
    unfold Cert.Pre_finite_mixer.fn at z
    pointwise at z
    exact Cert.Mix.real_of (Cert.SbClaim.finite_of _ z)
  · have z := congrFun h4 (ix2 a d)
    unfold Cert.Pre_finite_mixer.fn at z
    pointwise at z
    exact Cert.Mix.real_of (Cert.SbClaim.finite_of _ z)

/-- The two result arrays are one. -/
theorem result_eq (h : Cert.Pre_Kernel4Ideal_finite_mixer (hPre_finite_mixer := pre_facts) m) :
    (Cert.Reference4Ideal.Read.val_main_v62 (F := Ideal)
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4))
      (m ((c.tc : Thread Cert.Kernel4Ideal.nD Cert.Kernel4Ideal.τ).loc Cert.Kernel4Ideal.main_arg5))
      (m ((c.tc : Thread Cert.Kernel4Ideal.nD Cert.Kernel4Ideal.τ).loc Cert.Kernel4Ideal.main_arg6))
      (m ((c.tc : Thread Cert.Kernel4Ideal.nD Cert.Kernel4Ideal.τ).loc Cert.Kernel4Ideal.main_arg7))
      (m ((c.tc : Thread Cert.Kernel4Ideal.nD Cert.Kernel4Ideal.τ).loc Cert.Kernel4Ideal.main_arg8))
      (m ((c.tc : Thread Cert.Kernel4Ideal.nD Cert.Kernel4Ideal.τ).loc Cert.Kernel4Ideal.main_arg9))
      (m ((c.tc : Thread Cert.Kernel4Ideal.nD Cert.Kernel4Ideal.τ).loc Cert.Kernel4Ideal.main_arg10))
      (m ((c.tc : Thread Cert.Kernel4Ideal.nD Cert.Kernel4Ideal.τ).loc Cert.Kernel4Ideal.main_arg11))
      (m ((c.tc : Thread Cert.Kernel4Ideal.nD Cert.Kernel4Ideal.τ).loc Cert.Kernel4Ideal.main_arg12))
      (m ((c.tc : Thread Cert.Kernel4Ideal.nD Cert.Kernel4Ideal.τ).loc Cert.Kernel4Ideal.main_arg13)))
      = (Cert.Kernel4Ideal.Gen.dats (F := Ideal) m 0 c).arrAt 16 Cert.Kernel4Ideal.cfg0.N := by
  have hf := finite m c h
  funext j
  obtain ⟨R, n, rfl⟩ : ∃ (R : Fin 16384) (n : Fin 2048), j = ix2 R n := ⟨j 0, j 1, eq_ix2 j⟩
  rw [Cert.Reference4Ideal.Merge.result_at]
  exact (Cert.Kernel4Ideal.Merge.result_at m c hf R n).symm

/-- The value claim. -/
theorem algebraic : Cert.algebraic_Kernel4Ideal_Reference4Ideal_pre_finite_mixer
    (hKernel4Ideal := Cert.Kernel4Ideal.Gen.facts) (hReference4Ideal := Cert.Reference4Ideal.Gen.facts) (hPre_finite_mixer := pre_facts) := by
  intro m ρ m' ρ' hpre hagree
  refine ⟨fun c => (Cert.Kernel4Ideal.Gen.dats (F := Ideal) m 0 c).arrAt 16 Cert.Kernel4Ideal.cfg0.N, Cert.Kernel4Ideal.Value.run_blocks m ρ, ?_⟩
  refine (θ_run _ _ _).mono (fun r h c => ?_) (Cert.Reference4Ideal.Value.run (F := Ideal) m' ρ')
  obtain ⟨h0, h1, h2, h3, h4, h5, h6, h7, h8, h9, h10, h11, h12, h13⟩ := hagree c
  refine ⟨(h c).1.trans ?_, (h c).2⟩
  refine (Cert.Reference4Ideal.Read.val_main_v62_eq m' c).trans ?_
  rw [h0, h1, h2, h3, h4, h5, h6, h7, h8, h9, h10, h11, h12, h13]
  exact result_eq m c hpre

end Cert.MergeClaim

end
-- ==== Proof.PrepPoint.lean ====
/-
  The recurrence preparation kernel's point, read: what its frame leaves in each of its seven output blocks, as the
  body's payloads over the point's input blocks.
-/
module

public import proofs.«01_k».proof.Proof.Gen.Kernel5Ideal.Value
public import Idealize.ShloMosaic.Lib.ValueIdx
public import Idealize.ShloMosaic.Lib.Pointwise
public import Idealize.ShloMosaic.Lib.Pipeline.Value
public import Idealize.ShloMosaic.Lib.Pipeline.ReadBack
public import Idealize.ShloMosaic.Lib.Tactic

@[expose] public section

set_option maxHeartbeats 1000000

noncomputable section

open Idealize.ShloMosaic Idealize.ShloMosaic.TcCoe Idealize.SL.Sem

namespace Cert.Kernel5Ideal.Prep

open Cert.Kernel5Ideal Cert.Kernel5Ideal.Gen

variable {F : FTy → Type} [FloatOps F]

theorem hz : (![0, 0] : Fin 2 → Nat) = fun _ => 0 := funext fun a => by fin_cases a <;> rfl

theorem hz3 : (![0, 0, 0] : Fin 3 → Nat) = fun _ => 0 := funext fun a => by fin_cases a <;> rfl

/-- The 1024 columns of a row from column `o` on. -/
def rowCut (o : Nat) (ho : o + 1024 ≤ 3072) (w : Vec F S1x3072 .f32) : Vec F S1x1024 .f32 :=
  fun j => w (ix2 (0 : Fin 1) ⟨o + (j 1).val, Nat.lt_of_lt_of_le (Nat.add_lt_add_left (j 1).isLt o) ho⟩)

/-- The 1024 columns of a block of 64 rows from column `o` on. -/
def blockCut (o : Nat) (ho : o + 1024 ≤ 3072) (w : Vec F S1x64x3072 .f32) : Vec F S1x64x1024 .f32 :=
  fun j => w (ix3 (0 : Fin 1) (j 1) ⟨o + (j 2).val, Nat.lt_of_lt_of_le (Nat.add_lt_add_left (j 2).isLt o) ho⟩)

/-- A load of 1024 columns of a row is that cut of it. -/
theorem ld_row (o : Nat) (inb : ∀ a, (![0, o] : Fin 2 → Nat) a + (![1, 1024] : Fin 2 → Nat) a ≤ S1x3072.size a) (w : Vec F S1x3072 .f32) :
    View.ld w (Rect.unit (s := S1x3072) ![0, o] ![1, 1024] inb) = rowCut o (inb 1) w := by
  funext j
  show w ((Rect.unit (s := S1x3072) ![0, o] ![1, 1024] inb).emb j) = _
  refine congrArg w (funext fun a => ?_)
  apply Fin.ext
  rw [Rect.emb_apply]
  fin_cases a
  · have := (j 0).isLt; simp [Rect.unit] at this ⊢; omega
  · simp [Rect.unit]

/-- A load of 1024 columns of a block is that cut of it. -/
theorem ld_block (o : Nat) (inb : ∀ a, (![0, 0, o] : Fin 3 → Nat) a + (![1, 64, 1024] : Fin 3 → Nat) a ≤ S1x64x3072.size a) (w : Vec F S1x64x3072 .f32) :
    View.ld w (Rect.unit (s := S1x64x3072) ![0, 0, o] ![1, 64, 1024] inb) = blockCut o (inb 2) w := by
  funext j
  show w ((Rect.unit (s := S1x64x3072) ![0, 0, o] ![1, 64, 1024] inb).emb j) = _
  refine congrArg w (funext fun a => ?_)
  apply Fin.ext
  rw [Rect.emb_apply]
  fin_cases a
  · have := (j 0).isLt; simp [Rect.unit] at this ⊢; omega
  · simp [Rect.unit]
  · simp [Rect.unit]

/-- A load of 1024 columns of the carried row, right after the whole row was stored, is that cut of what was stored. -/
theorem read_row {κ : Kind} {sp : Space} (v : View sig κ sp S8x3072 .f32) (o : Nat)
    (inb : ∀ a, (![0, 0] : Fin 2 → Nat) a + (![1, 3072] : Fin 2 → Nat) a ≤ S8x3072.size a) (w : Vec F S1x3072 .f32)
    (inb' : ∀ a, (![0, o] : Fin 2 → Nat) a + (![1, 1024] : Fin 2 → Nat) a ≤ S8x3072.size a) :
    v.readCov [(⟨Rect.unit (s := S8x3072) ![0, 0] ![1, 3072] inb, w⟩ : View.Piece (Elt F) S8x3072 .f32)]
      (Rect.unit (s := S8x3072) ![0, o] ![1, 1024] inb').toLoadRect = rowCut o (inb' 1) w := by
  rw [View.readCov_eq_canon']
  funext j
  have e : (Rect.unit (s := S8x3072) ![0, o] ![1, 1024] inb').toLoadRect.idx j
      = (Rect.unit (s := S8x3072) ![0, 0] ![1, 3072] inb).emb
        (ix2 (0 : Fin 1) ⟨o + (j 1).val, Nat.lt_of_lt_of_le (Nat.add_lt_add_left (j 1).isLt o) (inb' 1)⟩) := by
    show (Rect.unit (s := S8x3072) ![0, o] ![1, 1024] inb').emb j = _
    refine funext fun a => Fin.ext ?_
    rw [Rect.emb_apply, Rect.emb_apply]
    fin_cases a
    · have := (j 0).isLt; simp [Rect.unit] at this ⊢; omega
    · simp [Rect.unit]
  rw [e]
  exact View.canon_cons_emb (Rect.unit (s := S8x3072) ![0, 0] ![1, 3072] inb) w [] _

/-- The token mix of the 1024 columns from `o` on. -/
def mixed (o : Nat) (ho : o + 1024 ≤ 3072) (x0 : Vec F S1x64x3072 .f32) (x2 : Vec F S1x1x3072 .f32) (x4 : Vec F S1x3072 .f32) :
    FVec F S64x1024 .f32 :=
  k0_pay18 (blockCut o ho x0) (rowCut o ho (k0_pay2 x2)) (rowCut o ho x4)

/-- The token mix of the low rank inputs. -/
def lora (x1 : Vec F S1x64x512 .f32) (x3 : Vec F S1x1x512 .f32) (x5 : Vec F S1x512 .f32) : FVec F S64x512 .f32 :=
  k0_pay5 x1 (k0_pay3 x3) x5

section Point
variable (c : Dev nD) (i : grid0.Coords)
  (a2 : Memref sig .tc .vmem S1x64x3072 .f32) (h2 : a2.IsWhole) (a3 : Memref sig .tc .vmem S1x64x512 .f32) (h3 : a3.IsWhole)
  (a4 : Memref sig .tc .vmem S1x1x3072 .f32) (h4 : a4.IsWhole) (a5 : Memref sig .tc .vmem S1x1x512 .f32) (h5 : a5.IsWhole)
  (a6 : Memref sig .tc .vmem S1x3072 .f32) (h6 : a6.IsWhole) (a7 : Memref sig .tc .vmem S1x512 .f32) (h7 : a7.IsWhole)
  (a8 : Memref sig .tc .vmem S1x1024 .f32) (h8 : a8.IsWhole) (a9 : Memref sig .tc .vmem S1x1024 .f32) (h9 : a9.IsWhole)
  (a10 : Memref sig .tc .vmem S1x1024 .f32) (h10 : a10.IsWhole) (a11 : Memref sig .tc .vmem S1x1024 .f32) (h11 : a11.IsWhole)
  (a12 : Memref sig .tc .vmem S512x1024 .bf16) (h12 : a12.IsWhole) (a13 : Memref sig .tc .vmem S512x1024 .bf16) (h13 : a13.IsWhole)
  (a14 : Memref sig .tc .vmem S512x1024 .bf16) (h14 : a14.IsWhole) (a15 : Memref sig .tc .vmem S1024x128 .bf16) (h15 : a15.IsWhole)
  (a16 : Memref sig .tc .vmem S1x64x1024 .f32) (h16 : a16.IsWhole) (a17 : Memref sig .tc .vmem S1x64x1024 .f32) (h17 : a17.IsWhole)
  (a18 : Memref sig .tc .vmem S1x64x1024 .f32) (h18 : a18.IsWhole) (a19 : Memref sig .tc .vmem S1x64x1024 .f32) (h19 : a19.IsWhole)
  (a20 : Memref sig .tc .vmem S1x64x1024 .f32) (h20 : a20.IsWhole) (a21 : Memref sig .tc .vmem S1x64x1024 .f32) (h21 : a21.IsWhole)
  (a22 : Memref sig .tc .vmem S1x64x1024 .f32) (h22 : a22.IsWhole) (a23 : Memref sig .tc .vmem S8x3072 .f32) (h23 : a23.IsWhole)
  (a24 : Memref sig .tc .vmem S8x512 .f32) (h24 : a24.IsWhole)
  (x0 : Vec F S1x64x3072 .f32) (x1 : Vec F S1x64x512 .f32) (x2 : Vec F S1x1x3072 .f32) (x3 : Vec F S1x1x512 .f32)
  (x4 : Vec F S1x3072 .f32) (x5 : Vec F S1x512 .f32) (x6 x7 x8 x9 : Vec F S1x1024 .f32) (x10 x11 x12 : Vec F S512x1024 .bf16)
  (x13 : Vec F S1024x128 .bf16)

/-- The reception vectors a point writes. -/
theorem out_14 (hc0 : cond0_0 i) :
    out0_A_14 c i a2 h2 a3 h3 a4 h4 a5 h5 a6 h6 a7 h7 a8 h8 a9 h9 a10 h10 a11 h11 a12 h12 a13 h13
      a14 h14 a15 h15 a16 h16 a17 h17 a18 h18 a19 h19 a20 h20 a21 h21 a22 h22 a23 h23 a24 h24 hc0
      x0 x1 x2 x3 x4 x5 x6 x7 x8 x9 x10 x11 x12 x13
      = k0_pay1 (mixed 0 (by norm_num) x0 x2 x4) := by
  unfold out0_A_14
  rw [View.read_writes_eq_canon]
  · unfold kernelRun0_A
    dsimp only
    sl_unfold_words
    rw [View.canon_unit_zero hz3]
    simp (disch := decide) only [↓ View.readCov_skip, ↓ View.readCov_cons_toLoadRect, View.readAt_eq_ld, h2.read_unread, h3.read_unread, h4.read_unread, h5.read_unread, h6.read_unread, h7.read_unread, h8.read_unread, h9.read_unread, h10.read_unread, h11.read_unread, h12.read_unread, h13.read_unread, h14.read_unread, h15.read_unread,
      View.ld_unit_zero (S := S1x64x512) hz3, View.ld_unit_zero (S := S1x1x3072) hz3, View.ld_unit_zero (S := S1x1x512) hz3,
      View.ld_unit_zero (S := S1x512) hz, View.ld_unit_zero (S := S1x1024) hz, View.ld_unit_zero (S := S512x1024) hz,
      View.ld_unit_zero (S := S1024x128) hz, ld_row, ld_block]
    rw [read_row (F := F) a23.view 0]
    rfl
  · apply cover0_A_14

/-- The decays a point writes. -/
theorem out_15 (hc0 : cond0_0 i) :
    out0_A_15 c i a2 h2 a3 h3 a4 h4 a5 h5 a6 h6 a7 h7 a8 h8 a9 h9 a10 h10 a11 h11 a12 h12 a13 h13
      a14 h14 a15 h15 a16 h16 a17 h17 a18 h18 a19 h19 a20 h20 a21 h21 a22 h22 a23 h23 a24 h24 hc0
      x0 x1 x2 x3 x4 x5 x6 x7 x8 x9 x10 x11 x12 x13
      = k0_pay21 (k0_pay20 (lora x1 x3 x5) x6 x10) := by
  unfold out0_A_15
  rw [View.read_writes_eq_canon]
  · unfold kernelRun0_A
    dsimp only
    sl_unfold_words
    rw [View.canon_unit_zero hz3]
    simp (disch := decide) only [↓ View.readCov_skip, ↓ View.readCov_cons_toLoadRect, View.readAt_eq_ld, h2.read_unread, h3.read_unread, h4.read_unread, h5.read_unread, h6.read_unread, h7.read_unread, h8.read_unread, h9.read_unread, h10.read_unread, h11.read_unread, h12.read_unread, h13.read_unread, h14.read_unread, h15.read_unread,
      View.ld_unit_zero (S := S1x64x512) hz3, View.ld_unit_zero (S := S1x1x3072) hz3, View.ld_unit_zero (S := S1x1x512) hz3,
      View.ld_unit_zero (S := S1x512) hz, View.ld_unit_zero (S := S1x1024) hz, View.ld_unit_zero (S := S512x1024) hz,
      View.ld_unit_zero (S := S1024x128) hz, ld_row, ld_block]
    rfl
  · apply cover0_A_15

/-- The keys a point writes. -/
theorem out_16 (hc0 : cond0_0 i) :
    out0_A_16 c i a2 h2 a3 h3 a4 h4 a5 h5 a6 h6 a7 h7 a8 h8 a9 h9 a10 h10 a11 h11 a12 h12 a13 h13
      a14 h14 a15 h15 a16 h16 a17 h17 a18 h18 a19 h19 a20 h20 a21 h21 a22 h22 a23 h23 a24 h24 hc0
      x0 x1 x2 x3 x4 x5 x6 x7 x8 x9 x10 x11 x12 x13
      = k0_pay27 (mixed 1024 (by norm_num) x0 x2 x4) (k0_pay25 (lora x1 x3 x5) x7 x11) (k0_pay26 x9) := by
  unfold out0_A_16
  rw [View.read_writes_eq_canon]
  · unfold kernelRun0_A
    dsimp only
    sl_unfold_words
    rw [View.canon_unit_zero hz3]
    simp (disch := decide) only [↓ View.readCov_skip, ↓ View.readCov_cons_toLoadRect, View.readAt_eq_ld, h2.read_unread, h3.read_unread, h4.read_unread, h5.read_unread, h6.read_unread, h7.read_unread, h8.read_unread, h9.read_unread, h10.read_unread, h11.read_unread, h12.read_unread, h13.read_unread, h14.read_unread, h15.read_unread,
      View.ld_unit_zero (S := S1x64x512) hz3, View.ld_unit_zero (S := S1x1x3072) hz3, View.ld_unit_zero (S := S1x1x512) hz3,
      View.ld_unit_zero (S := S1x512) hz, View.ld_unit_zero (S := S1x1024) hz, View.ld_unit_zero (S := S512x1024) hz,
      View.ld_unit_zero (S := S1024x128) hz, ld_row, ld_block]
    rw [read_row (F := F) a23.view 1024]
    rfl
  · apply cover0_A_16

/-- The values a point writes. -/
theorem out_17 (hc0 : cond0_0 i) :
    out0_A_17 c i a2 h2 a3 h3 a4 h4 a5 h5 a6 h6 a7 h7 a8 h8 a9 h9 a10 h10 a11 h11 a12 h12 a13 h13
      a14 h14 a15 h15 a16 h16 a17 h17 a18 h18 a19 h19 a20 h20 a21 h21 a22 h22 a23 h23 a24 h24 hc0
      x0 x1 x2 x3 x4 x5 x6 x7 x8 x9 x10 x11 x12 x13
      = k0_pay1 (mixed 2048 (by norm_num) x0 x2 x4) := by
  unfold out0_A_17
  rw [View.read_writes_eq_canon]
  · unfold kernelRun0_A
    dsimp only
    sl_unfold_words
    rw [View.canon_unit_zero hz3]
    simp (disch := decide) only [↓ View.readCov_skip, ↓ View.readCov_cons_toLoadRect, View.readAt_eq_ld, h2.read_unread, h3.read_unread, h4.read_unread, h5.read_unread, h6.read_unread, h7.read_unread, h8.read_unread, h9.read_unread, h10.read_unread, h11.read_unread, h12.read_unread, h13.read_unread, h14.read_unread, h15.read_unread,
      View.ld_unit_zero (S := S1x64x512) hz3, View.ld_unit_zero (S := S1x1x3072) hz3, View.ld_unit_zero (S := S1x1x512) hz3,
      View.ld_unit_zero (S := S1x512) hz, View.ld_unit_zero (S := S1x1024) hz, View.ld_unit_zero (S := S512x1024) hz,
      View.ld_unit_zero (S := S1024x128) hz, ld_row, ld_block]
    rw [read_row (F := F) a23.view 2048]
    rfl
  · apply cover0_A_17

/-- The negated unit keys a point writes. -/
theorem out_18 (hc0 : cond0_0 i) :
    out0_A_18 c i a2 h2 a3 h3 a4 h4 a5 h5 a6 h6 a7 h7 a8 h8 a9 h9 a10 h10 a11 h11 a12 h12 a13 h13
      a14 h14 a15 h15 a16 h16 a17 h17 a18 h18 a19 h19 a20 h20 a21 h21 a22 h22 a23 h23 a24 h24 hc0
      x0 x1 x2 x3 x4 x5 x6 x7 x8 x9 x10 x11 x12 x13
      = k0_pay29 (k0_pay24 (mixed 1024 (by norm_num) x0 x2 x4) x8) x13 := by
  unfold out0_A_18
  rw [View.read_writes_eq_canon]
  · unfold kernelRun0_A
    dsimp only
    sl_unfold_words
    rw [View.canon_unit_zero hz3]
    simp (disch := decide) only [↓ View.readCov_skip, ↓ View.readCov_cons_toLoadRect, View.readAt_eq_ld, h2.read_unread, h3.read_unread, h4.read_unread, h5.read_unread, h6.read_unread, h7.read_unread, h8.read_unread, h9.read_unread, h10.read_unread, h11.read_unread, h12.read_unread, h13.read_unread, h14.read_unread, h15.read_unread,
      View.ld_unit_zero (S := S1x64x512) hz3, View.ld_unit_zero (S := S1x1x3072) hz3, View.ld_unit_zero (S := S1x1x512) hz3,
      View.ld_unit_zero (S := S1x512) hz, View.ld_unit_zero (S := S1x1024) hz, View.ld_unit_zero (S := S512x1024) hz,
      View.ld_unit_zero (S := S1024x128) hz, ld_row, ld_block]
    rw [read_row (F := F) a23.view 1024]
    rfl
  · apply cover0_A_18

/-- The weighted unit keys a point writes. -/
theorem out_19 (hc0 : cond0_0 i) :
    out0_A_19 c i a2 h2 a3 h3 a4 h4 a5 h5 a6 h6 a7 h7 a8 h8 a9 h9 a10 h10 a11 h11 a12 h12 a13 h13
      a14 h14 a15 h15 a16 h16 a17 h17 a18 h18 a19 h19 a20 h20 a21 h21 a22 h22 a23 h23 a24 h24 hc0
      x0 x1 x2 x3 x4 x5 x6 x7 x8 x9 x10 x11 x12 x13
      = k0_pay1 (k0_pay30 (k0_pay22 (lora x1 x3 x5) x7 x11) (k0_pay24 (mixed 1024 (by norm_num) x0 x2 x4) x8) x13) := by
  unfold out0_A_19
  rw [View.read_writes_eq_canon]
  · unfold kernelRun0_A
    dsimp only
    sl_unfold_words
    rw [View.canon_unit_zero hz3]
    simp (disch := decide) only [↓ View.readCov_skip, ↓ View.readCov_cons_toLoadRect, View.readAt_eq_ld, h2.read_unread, h3.read_unread, h4.read_unread, h5.read_unread, h6.read_unread, h7.read_unread, h8.read_unread, h9.read_unread, h10.read_unread, h11.read_unread, h12.read_unread, h13.read_unread, h14.read_unread, h15.read_unread,
      View.ld_unit_zero (S := S1x64x512) hz3, View.ld_unit_zero (S := S1x1x3072) hz3, View.ld_unit_zero (S := S1x1x512) hz3,
      View.ld_unit_zero (S := S1x512) hz, View.ld_unit_zero (S := S1x1024) hz, View.ld_unit_zero (S := S512x1024) hz,
      View.ld_unit_zero (S := S1024x128) hz, ld_row, ld_block]
    rw [read_row (F := F) a23.view 1024]
    rfl
  · apply cover0_A_19

/-- The gates a point writes. -/
theorem out_20 (hc0 : cond0_0 i) :
    out0_A_20 c i a2 h2 a3 h3 a4 h4 a5 h5 a6 h6 a7 h7 a8 h8 a9 h9 a10 h10 a11 h11 a12 h12 a13 h13
      a14 h14 a15 h15 a16 h16 a17 h17 a18 h18 a19 h19 a20 h20 a21 h21 a22 h22 a23 h23 a24 h24 hc0
      x0 x1 x2 x3 x4 x5 x6 x7 x8 x9 x10 x11 x12 x13
      = k0_pay23 (lora x1 x3 x5) x12 := by
  unfold out0_A_20
  rw [View.read_writes_eq_canon]
  · unfold kernelRun0_A
    dsimp only
    sl_unfold_words
    rw [View.canon_unit_zero hz3]
    simp (disch := decide) only [↓ View.readCov_skip, ↓ View.readCov_cons_toLoadRect, View.readAt_eq_ld, h2.read_unread, h3.read_unread, h4.read_unread, h5.read_unread, h6.read_unread, h7.read_unread, h8.read_unread, h9.read_unread, h10.read_unread, h11.read_unread, h12.read_unread, h13.read_unread, h14.read_unread, h15.read_unread,
      View.ld_unit_zero (S := S1x64x512) hz3, View.ld_unit_zero (S := S1x1x3072) hz3, View.ld_unit_zero (S := S1x1x512) hz3,
      View.ld_unit_zero (S := S1x512) hz, View.ld_unit_zero (S := S1x1024) hz, View.ld_unit_zero (S := S512x1024) hz,
      View.ld_unit_zero (S := S1024x128) hz, ld_row, ld_block]
    rfl
  · apply cover0_A_20

end Point

end Cert.Kernel5Ideal.Prep

end
-- ==== Proof.PrepSpec.lean ====
/-
  The recurrence's preparation as plain functions of a row: the token mix, the decay, the two gates, the replaced key and the
  unit key. Both programs' results are these at every row.
-/
module

public import proofs.«01_k».proof.Proof.MergeSpec

@[expose] public section

noncomputable section

open Idealize.ShloMosaic

namespace Cert.Prep

open Cert.Mix (Real')

/-- The row before row `r`: the carried one before row zero, the row above elsewhere. -/
def before {n : ℕ} (p : Fin 64 → Fin n → EReal) (s : Fin n → EReal) (r : Fin 64) (e : Fin n) : EReal :=
  if r.val = 0 then s e else p ⟨(r.val + 64 - 1) % 64, Nat.mod_lt _ (by decide)⟩ e

/-- The token mix: a row moved towards the one before it. -/
def mix {n : ℕ} (p : Fin 64 → Fin n → EReal) (s mu : Fin n → EReal) (r : Fin 64) (e : Fin n) : EReal :=
  p r e + (before p s r e - p r e) * mu e

/-- Column `o + e` of the 3520 mixed ones. -/
def col {n : ℕ} (o : ℕ) (e : Fin n) : Fin 3520 := ⟨(o + e.val) % 3520, Nat.mod_lt _ (by decide)⟩

/-- Column `j` of the mixed ones is this column of the projection. -/
def src (j : Fin 3520) : Fin 10752 := if h : j.val < 3072 then ⟨3072 + j.val, by omega⟩ else ⟨7168 + j.val, by have := j.isLt; omega⟩

theorem src_low {j : Fin 3520} (h : j.val < 3072) : (src j).val = 3072 + j.val := by
  unfold src
  split
  · rfl
  · contradiction

theorem src_high {j : Fin 3520} (h : ¬ j.val < 3072) : (src j).val = 7168 + j.val := by
  unfold src
  split
  · contradiction
  · rfl

/-- The softplus. -/
def softplus (x : EReal) : EReal := max x 0 + Ideal.log1p (Ideal.exp (-(max x (-x))))

/-- The logarithm of the decay's rate, negated, and its rate. -/
def rate (d : EReal) : EReal := -(Ideal.exp (-(softplus (-d)) - Ideal.ofBits .f32 0x3F000000#32))

/-- A low rank map of the mixed columns from `o` on, and added to a bias. -/
def lowRank {n : ℕ} (f : EReal → EReal) (o : ℕ) (x : Fin 3520 → EReal) (w : Fin n → Fin 1024 → EReal) (e : Fin 1024) : EReal :=
  ∑ l : Fin n, f (x (col o l)) * w l e

/-- The in-context rate. -/
def icl (x : Fin 3520 → EReal) (b : Fin 1024 → EReal) (w : Fin 96 → Fin 1024 → EReal) (e : Fin 1024) : EReal :=
  Ideal.logistic (b e + lowRank id 3168 x w e)

/-- The key, scaled by the in-context rate. -/
def scaledKey (k a g : EReal) : EReal := k * (1 + (a - 1) * g)

/-- The scaled key over its head's length. -/
def unit (k : Fin 1024 → EReal) (e : Fin 1024) : EReal :=
  Ideal.div (k e) (max (Ideal.sqrt (Cert.Merge.headSum (fun l => k l * k l) e)) (Ideal.ofBits .f32 0x2B8CBCCC#32))

/-- The rows of `w` among 512 rows, the others zero. -/
def padded {n : ℕ} (o : ℕ) (w : Fin n → Fin 1024 → EReal) (l : Fin 512) (e : Fin 1024) : EReal :=
  if h : o ≤ l.val ∧ l.val - o < n then w ⟨l.val - o, h.2⟩ e else 0

/-- A sum against the padded rows is the sum against the rows: the others add zeros, whatever they are multiplied by. -/
theorem padded_sum {n : ℕ} (o : ℕ) (ho : o + n ≤ 512) (f : Fin 512 → EReal) (w : Fin n → Fin 1024 → EReal) (e : Fin 1024) :
    ∑ l : Fin 512, f l * padded o w l e = ∑ l : Fin n, f ⟨o + l.val, by have := l.isLt; omega⟩ * w l e := by
  symm
  refine Fintype.sum_of_injective (fun l : Fin n => (⟨o + l.val, by have := l.isLt; omega⟩ : Fin 512)) (fun a b h => ?_) _ _ (fun l hl => ?_) (fun l => ?_)
  · have h := congrArg Fin.val h
    exact Fin.ext (Nat.add_left_cancel h)
  · have hn : ¬ (o ≤ l.val ∧ l.val - o < n) := fun q => hl ⟨⟨l.val - o, q.2⟩, Fin.ext (by show o + (l.val - o) = l.val; omega)⟩
    rw [padded, dif_neg hn, mul_zero]
  · have hl := l.isLt
    have hp : o ≤ o + l.val ∧ o + l.val - o < n := by omega
    rw [padded, dif_pos hp]
    congr 2
    exact Fin.ext (show l.val = o + l.val - o by omega)

/-- A finite mix. -/
theorem real_mix {n : ℕ} {p : Fin 64 → Fin n → EReal} {s mu : Fin n → EReal} {e : Fin n} (hp : ∀ r, Real' (p r e)) (hs : Real' (s e)) (hm : Real' (mu e))
    (r : Fin 64) : Real' (mix p s mu r e) := by
  have hb : Real' (before p s r e) := by
    unfold before
    split
    · exact hs
    · exact hp _
  obtain ⟨a, ha⟩ := hp r
  obtain ⟨b, hb⟩ := hb
  obtain ⟨c, hc⟩ := hm
  exact ⟨a + (b - a) * c, by rw [mix, ha, hb, hc]; norm_cast⟩

end Cert.Prep

end
-- ==== Proof.PrepRows.lean ====
/-
  The recurrence preparation kernel's payloads at an index.
-/
module

public import proofs.«01_k».proof.Proof.PrepPoint
public import proofs.«01_k».proof.Proof.PrepSpec
public import Idealize.ShloMosaic.Lib.Pointwise

@[expose] public section

noncomputable section

open Idealize.ShloMosaic Idealize.ShloMosaic.TcCoe Idealize.SL.Sem

namespace Cert.Kernel5Ideal.Prep

open Cert.Kernel5Ideal Cert.Kernel5Ideal.Gen
open Cert.Mix (Real')

/-- Row zero's choice. -/
theorem first_row (r : Fin 64) (a b : EReal) :
    Scalar.select (IntOp.cmpi .eq (BitVec.ofNat 32 r.val) 0#32) a b = if r.val = 0 then a else b := by
  have h : IntOp.cmpi .eq (BitVec.ofNat 32 r.val) 0#32 = if r.val = 0 then 1#1 else 0#1 := by
    revert r
    decide
  rw [h]
  by_cases g : r.val = 0
  · rw [if_pos g, if_pos g]
    rfl
  · rw [if_neg g, if_neg g]
    rfl

theorem mix_at (v : Vec Ideal S1x64x1024 .f32) (s mu : Vec Ideal S1x1024 .f32) (r : Fin 64) (e : Fin 1024) :
    k0_pay18 (F := Ideal) v s mu (ix2 r e)
      = Cert.Prep.mix (fun r e => v (ix3 0 r e)) (fun e => s (ix2 0 e)) (fun e => mu (ix2 0 e)) r e := by
  pointwise [k0_pay18, k0_pay17]
  rw [first_row]
  unfold Cert.Prep.mix Cert.Prep.before
  rfl

theorem mixLora_at (v : Vec Ideal S1x64x512 .f32) (s mu : Vec Ideal S1x512 .f32) (r : Fin 64) (e : Fin 512) :
    k0_pay5 (F := Ideal) v s mu (ix2 r e)
      = Cert.Prep.mix (fun r e => v (ix3 0 r e)) (fun e => s (ix2 0 e)) (fun e => mu (ix2 0 e)) r e := by
  pointwise [k0_pay5, k0_pay4]
  rw [first_row]
  unfold Cert.Prep.mix Cert.Prep.before
  rfl

theorem pay2_at (v : Vec Ideal S1x1x3072 .f32) (e : Fin 3072) : k0_pay2 (F := Ideal) v (ix2 0 e) = v (ix3 0 0 e) := by
  pointwise [k0_pay2]

theorem pay3_at (v : Vec Ideal S1x1x512 .f32) (e : Fin 512) : k0_pay3 (F := Ideal) v (ix2 0 e) = v (ix3 0 0 e) := by
  pointwise [k0_pay3]

theorem pay1_at (v : FVec Ideal S64x1024 .f32) (r : Fin 64) (e : Fin 1024) : k0_pay1 (F := Ideal) v (ix3 0 r e) = v (ix2 r e) := by
  pointwise [k0_pay1]

theorem pay20_at (l : FVec Ideal S64x512 .f32) (b : Vec Ideal S1x1024 .f32) (w : Vec Ideal S512x1024 .bf16) (r : Fin 64) (e : Fin 1024) :
    k0_pay20 (F := Ideal) l b w (ix2 r e)
      = Cert.Prep.softplus (-(b (ix2 0 e) + ∑ j, Ideal.tanh (l (ix2 r j)) * w (ix2 j e))) := by
  pointwise [k0_pay20]
  unfold Cert.Prep.softplus
  simp only [zero_sub]
  rfl

theorem pay21_at (v : FVec Ideal S64x1024 .f32) (r : Fin 64) (e : Fin 1024) :
    k0_pay21 (F := Ideal) v (ix3 0 r e) = -(Ideal.exp (-(v (ix2 r e)) - Ideal.ofBits .f32 0x3F000000#32)) := by
  pointwise [k0_pay21]
  simp only [zero_sub]

theorem pay22_at (l : FVec Ideal S64x512 .f32) (b : Vec Ideal S1x1024 .f32) (w : Vec Ideal S512x1024 .bf16) (r : Fin 64) (e : Fin 1024) :
    k0_pay22 (F := Ideal) l b w (ix2 r e) = Ideal.logistic (b (ix2 0 e) + ∑ j, l (ix2 r j) * w (ix2 j e)) := by
  pointwise [k0_pay22]

theorem pay23_at (l : FVec Ideal S64x512 .f32) (w : Vec Ideal S512x1024 .bf16) (r : Fin 64) (e : Fin 1024) :
    k0_pay23 (F := Ideal) l w (ix3 0 r e) = ∑ j, Ideal.logistic (l (ix2 r j)) * w (ix2 j e) := by
  pointwise [k0_pay23]

theorem pay24_at (k : FVec Ideal S64x1024 .f32) (w : Vec Ideal S1x1024 .f32) (r : Fin 64) (e : Fin 1024) :
    k0_pay24 (F := Ideal) k w (ix2 r e) = k (ix2 r e) * w (ix2 0 e) := by
  pointwise [k0_pay24]

theorem key_at (k a : FVec Ideal S64x1024 .f32) (g : Vec Ideal S1x1024 .f32) (r : Fin 64) (e : Fin 1024) :
    k0_pay27 (F := Ideal) k (subf a (broadcast S64x1024 (Scalar.ofBits (F := Ideal) .f32 0x3F800000#32))) (k0_pay26 (F := Ideal) g) (ix3 0 r e)
      = Cert.Prep.scaledKey (k (ix2 r e)) (a (ix2 r e)) (g (ix2 0 e)) := by
  pointwise [k0_pay27, k0_pay26]
  rfl

/-! ## The heads' lengths -/

/-- The sums over the heads, in two parts. -/
def lows (x : FVec Ideal S64x1024 .f32) (b : FVec Ideal S1024x128 .bf16) : FVec Ideal S64x128 .f32 :=
  addf (matmul dot_S64x1024_S1024x128_S64x128_1_0_0_1_n_n none (truncf .bf16 x bitsLt_bf16_f32) b (constant (F := Ideal) S64x128 .f32 0x00000000#32))
    (matmul dot_S64x1024_S1024x128_S64x128_1_0_0_1_n_n none
      (truncf .bf16 (subf x (extf .f32 (truncf .bf16 x bitsLt_bf16_f32 : FVec Ideal S64x1024 .bf16) bitsLt_bf16_f32)) bitsLt_bf16_f32) b
      (constant (F := Ideal) S64x128 .f32 0x00000000#32))

/-- And the heads' sums back on their columns. -/
def spreads (s : FVec Ideal S64x128 .f32) (b : FVec Ideal S1024x128 .bf16) : FVec Ideal S64x1024 .f32 :=
  addf (matmul dot_S64x128_S1024x128_S64x1024_1_1_0_0_n_n none (truncf .bf16 s bitsLt_bf16_f32) b (constant (F := Ideal) S64x1024 .f32 0x00000000#32))
    (matmul dot_S64x128_S1024x128_S64x1024_1_1_0_0_n_n none
      (truncf .bf16 (subf s (extf .f32 (truncf .bf16 s bitsLt_bf16_f32 : FVec Ideal S64x128 .bf16) bitsLt_bf16_f32)) bitsLt_bf16_f32) b
      (constant (F := Ideal) S64x1024 .f32 0x00000000#32))

/-- The matrix of heads as the body casts it. -/
def cast (b : Vec Ideal S1024x128 .bf16) : FVec Ideal S1024x128 .bf16 := shapeCast S1024x128 b shapeCasts_S1024x128_S1024x128

theorem cast_at (b : Vec Ideal S1024x128 .bf16) (l : Fin 1024) (h : Fin 128) : cast b (ix2 l h) = b (ix2 l h) := by
  pointwise [cast]

section Rows
variable (b : FVec Ideal S1024x128 .bf16) (hb : ∀ l h, b (ix2 l h) = Cert.Merge.member l h)
include hb

theorem lows_at (x : FVec Ideal S64x1024 .f32) (r : Fin 64) (h : Fin 128) :
    lows x b (ix2 r h) = Cert.Merge.low (fun l => x (ix2 r l)) h := by
  pointwise [lows, hb]
  rfl

theorem spreads_at (s : FVec Ideal S64x128 .f32) (r : Fin 64) (e : Fin 1024) :
    spreads s b (ix2 r e) = Cert.Merge.spread (fun h => s (ix2 r h)) e := by
  pointwise [spreads, hb]
  rfl

theorem sums_at (x : FVec Ideal S64x1024 .f32) (r : Fin 64) (e : Fin 1024) (hx : ∀ l, Real' (x (ix2 r l))) :
    spreads (lows x b) b (ix2 r e) = Cert.Merge.headSum (fun l => x (ix2 r l)) e := by
  rw [spreads_at b hb]
  simp only [lows_at b hb]
  exact Cert.Merge.spread_low hx e

end Rows

theorem pay28_eq (x : FVec Ideal S64x1024 .f32) (b : Vec Ideal S1024x128 .bf16) : k0_pay28 (F := Ideal) x b
    = divf x (maximumf (sqrt (spreads (lows (mulf x x) (cast b)) (cast b))) (broadcast S64x1024 (Scalar.ofBits (F := Ideal) .f32 0x2B8CBCCC#32))) := rfl

/-- The scaled keys over their heads' lengths. -/
theorem pay28_at (x : FVec Ideal S64x1024 .f32) (b : Vec Ideal S1024x128 .bf16) (hb : ∀ l h, b (ix2 l h) = Cert.Merge.member l h)
    (r : Fin 64) (e : Fin 1024) (hx : ∀ l, Real' (x (ix2 r l))) :
    k0_pay28 (F := Ideal) x b (ix2 r e) = Cert.Prep.unit (fun l => x (ix2 r l)) e := by
  have sq : ∀ l, mulf x x (ix2 r l) = x (ix2 r l) * x (ix2 r l) := fun l => rfl
  have h := sums_at (cast b) (fun l h => (cast_at b l h).trans (hb l h)) (mulf x x) r e (fun l => by rw [sq l]; exact (hx l).mul (hx l))
  simp only [sq] at h
  unfold Cert.Prep.unit
  rw [← h, pay28_eq]
  generalize spreads (lows (mulf x x) (cast b)) (cast b) = s
  pointwise

theorem pay29_at (x : FVec Ideal S64x1024 .f32) (b : Vec Ideal S1024x128 .bf16) (r : Fin 64) (e : Fin 1024) :
    k0_pay29 (F := Ideal) x b (ix3 0 r e) = -(k0_pay28 (F := Ideal) x b (ix2 r e)) := by
  unfold k0_pay29
  generalize k0_pay28 (F := Ideal) x b = u
  pointwise
  exact zero_sub _

theorem pay30_at (a x : FVec Ideal S64x1024 .f32) (b : Vec Ideal S1024x128 .bf16) (r : Fin 64) (e : Fin 1024) :
    k0_pay30 (F := Ideal) a x b (ix2 r e) = k0_pay28 (F := Ideal) x b (ix2 r e) * a (ix2 r e) := by
  unfold k0_pay30
  generalize k0_pay28 (F := Ideal) x b = u
  pointwise

end Cert.Kernel5Ideal.Prep

end
-- ==== Proof.PrepPad.lean ====
/-
  Rows set into a zero matrix, read at an entry.
-/
module

public import proofs.«01_k».proof.Proof.PrepSpec
public import Idealize.ShloMosaic.Lib.Routing.OpsSet
public import Idealize.ShloMosaic.Lib.Routing.OpsOne
public import Idealize.ShloMosaic.Lib.Pointwise

@[expose] public section

noncomputable section

open Idealize.ShloMosaic

namespace Cert.Prep

/-- The dimension numbers of setting `n` whole rows of a matrix of 512 rows at one start row. -/
def rowsDims (n : ℕ) (h : ScatterDims.WF (⟨2, ![512, 1024]⟩ : Shape) (⟨1, ![1]⟩ : Shape) (⟨2, ![n, 1024]⟩ : Shape) [0, 1] [] [0] 0) :
    ScatterDims (⟨2, ![512, 1024]⟩ : Shape) (⟨1, ![1]⟩ : Shape) (⟨2, ![n, 1024]⟩ : Shape) where
  updateWindowDims := [0, 1]
  insertedWindowDims := []
  scatterDimsToOperandDims := [0]
  indexVectorDim := 0
  wf := h

variable {n : ℕ} (h : ScatterDims.WF (⟨2, ![512, 1024]⟩ : Shape) (⟨1, ![1]⟩ : Shape) (⟨2, ![n, 1024]⟩ : Shape) [0, 1] [] [0] 0)
  (idx : IVec (⟨1, ![1]⟩ : Shape) 32) (o : ℕ) (hidx : ∀ j, (idx j).toInt = (o : Int))
include hidx

/-- Entry `(a, b)` of the rows lands at `(p, q)` exactly when `p` is `o + a` and `q` is `b`. -/
theorem lands (a : Fin n) (b : Fin 1024) (p : Fin 512) (q : Fin 1024) :
    (rowsDims n h).resultIdx? (ix2 a b) idx = some (ix2 p q) ↔ o + a.val = p.val ∧ b.val = q.val := by
  have w0 : (rowsDims n h).window (ix2 a b) 0 = a.val := rfl
  have w1 : (rowsDims n h).window (ix2 a b) 1 = b.val := rfl
  have s0 : (rowsDims n h).start (ix2 a b) idx 0 = (o : Int) := hidx _
  have s1 : (rowsDims n h).start (ix2 a b) idx 1 = 0 := rfl
  rw [Routing.resultIdx?_eq_some]
  constructor
  · intro g
    have g0 := g 0
    have g1 := g 1
    rw [s0, w0] at g0
    rw [s1, w1] at g1
    have e0 : ((ix2 p q : (⟨2, ![512, 1024]⟩ : Shape).Idx) 0).val = p.val := rfl
    have e1 : ((ix2 p q : (⟨2, ![512, 1024]⟩ : Shape).Idx) 1).val = q.val := rfl
    rw [e0] at g0
    rw [e1] at g1
    omega
  · intro g k
    match k with
    | ⟨0, _⟩ =>
      show (rowsDims n h).start (ix2 a b) idx 0 + ((rowsDims n h).window (ix2 a b) 0 : Int) = (p.val : Int)
      rw [s0, w0]
      omega
    | ⟨1, _⟩ =>
      show (rowsDims n h).start (ix2 a b) idx 1 + ((rowsDims n h).window (ix2 a b) 1 : Int) = (q.val : Int)
      rw [s1, w1]
      omega

/-- The set matrix at an entry. -/
theorem scatter_rows {α : Type} (x : (⟨2, ![512, 1024]⟩ : Shape).Idx → α) (u : (⟨2, ![n, 1024]⟩ : Shape).Idx → α) (p : Fin 512) (q : Fin 1024) :
    Host.scatter (rowsDims n h) (fun _ b => b) x idx u (ix2 p q)
      = if g : o ≤ p.val ∧ p.val - o < n then u (ix2 ⟨p.val - o, g.2⟩ q) else x (ix2 p q) := by
  have l : ∀ k : (⟨2, ![n, 1024]⟩ : Shape).Idx, (rowsDims n h).resultIdx? k idx = some (ix2 p q) → o + (k 0).val = p.val ∧ (k 1).val = q.val := fun k hk =>
    (lands h idx o hidx (k 0) (k 1) p q).1 ((congrArg (fun t => (rowsDims n h).resultIdx? t idx) (eq_ix2 k).symm).trans hk)
  by_cases g : o ≤ p.val ∧ p.val - o < n
  · rw [dif_pos g]
    refine Routing.scatter_set_hit _ x idx u _ _ (fun k hk => ?_) (ix2 ⟨p.val - o, g.2⟩ q) ((lands h idx o hidx _ _ p q).2 ⟨?_, rfl⟩)
    · have hl := l k hk
      refine (congrArg u (eq_ix2 k)).trans (congrArg₂ (fun a b => u (ix2 a b)) (Fin.ext ?_) (Fin.ext hl.2))
      show (k 0).val = p.val - o
      omega
    · show o + (p.val - o) = p.val
      omega
  · rw [dif_neg g]
    refine Routing.scatter_set_miss _ x idx u _ fun k hk => g ?_
    have hl := l k hk
    have hk0 : (k 0).val < n := (k 0).isLt
    omega

end Cert.Prep

end
-- ==== Proof.PrepReference.lean ====
/-
  The plain preparation at an index.
-/
module

public import proofs.«01_k».proof.Proof.Gen.Reference5Ideal.Read
public import proofs.«01_k».proof.Proof.PrepSpec
public import Idealize.ShloMosaic.Lib.Pointwise

@[expose] public section

noncomputable section

open Idealize.ShloMosaic Idealize.ShloMosaic.TcCoe Idealize.SL.Sem

namespace Cert.Reference5Ideal.Prep

open Cert.Reference5Ideal Cert.Reference5Ideal.Gen Cert.Reference5Ideal.Read

variable (x0 : (⟨S32x64x10752, .f32⟩ : BufTy).Contents (Elt Ideal)) (x1 : (⟨S32x1x3520, .f32⟩ : BufTy).Contents (Elt Ideal))
  (x2 : (⟨S3520, .f32⟩ : BufTy).Contents (Elt Ideal)) (x3 : (⟨S1024, .f32⟩ : BufTy).Contents (Elt Ideal)) (x4 : (⟨S96x1024, .f32⟩ : BufTy).Contents (Elt Ideal))
  (x5 : (⟨S1024, .f32⟩ : BufTy).Contents (Elt Ideal)) (x6 : (⟨S96x1024, .f32⟩ : BufTy).Contents (Elt Ideal)) (x7 : (⟨S256x1024, .f32⟩ : BufTy).Contents (Elt Ideal))
  (x8 x9 : (⟨S1024, .f32⟩ : BufTy).Contents (Elt Ideal))

/-- The mixed columns of a row. -/
def mixed (i : Fin 32) : Fin 64 → Fin 3520 → EReal :=
  Cert.Prep.mix (fun r j => x0 (ix3 i r (Cert.Prep.src j))) (fun j => x1 (ix3 i 0 j)) (fun j => x2 (ix1 j))

theorem columns_at (i : Fin 32) (r : Fin 64) (j : Fin 3520) : val_main_v2 (F := Ideal) x0 (ix3 i r j) = x0 (ix3 i r (Cert.Prep.src j)) := by
  pointwise [val_main_v2, val_main_v1, val_main_v0]
  by_cases h : j.val < 3072
  · refine (dif_pos h).trans (congrArg (fun q => x0 (ix3 i r q)) (Fin.ext ?_))
    rw [Cert.Prep.src_low h]
  · refine (dif_neg h).trans (congrArg (fun q => x0 (ix3 i r q)) (Fin.ext ?_))
    rw [Cert.Prep.src_high h]
    show 10240 + (j.val - 3072) = 7168 + j.val
    omega

theorem before_at (i : Fin 32) (r : Fin 64) (j : Fin 3520) : val_main_v4 (F := Ideal) x0 x1 (ix3 i r j)
    = Cert.Prep.before (fun r j => x0 (ix3 i r (Cert.Prep.src j))) (fun j => x1 (ix3 i 0 j)) r j := by
  unfold Cert.Prep.before
  unfold val_main_v4 val_main_v3
  simp only [← columns_at]
  generalize val_main_v2 (F := Ideal) x0 = y
  have hr := r.isLt
  pointwise
  by_cases h : r.val < 1
  · rw [dif_pos h, if_pos (show r.val = 0 by omega)]
    congr 2
    exact Fin.ext (show r.val = 0 by omega)
  · rw [dif_neg h, if_neg (show ¬ r.val = 0 by omega)]
    congr 2
    exact Fin.ext (show r.val - 1 = (r.val + 64 - 1) % 64 by omega)

theorem mixed_at (i : Fin 32) (r : Fin 64) (j : Fin 3520) : val_main_v9 (F := Ideal) x0 x1 x2 (ix3 i r j) = mixed x0 x1 x2 i r j := by
  unfold val_main_v9 val_main_v8 val_main_v5 mixed Cert.Prep.mix
  have h2 := columns_at x0 i r j
  have h4 := before_at x0 x1 i r j
  generalize val_main_v2 (F := Ideal) x0 = a at h2 ⊢
  generalize val_main_v4 (F := Ideal) x0 x1 = b at h4 ⊢
  pointwise [val_main_v7, val_main_v6]
  rw [h2, h4]

theorem recept_at (i : Fin 32) (r : Fin 64) (e : Fin 1024) : val_main_v10 (F := Ideal) x0 x1 x2 (ix3 i r e) = mixed x0 x1 x2 i r (Cert.Prep.col 0 e) := by
  have h := mixed_at x0 x1 x2 i r (Cert.Prep.col 0 e)
  rw [← h]
  unfold val_main_v10
  generalize val_main_v9 (F := Ideal) x0 x1 x2 = y
  have he := e.isLt
  pointwise
  congr 2
  exact Fin.ext (show e.val = (0 + e.val) % 3520 by omega)

theorem key_at (i : Fin 32) (r : Fin 64) (e : Fin 1024) : val_main_v11 (F := Ideal) x0 x1 x2 (ix3 i r e) = mixed x0 x1 x2 i r (Cert.Prep.col 1024 e) := by
  rw [← mixed_at x0 x1 x2 i r (Cert.Prep.col 1024 e)]
  unfold val_main_v11
  generalize val_main_v9 (F := Ideal) x0 x1 x2 = y
  have he := e.isLt
  pointwise
  congr 2
  exact Fin.ext (show 1024 + e.val = (1024 + e.val) % 3520 by omega)

theorem value_at (i : Fin 32) (r : Fin 64) (e : Fin 1024) : val_main_v12 (F := Ideal) x0 x1 x2 (ix3 i r e) = mixed x0 x1 x2 i r (Cert.Prep.col 2048 e) := by
  rw [← mixed_at x0 x1 x2 i r (Cert.Prep.col 2048 e)]
  unfold val_main_v12
  generalize val_main_v9 (F := Ideal) x0 x1 x2 = y
  have he := e.isLt
  pointwise
  congr 2
  exact Fin.ext (show 2048 + e.val = (2048 + e.val) % 3520 by omega)

theorem loraW_at (i : Fin 32) (r : Fin 64) (e : Fin 96) : val_main_v13 (F := Ideal) x0 x1 x2 (ix3 i r e) = mixed x0 x1 x2 i r (Cert.Prep.col 3072 e) := by
  rw [← mixed_at x0 x1 x2 i r (Cert.Prep.col 3072 e)]
  unfold val_main_v13
  generalize val_main_v9 (F := Ideal) x0 x1 x2 = y
  have he := e.isLt
  pointwise
  congr 2
  exact Fin.ext (show 3072 + e.val = (3072 + e.val) % 3520 by omega)

theorem loraA_at (i : Fin 32) (r : Fin 64) (e : Fin 96) : val_main_v14 (F := Ideal) x0 x1 x2 (ix3 i r e) = mixed x0 x1 x2 i r (Cert.Prep.col 3168 e) := by
  rw [← mixed_at x0 x1 x2 i r (Cert.Prep.col 3168 e)]
  unfold val_main_v14
  generalize val_main_v9 (F := Ideal) x0 x1 x2 = y
  have he := e.isLt
  pointwise
  congr 2
  exact Fin.ext (show 3168 + e.val = (3168 + e.val) % 3520 by omega)

theorem loraG_at (i : Fin 32) (r : Fin 64) (e : Fin 256) : val_main_v15 (F := Ideal) x0 x1 x2 (ix3 i r e) = mixed x0 x1 x2 i r (Cert.Prep.col 3264 e) := by
  rw [← mixed_at x0 x1 x2 i r (Cert.Prep.col 3264 e)]
  unfold val_main_v15
  generalize val_main_v9 (F := Ideal) x0 x1 x2 = y
  have he := e.isLt
  pointwise
  congr 2
  exact Fin.ext (show 3264 + e.val = (3264 + e.val) % 3520 by omega)

/-- The printed softplus: its test for an undefined difference never holds here. -/
theorem softplus_at (y : FVec Ideal S32x64x1024 .f32) (j : S32x64x1024.Idx) :
    select (cmpf .une (subf y (val_main_call0_v2 (F := Ideal))) (subf y (val_main_call0_v2 (F := Ideal)))) (addf y (val_main_call0_v5 (F := Ideal)))
      (addf (maximumf y (val_main_call0_v0 (F := Ideal))) (Host.log1p (Host.exp (Host.negf (Host.absf (subf y (val_main_call0_v2 (F := Ideal)))))))) j
      = Cert.Prep.softplus (y j) := by
  pointwise [val_main_call0_v2, val_main_call0_v5, val_main_call0_v0, val_main_call0_cst]
  unfold Cert.Prep.softplus
  simp
  rfl

/-- The decay's argument. -/
theorem decay_at (i : Fin 32) (r : Fin 64) (e : Fin 1024) : val_main_v20 (F := Ideal) x0 x1 x2 x3 x4 (ix3 i r e)
    = x3 (ix1 e) + Cert.Prep.lowRank Ideal.tanh 3072 (mixed x0 x1 x2 i r) (fun l e => x4 (ix2 l e)) e := by
  unfold val_main_v20 val_main_v17 val_main_v16 Cert.Prep.lowRank
  simp only [← loraW_at]
  generalize val_main_v13 (F := Ideal) x0 x1 x2 = y
  pointwise [val_main_v19, val_main_v18]

theorem rate_at (i : Fin 32) (r : Fin 64) (e : Fin 1024) : val_main_v62 (F := Ideal) x0 x1 x2 x3 x4 (ix3 i r e)
    = Cert.Prep.rate (x3 (ix1 e) + Cert.Prep.lowRank Ideal.tanh 3072 (mixed x0 x1 x2 i r) (fun l e => x4 (ix2 l e)) e) := by
  have h : val_main_v22 (F := Ideal) x0 x1 x2 x3 x4 (ix3 i r e) = Cert.Prep.softplus (val_main_v21 (F := Ideal) x0 x1 x2 x3 x4 (ix3 i r e)) :=
    softplus_at (val_main_v21 (F := Ideal) x0 x1 x2 x3 x4) (ix3 i r e)
  rw [show val_main_v21 (F := Ideal) x0 x1 x2 x3 x4 (ix3 i r e) = -(val_main_v20 (F := Ideal) x0 x1 x2 x3 x4 (ix3 i r e)) from rfl, decay_at] at h
  unfold val_main_v62 val_main_v61 val_main_v25 val_main_v23 Cert.Prep.rate
  rw [← h]
  generalize val_main_v22 (F := Ideal) x0 x1 x2 x3 x4 = y
  pointwise [val_main_v24, val_main_cst]

theorem icl_at (i : Fin 32) (r : Fin 64) (e : Fin 1024) : val_main_v35 (F := Ideal) x0 x1 x2 x5 x6 (ix3 i r e)
    = Cert.Prep.icl (mixed x0 x1 x2 i r) (fun e => x5 (ix1 e)) (fun l e => x6 (ix2 l e)) e := by
  unfold val_main_v35 val_main_v33 val_main_v31 val_main_v30 val_main_v29 val_main_v26 Cert.Prep.icl Cert.Prep.lowRank
  simp only [← loraA_at]
  generalize val_main_v14 (F := Ideal) x0 x1 x2 = y
  pointwise [val_main_v34, val_main_v32, val_main_v28, val_main_v27, val_main_cst_0, val_main_cst_1]
  rfl

theorem gate_at (i : Fin 32) (r : Fin 64) (e : Fin 1024) : val_main_v42 (F := Ideal) x0 x1 x2 x7 (ix3 i r e)
    = Cert.Prep.lowRank Ideal.logistic 3264 (mixed x0 x1 x2 i r) (fun l e => x7 (ix2 l e)) e := by
  unfold val_main_v42 val_main_v41 val_main_v39 val_main_v37 val_main_v36 Cert.Prep.lowRank
  simp only [← loraG_at]
  generalize val_main_v15 (F := Ideal) x0 x1 x2 = y
  pointwise [val_main_v40, val_main_v38, val_main_cst_2, val_main_cst_3]
  rfl

theorem replaced_at (i : Fin 32) (r : Fin 64) (e : Fin 1024) : val_main_v54 (F := Ideal) x0 x1 x2 x5 x6 x9 (ix3 i r e)
    = Cert.Prep.scaledKey (mixed x0 x1 x2 i r (Cert.Prep.col 1024 e))
        (Cert.Prep.icl (mixed x0 x1 x2 i r) (fun e => x5 (ix1 e)) (fun l e => x6 (ix2 l e)) e) (x9 (ix1 e)) := by
  unfold val_main_v54 val_main_v53 val_main_v51 val_main_v48 Cert.Prep.scaledKey
  rw [← icl_at, ← key_at]
  generalize val_main_v35 (F := Ideal) x0 x1 x2 x5 x6 = a
  generalize val_main_v11 (F := Ideal) x0 x1 x2 = k
  pointwise [val_main_v52, val_main_v50, val_main_v49, val_main_v47, val_main_cst_4, val_main_cst_5]

/-- A row's heads, and heads back in a row. -/
theorem split_at (y : Vec Ideal S32x64x1024 .f32) (i : Fin 32) (r : Fin 64) (h : Fin 16) (d : Fin 64) :
    shapeCast S32x64x16x64 y shapeCasts_S32x64x1024_S32x64x16x64 (ix4 i r h d) = y (ix3 i r (Cert.Merge.inHead h.val d)) := by
  have hh := h.isLt
  have hd := d.isLt
  pointwise
  congr 2
  apply Fin.ext
  show _ = (64 * h.val + d.val) % 1024
  simp only [Fin.val_mk]
  omega

theorem join_at (y : Vec Ideal S32x64x16x64 .f32) (i : Fin 32) (r : Fin 64) (e : Fin 1024) :
    shapeCast S32x64x1024 y shapeCasts_S32x64x16x64_S32x64x1024 (ix3 i r e)
      = y (ix4 i r ⟨e.val / 64, by have := e.isLt; omega⟩ ⟨e.val % 64, by omega⟩) := by
  pointwise

theorem inHead_self (e : Fin 1024) : Cert.Merge.inHead (e.val / 64) ⟨e.val % 64, by omega⟩ = e :=
  Fin.ext (show (64 * (e.val / 64) + e.val % 64) % 1024 = e.val by have := e.isLt; omega)

theorem headSum_inHead (f : Fin 1024 → EReal) (h : Fin 16) (d : Fin 64) :
    Cert.Merge.headSum f (Cert.Merge.inHead h.val d) = ∑ k : Fin 64, f (Cert.Merge.inHead h.val k) := by
  have hh := h.isLt
  have hd := d.isLt
  unfold Cert.Merge.headSum
  rw [show (Cert.Merge.inHead h.val d).val / 64 = h.val from (by show (64 * h.val + d.val) % 1024 / 64 = h.val; omega)]

/-- The scaled keys of a row. -/
def keys (i : Fin 32) (r : Fin 64) (e : Fin 1024) : EReal := mixed x0 x1 x2 i r (Cert.Prep.col 1024 e) * x8 (ix1 e)

theorem keys_at (i : Fin 32) (r : Fin 64) (h : Fin 16) (d : Fin 64) :
    val_main_v46 (F := Ideal) x0 x1 x2 x8 (ix4 i r h d) = keys x0 x1 x2 x8 i r (Cert.Merge.inHead h.val d) := by
  refine (split_at (val_main_v45 (F := Ideal) x0 x1 x2 x8) i r h d).trans ?_
  generalize Cert.Merge.inHead h.val d = e
  unfold val_main_v45 keys
  rw [← key_at]
  generalize val_main_v11 (F := Ideal) x0 x1 x2 = k
  pointwise [val_main_v44, val_main_v43]

theorem unitHead_at (i : Fin 32) (r : Fin 64) (h : Fin 16) (d : Fin 64) :
    val_main_v59 (F := Ideal) x0 x1 x2 x8 (ix4 i r h d) = Cert.Prep.unit (keys x0 x1 x2 x8 i r) (Cert.Merge.inHead h.val d) := by
  unfold Cert.Prep.unit
  rw [headSum_inHead]
  simp only [← keys_at]
  unfold val_main_v59 val_main_v58 val_main_v57 val_main_v55 val_main_call1_v2 val_main_call1_v1 val_main_call1_v0
  generalize val_main_v46 (F := Ideal) x0 x1 x2 x8 = k
  pointwise [val_main_v56, val_main_cst_6, val_main_call1_cst]

theorem unit_at (i : Fin 32) (r : Fin 64) (e : Fin 1024) :
    val_main_v60 (F := Ideal) x0 x1 x2 x8 (ix3 i r e) = Cert.Prep.unit (keys x0 x1 x2 x8 i r) e := by
  refine (join_at _ i r e).trans ((unitHead_at x0 x1 x2 x8 i r _ _).trans ?_)
  rw [inHead_self]

theorem negated_at (i : Fin 32) (r : Fin 64) (e : Fin 1024) :
    val_main_v63 (F := Ideal) x0 x1 x2 x8 (ix3 i r e) = -(Cert.Prep.unit (keys x0 x1 x2 x8 i r) e) := by
  rw [← unit_at]
  rfl

theorem weighted_at (i : Fin 32) (r : Fin 64) (e : Fin 1024) :
    val_main_v64 (F := Ideal) x0 x1 x2 x5 x6 x8 (ix3 i r e) = Cert.Prep.unit (keys x0 x1 x2 x8 i r) e
      * Cert.Prep.icl (mixed x0 x1 x2 i r) (fun e => x5 (ix1 e)) (fun l e => x6 (ix2 l e)) e := by
  rw [← unit_at, ← icl_at]
  rfl

end Cert.Reference5Ideal.Prep

end
-- ==== Proof.PrepBlocks.lean ====
/-
  The recurrence preparation kernel's results: the arrays at its entry, the points' blocks of them, and the seven arrays
  the points write, entry by entry.
-/
module

public import proofs.«01_k».proof.Proof.PrepRows
public import proofs.«01_k».proof.Proof.PrepPad
public import proofs.«01_k».proof.Proof.PrepReference
public import proofs.«01_k».proof.Proof.MergeValue
public import Idealize.ShloMosaic.Lib.Pointwise
public import Idealize.ShloMosaic.Lib.KernelVsHost

@[expose] public section

noncomputable section

open Idealize.ShloMosaic Idealize.ShloMosaic.TcCoe Idealize.SL.Sem

namespace Cert.Kernel5Ideal.Prep

open Cert.Kernel5Ideal Cert.Kernel5Ideal.Gen Cert.Kernel5Ideal.Value
open Cert.Mix (Real')

/-! ## The arrays at the kernel's entry -/

/-- The low rank columns of the previous rows, padded. -/
def shiftPad (y : Vec Ideal S32x1x3520 .f32) : Vec Ideal S32x1x512 .f32 :=
  pad S32x1x512 ![0, 0, 0] ![0, 0, 64] ![0, 0, 0] (extractStridedSlice S32x1x448 ![0, 0, 3072] y slices_S32x1x3520_S32x1x448_0_0_3072)
    (sitofp (F := Ideal) .f32 (constantI S_ 32 0#32)) pads_S32x1x448_S32x1x512_000_000_0640 h_S_

theorem shiftPad_at (y : Vec Ideal S32x1x3520 .f32) (i : Fin 32) (e : Fin 512) (he : e.val < 448) :
    shiftPad y (ix3 i 0 e) = y (ix3 i 0 ⟨3072 + e.val, by omega⟩) := by
  unfold shiftPad
  rw [pad_apply_of_inside _ _ _ _ _ _ _ _ (ix3 i 0 ⟨e.val, he⟩) (fun a => by fin_cases a <;> simp [ix3])]
  pointwise

/-- The mix weights of the wide columns, and of the low rank ones, padded. -/
def muRow (y : Vec Ideal S3520 .f32) : Vec Ideal S1x3072 .f32 :=
  shapeCast S1x3072 (extractStridedSlice S3072 ![0] y slices_S3520_S3072_0 : Vec Ideal S3072 .f32) shapeCasts_S3072_S1x3072

theorem muRow_at (y : Vec Ideal S3520 .f32) (e : Fin 3072) : muRow y (ix2 0 e) = y (ix1 ⟨e.val, by have := e.isLt; omega⟩) := by
  pointwise [muRow]

def muPad (y : Vec Ideal S3520 .f32) : Vec Ideal S1x512 .f32 :=
  shapeCast S1x512 (pad S512 ![0] ![64] ![0] (extractStridedSlice S448 ![3072] y slices_S3520_S448_3072) (sitofp (F := Ideal) .f32 (constantI S_ 32 0#32))
    pads_S448_S512_0640 h_S_ : Vec Ideal S512 .f32) shapeCasts_S512_S1x512

theorem muPad_at (y : Vec Ideal S3520 .f32) (e : Fin 512) (he : e.val < 448) : muPad y (ix2 0 e) = y (ix1 ⟨3072 + e.val, by omega⟩) := by
  have h : ∀ z : Vec Ideal S512 .f32, shapeCast S1x512 z shapeCasts_S512_S1x512 (ix2 0 e) = z (ix1 e) := fun z => by pointwise
  unfold muPad
  rw [h, pad_apply_of_inside _ _ _ _ _ _ _ _ (ix1 ⟨e.val, he⟩) (fun a => by fin_cases a; simp [ix1])]
  pointwise

theorem slice_at (y : Vec Ideal S32x1x3520 .f32) (i : Fin 32) (e : Fin 3072) :
    extractStridedSlice S32x1x3072 ![0, 0, 0] y slices_S32x1x3520_S32x1x3072_0_0_0 (ix3 i 0 e) = y (ix3 i 0 ⟨e.val, by have := e.isLt; omega⟩) := by
  pointwise

theorem lift_at (y : Vec Ideal S1024 .f32) (e : Fin 1024) : shapeCast S1x1024 y shapeCasts_S1024_S1x1024 (ix2 0 e) = y (ix1 e) := by
  pointwise

/-- The low rank maps' rows set at a start row of 512 zero rows. -/
def placed96 (o : BitVec 32) (y : Vec Ideal S96x1024 .f32) : Vec Ideal S512x1024 .bf16 :=
  truncf .bf16 (Host.scatter scatter_S512x1024_S1_S96x1024_01_n_0_0 (fun _ b => b)
    (broadcastInDim S512x1024 ![] bcast_S_S512x1024 (constant (F := Ideal) S_ .f32 0x00000000#32))
    (broadcastInDim S1 ![] bcast_S_S1 (constantI S_ 32 o)) y : FVec Ideal S512x1024 .f32) bitsLt_bf16_f32

def placed256 (o : BitVec 32) (y : Vec Ideal S256x1024 .f32) : Vec Ideal S512x1024 .bf16 :=
  truncf .bf16 (Host.scatter scatter_S512x1024_S1_S256x1024_01_n_0_0 (fun _ b => b)
    (broadcastInDim S512x1024 ![] bcast_S_S512x1024 (constant (F := Ideal) S_ .f32 0x00000000#32))
    (broadcastInDim S1 ![] bcast_S_S1 (constantI S_ 32 o)) y : FVec Ideal S512x1024 .f32) bitsLt_bf16_f32

theorem zeros_at (p : Fin 512) (q : Fin 1024) :
    (broadcastInDim S512x1024 ![] bcast_S_S512x1024 (constant (F := Ideal) S_ .f32 0x00000000#32) : FVec Ideal S512x1024 .f32) (ix2 p q) = 0 := by
  pointwise

theorem rounded_at (v : FVec Ideal S512x1024 .f32) (p : Fin 512) (q : Fin 1024) : truncf .bf16 v bitsLt_bf16_f32 (ix2 p q) = v (ix2 p q) := rfl

theorem set96_at (o : BitVec 32) (k : ℕ) (hk : o.toInt = (k : Int)) (y : Vec Ideal S96x1024 .f32) (z : FVec Ideal S512x1024 .f32) (p : Fin 512) (q : Fin 1024)
    (hz : z (ix2 p q) = 0) :
    Host.scatter scatter_S512x1024_S1_S96x1024_01_n_0_0 (fun _ b => b) z (broadcastInDim S1 ![] bcast_S_S1 (constantI S_ 32 o)) y (ix2 p q)
      = Cert.Prep.padded k (fun l e => y (ix2 l e)) p q := by
  have h := Cert.Prep.scatter_rows (n := 96) scatter_S512x1024_S1_S96x1024_01_n_0_0_wf
    (broadcastInDim S1 ![] bcast_S_S1 (constantI S_ 32 o)) k (fun _ => hk) z y p q
  rw [hz] at h
  exact h

theorem placed96_at (o : BitVec 32) (k : ℕ) (hk : o.toInt = (k : Int)) (y : Vec Ideal S96x1024 .f32) (p : Fin 512) (q : Fin 1024) :
    placed96 o y (ix2 p q) = Cert.Prep.padded k (fun l e => y (ix2 l e)) p q := by
  unfold placed96
  refine (rounded_at _ p q).trans ?_
  have hz := zeros_at p q
  generalize (broadcastInDim S512x1024 ![] bcast_S_S512x1024 (constant (F := Ideal) S_ .f32 0x00000000#32) : FVec Ideal S512x1024 .f32) = z at hz ⊢
  exact set96_at o k hk y z p q hz

theorem set256_at (o : BitVec 32) (k : ℕ) (hk : o.toInt = (k : Int)) (y : Vec Ideal S256x1024 .f32) (z : FVec Ideal S512x1024 .f32) (p : Fin 512) (q : Fin 1024)
    (hz : z (ix2 p q) = 0) :
    Host.scatter scatter_S512x1024_S1_S256x1024_01_n_0_0 (fun _ b => b) z (broadcastInDim S1 ![] bcast_S_S1 (constantI S_ 32 o)) y (ix2 p q)
      = Cert.Prep.padded k (fun l e => y (ix2 l e)) p q := by
  have h := Cert.Prep.scatter_rows (n := 256) scatter_S512x1024_S1_S256x1024_01_n_0_0_wf
    (broadcastInDim S1 ![] bcast_S_S1 (constantI S_ 32 o)) k (fun _ => hk) z y p q
  rw [hz] at h
  exact h

theorem placed256_at (o : BitVec 32) (k : ℕ) (hk : o.toInt = (k : Int)) (y : Vec Ideal S256x1024 .f32) (p : Fin 512) (q : Fin 1024) :
    placed256 o y (ix2 p q) = Cert.Prep.padded k (fun l e => y (ix2 l e)) p q := by
  unfold placed256
  refine (rounded_at _ p q).trans ?_
  have hz := zeros_at p q
  generalize (broadcastInDim S512x1024 ![] bcast_S_S512x1024 (constant (F := Ideal) S_ .f32 0x00000000#32) : FVec Ideal S512x1024 .f32) = z at hz ⊢
  exact set256_at o k hk y z p q hz

variable (m : (ℓ : Loc nD τ sig) → Buf (Elt Ideal) ℓ) (c : Dev nD)

theorem V_v8 : (V m c main_v8 : Vec Ideal S1024x128 .bf16) = Cert.Kernel4Ideal.Merge.heads := by
  show StableHlo.after (hostOps0_6 (F := Ideal)) (StableHlo.after (hostOps0_5 (F := Ideal)) (StableHlo.after (hostOps0_4 (F := Ideal)) (StableHlo.after (hostOps0_3 (F := Ideal))
    (StableHlo.after (hostOps0_2 (F := Ideal)) (StableHlo.after (hostOps0_1 (F := Ideal)) (StableHlo.after (hostOps0 (F := Ideal)) _)))))) (Proc.devRef .tc main_v8) = _
  after_results
  rfl

theorem V_v9 : (V m c main_v9 : Vec Ideal S32x1x3072 .f32) = extractStridedSlice S32x1x3072 ![0, 0, 0] (m ((c : Thread nD τ).loc main_arg1) : Vec Ideal S32x1x3520 .f32) slices_S32x1x3520_S32x1x3072_0_0_0 := by
  show StableHlo.after (hostOps0_6 (F := Ideal)) (StableHlo.after (hostOps0_5 (F := Ideal)) (StableHlo.after (hostOps0_4 (F := Ideal)) (StableHlo.after (hostOps0_3 (F := Ideal))
    (StableHlo.after (hostOps0_2 (F := Ideal)) (StableHlo.after (hostOps0_1 (F := Ideal)) (StableHlo.after (hostOps0 (F := Ideal)) _)))))) (Proc.devRef .tc main_v9) = _
  after_results

theorem V_v11 : (V m c main_v11 : Vec Ideal S32x1x512 .f32) = shiftPad (m ((c : Thread nD τ).loc main_arg1) : Vec Ideal S32x1x3520 .f32) := by
  show StableHlo.after (hostOps0_6 (F := Ideal)) (StableHlo.after (hostOps0_5 (F := Ideal)) (StableHlo.after (hostOps0_4 (F := Ideal)) (StableHlo.after (hostOps0_3 (F := Ideal))
    (StableHlo.after (hostOps0_2 (F := Ideal)) (StableHlo.after (hostOps0_1 (F := Ideal)) (StableHlo.after (hostOps0 (F := Ideal)) _)))))) (Proc.devRef .tc main_v11) = _
  after_results
  rfl

theorem V_v13 : (V m c main_v13 : Vec Ideal S1x3072 .f32) = muRow (m ((c : Thread nD τ).loc main_arg2) : Vec Ideal S3520 .f32) := by
  show StableHlo.after (hostOps0_6 (F := Ideal)) (StableHlo.after (hostOps0_5 (F := Ideal)) (StableHlo.after (hostOps0_4 (F := Ideal)) (StableHlo.after (hostOps0_3 (F := Ideal))
    (StableHlo.after (hostOps0_2 (F := Ideal)) (StableHlo.after (hostOps0_1 (F := Ideal)) (StableHlo.after (hostOps0 (F := Ideal)) _)))))) (Proc.devRef .tc main_v13) = _
  after_results
  rfl

theorem V_v16 : (V m c main_v16 : Vec Ideal S1x512 .f32) = muPad (m ((c : Thread nD τ).loc main_arg2) : Vec Ideal S3520 .f32) := by
  show StableHlo.after (hostOps0_6 (F := Ideal)) (StableHlo.after (hostOps0_5 (F := Ideal)) (StableHlo.after (hostOps0_4 (F := Ideal)) (StableHlo.after (hostOps0_3 (F := Ideal))
    (StableHlo.after (hostOps0_2 (F := Ideal)) (StableHlo.after (hostOps0_1 (F := Ideal)) (StableHlo.after (hostOps0 (F := Ideal)) _)))))) (Proc.devRef .tc main_v16) = _
  after_results
  rfl

theorem V_v17 : (V m c main_v17 : Vec Ideal S1x1024 .f32) = shapeCast S1x1024 (m ((c : Thread nD τ).loc main_arg3) : Vec Ideal S1024 .f32) shapeCasts_S1024_S1x1024 := by
  show StableHlo.after (hostOps0_6 (F := Ideal)) (StableHlo.after (hostOps0_5 (F := Ideal)) (StableHlo.after (hostOps0_4 (F := Ideal)) (StableHlo.after (hostOps0_3 (F := Ideal))
    (StableHlo.after (hostOps0_2 (F := Ideal)) (StableHlo.after (hostOps0_1 (F := Ideal)) (StableHlo.after (hostOps0 (F := Ideal)) _)))))) (Proc.devRef .tc main_v17) = _
  after_results
  rfl

theorem V_v18 : (V m c main_v18 : Vec Ideal S1x1024 .f32) = shapeCast S1x1024 (m ((c : Thread nD τ).loc main_arg5) : Vec Ideal S1024 .f32) shapeCasts_S1024_S1x1024 := by
  show StableHlo.after (hostOps0_6 (F := Ideal)) (StableHlo.after (hostOps0_5 (F := Ideal)) (StableHlo.after (hostOps0_4 (F := Ideal)) (StableHlo.after (hostOps0_3 (F := Ideal))
    (StableHlo.after (hostOps0_2 (F := Ideal)) (StableHlo.after (hostOps0_1 (F := Ideal)) (StableHlo.after (hostOps0 (F := Ideal)) _)))))) (Proc.devRef .tc main_v18) = _
  after_results
  rfl

theorem V_v19 : (V m c main_v19 : Vec Ideal S1x1024 .f32) = shapeCast S1x1024 (m ((c : Thread nD τ).loc main_arg8) : Vec Ideal S1024 .f32) shapeCasts_S1024_S1x1024 := by
  show StableHlo.after (hostOps0_6 (F := Ideal)) (StableHlo.after (hostOps0_5 (F := Ideal)) (StableHlo.after (hostOps0_4 (F := Ideal)) (StableHlo.after (hostOps0_3 (F := Ideal))
    (StableHlo.after (hostOps0_2 (F := Ideal)) (StableHlo.after (hostOps0_1 (F := Ideal)) (StableHlo.after (hostOps0 (F := Ideal)) _)))))) (Proc.devRef .tc main_v19) = _
  after_results
  rfl

theorem V_v20 : (V m c main_v20 : Vec Ideal S1x1024 .f32) = shapeCast S1x1024 (m ((c : Thread nD τ).loc main_arg9) : Vec Ideal S1024 .f32) shapeCasts_S1024_S1x1024 := by
  show StableHlo.after (hostOps0_6 (F := Ideal)) (StableHlo.after (hostOps0_5 (F := Ideal)) (StableHlo.after (hostOps0_4 (F := Ideal)) (StableHlo.after (hostOps0_3 (F := Ideal))
    (StableHlo.after (hostOps0_2 (F := Ideal)) (StableHlo.after (hostOps0_1 (F := Ideal)) (StableHlo.after (hostOps0 (F := Ideal)) _)))))) (Proc.devRef .tc main_v20) = _
  after_results
  rfl

theorem V_v24 : (V m c main_v24 : Vec Ideal S512x1024 .bf16) = placed96 0#32 (m ((c : Thread nD τ).loc main_arg4) : Vec Ideal S96x1024 .f32) := by
  show StableHlo.after (hostOps0_6 (F := Ideal)) (StableHlo.after (hostOps0_5 (F := Ideal)) (StableHlo.after (hostOps0_4 (F := Ideal)) (StableHlo.after (hostOps0_3 (F := Ideal))
    (StableHlo.after (hostOps0_2 (F := Ideal)) (StableHlo.after (hostOps0_1 (F := Ideal)) (StableHlo.after (hostOps0 (F := Ideal)) _)))))) (Proc.devRef .tc main_v24) = _
  after_results
  rfl

theorem V_v28 : (V m c main_v28 : Vec Ideal S512x1024 .bf16) = placed96 96#32 (m ((c : Thread nD τ).loc main_arg6) : Vec Ideal S96x1024 .f32) := by
  show StableHlo.after (hostOps0_6 (F := Ideal)) (StableHlo.after (hostOps0_5 (F := Ideal)) (StableHlo.after (hostOps0_4 (F := Ideal)) (StableHlo.after (hostOps0_3 (F := Ideal))
    (StableHlo.after (hostOps0_2 (F := Ideal)) (StableHlo.after (hostOps0_1 (F := Ideal)) (StableHlo.after (hostOps0 (F := Ideal)) _)))))) (Proc.devRef .tc main_v28) = _
  after_results
  rfl

theorem V_v32 : (V m c main_v32 : Vec Ideal S512x1024 .bf16) = placed256 192#32 (m ((c : Thread nD τ).loc main_arg7) : Vec Ideal S256x1024 .f32) := by
  show StableHlo.after (hostOps0_6 (F := Ideal)) (StableHlo.after (hostOps0_5 (F := Ideal)) (StableHlo.after (hostOps0_4 (F := Ideal)) (StableHlo.after (hostOps0_3 (F := Ideal))
    (StableHlo.after (hostOps0_2 (F := Ideal)) (StableHlo.after (hostOps0_1 (F := Ideal)) (StableHlo.after (hostOps0 (F := Ideal)) _)))))) (Proc.devRef .tc main_v32) = _
  after_results
  rfl

/-! ## The points' input blocks -/

theorem lt_N (t : Fin cfg0.N) : t.val < 32 := lt_of_lt_of_eq t.isLt N_0

/-- The stream a point computes. -/
def stream (t : Fin cfg0.N) : Fin 32 := ⟨t.val, lt_N t⟩

/-- An entry is the one its coordinates name. -/
theorem entry_eq {a b : ℕ} {α : Type} (y : (⟨2, ![a, b]⟩ : Shape).Idx → α) (i : (⟨2, ![a, b]⟩ : Shape).Idx) (p : Fin a) (q : Fin b)
    (hp : (i 0).val = p.val) (hq : (i 1).val = q.val) : y i = y (ix2 p q) := by
  rw [eq_ix2 i]
  exact congrArg₂ (fun p q => y (ix2 p q)) (Fin.ext hp) (Fin.ext hq)

theorem entry3_eq {a b d : ℕ} {α : Type} (y : (⟨3, ![a, b, d]⟩ : Shape).Idx → α) (i : (⟨3, ![a, b, d]⟩ : Shape).Idx) (p : Fin a) (q : Fin b) (s : Fin d)
    (hp : (i 0).val = p.val) (hq : (i 1).val = q.val) (hs : (i 2).val = s.val) : y i = y (ix3 p q s) := by
  rw [eq_ix3 i]
  have e0 : i 0 = p := Fin.ext hp
  have e1 : i 1 = q := Fin.ext hq
  have e2 : i 2 = s := Fin.ext hs
  rw [e0, e1, e2]

theorem whole_eq {a b : ℕ} {α : Type} (y : (⟨2, ![a, b]⟩ : Shape).Idx → α) (i : (⟨2, ![a, b]⟩ : Shape).Idx) (p : Fin a) (q : Fin b) (w z : ℕ)
    (hw : w = 0) (hz : z = 0) (h0 : (i 0).val = w * a + 1 * p.val) (h1 : (i 1).val = z * b + 1 * q.val) : y i = y (ix2 p q) :=
  entry_eq y i p q (by rw [h0, hw, zero_mul, one_mul, zero_add]) (by rw [h1, hz, zero_mul, one_mul, zero_add])

/-- A point's blocks are those of its own stream, -/
theorem starts : ∀ t : Fin cfg0.N, (win0_0.index t (0 : Fin 3) = t.val ∧ win0_1.index t (0 : Fin 3) = t.val
      ∧ win0_2.index t (0 : Fin 3) = t.val ∧ win0_3.index t (0 : Fin 3) = t.val)
    ∧ (win0_14.index t (0 : Fin 3) = t.val ∧ win0_15.index t (0 : Fin 3) = t.val ∧ win0_16.index t (0 : Fin 3) = t.val ∧ win0_17.index t (0 : Fin 3) = t.val
      ∧ win0_18.index t (0 : Fin 3) = t.val ∧ win0_19.index t (0 : Fin 3) = t.val ∧ win0_20.index t (0 : Fin 3) = t.val) :=
  (by decide +kernel : ∀ t : Fin grid0.N, _)

/-- of its first 64 rows, -/
theorem seconds : ∀ t : Fin cfg0.N, win0_0.index t (1 : Fin 3) = 0 ∧ win0_1.index t (1 : Fin 3) = 0
    ∧ (win0_14.index t (1 : Fin 3) = 0 ∧ win0_15.index t (1 : Fin 3) = 0 ∧ win0_16.index t (1 : Fin 3) = 0 ∧ win0_17.index t (1 : Fin 3) = 0
      ∧ win0_18.index t (1 : Fin 3) = 0 ∧ win0_19.index t (1 : Fin 3) = 0 ∧ win0_20.index t (1 : Fin 3) = 0) :=
  (by decide +kernel : ∀ t : Fin grid0.N, _)

/-- and its columns from 3072 and from 10240 on. -/
theorem thirds : ∀ t : Fin cfg0.N, win0_0.index t (2 : Fin 3) = 1 ∧ win0_1.index t (2 : Fin 3) = 20 :=
  (by decide +kernel : ∀ t : Fin grid0.N, _)

variable (t : Fin cfg0.N)

theorem blk0 (r : Fin 64) (e : Fin 3072) : (X0_0 m c t : Vec Ideal S1x64x3072 .f32) (ix3 0 r e)
    = m ((c : Thread nD τ).loc main_arg0) (ix3 (stream t) r ⟨3072 + e.val, by have := e.isLt; omega⟩) := by
  unfold X0_0 Pipeline.Window.fill
  rw [dif_pos (moved0_0 t (ix3 0 r e))]
  unfold iblk
  rw [View.read_apply]
  show (V m c main_arg0 : Vec Ideal S32x64x10752 .f32) _ = _
  rw [V_main_arg0]
  refine entry3_eq _ _ _ _ _ ?_ ?_ ?_
  · show win0_0.index t 0 * 1 + 1 * 0 = t.val
    rw [(starts t).1.1]
    omega
  · show win0_0.index t 1 * 64 + 1 * r.val = r.val
    rw [(seconds t).1]
    omega
  · show win0_0.index t 2 * 3072 + 1 * e.val = 3072 + e.val
    rw [(thirds t).1]
    omega

theorem blk1 (r : Fin 64) (e : Fin 512) : (iblk m c 1 t : Vec Ideal S1x64x512 .f32) (ix3 0 r e) = m ((c : Thread nD τ).loc main_arg0) (ix3 (stream t) r ⟨10240 + e.val, by have := e.isLt; omega⟩) := by
  unfold iblk
  rw [View.read_apply]
  show (V m c main_arg0 : Vec Ideal S32x64x10752 .f32) _ = _
  rw [V_main_arg0]
  refine entry3_eq _ _ _ _ _ ?_ ?_ ?_
  · show win0_1.index t 0 * 1 + 1 * 0 = t.val
    rw [(starts t).1.2.1]
    omega
  · show win0_1.index t 1 * 64 + 1 * r.val = r.val
    rw [(seconds t).2.1]
    omega
  · show win0_1.index t 2 * 512 + 1 * e.val = 10240 + e.val
    rw [(thirds t).2]
    omega

theorem blk2 (e : Fin 3072) : (iblk m c 2 t : Vec Ideal S1x1x3072 .f32) (ix3 0 0 e) = m ((c : Thread nD τ).loc main_arg1) (ix3 (stream t) 0 ⟨e.val, by have := e.isLt; omega⟩) := by
  unfold iblk
  rw [View.read_apply]
  show (V m c main_v9 : Vec Ideal S32x1x3072 .f32) _ = _
  rw [V_v9]
  refine (entry3_eq _ _ (stream t) 0 e ?_ ?_ ?_).trans (slice_at _ _ e)
  · show win0_2.index t 0 * 1 + 1 * 0 = t.val
    rw [(starts t).1.2.2.1]
    omega
  · rfl
  · show win0_2.index t 2 * 3072 + 1 * e.val = e.val
    rw [show win0_2.index t 2 = 0 from rfl]
    omega

theorem blk3 (e : Fin 512) : (iblk m c 3 t : Vec Ideal S1x1x512 .f32) (ix3 0 0 e) = shiftPad (m ((c : Thread nD τ).loc main_arg1)) (ix3 (stream t) 0 e) := by
  unfold iblk
  rw [View.read_apply]
  show (V m c main_v11 : Vec Ideal S32x1x512 .f32) _ = _
  rw [V_v11]
  refine (entry3_eq _ _ (stream t) 0 e ?_ ?_ ?_)
  · show win0_3.index t 0 * 1 + 1 * 0 = t.val
    rw [(starts t).1.2.2.2]
    omega
  · rfl
  · show win0_3.index t 2 * 512 + 1 * e.val = e.val
    rw [show win0_3.index t 2 = 0 from rfl]
    omega

theorem blk4 (q : Fin 3072) : (iblk m c 4 t : Vec Ideal S1x3072 .f32) (ix2 0 q) = m ((c : Thread nD τ).loc main_arg2) (ix1 ⟨q.val, by have := q.isLt; omega⟩) := by
  unfold iblk
  rw [View.read_apply]
  show (V m c main_v13 : Vec Ideal S1x3072 .f32) _ = _
  rw [V_v13]
  exact (whole_eq _ _ 0 q (win0_4.index t 0) (win0_4.index t 1) rfl rfl rfl rfl).trans (muRow_at _ q)

theorem blk5 (q : Fin 512) : (iblk m c 5 t : Vec Ideal S1x512 .f32) (ix2 0 q) = muPad (m ((c : Thread nD τ).loc main_arg2)) (ix2 0 q) := by
  unfold iblk
  rw [View.read_apply]
  show (V m c main_v16 : Vec Ideal S1x512 .f32) _ = _
  rw [V_v16]
  exact whole_eq _ _ 0 q (win0_5.index t 0) (win0_5.index t 1) rfl rfl rfl rfl

theorem blk6 (q : Fin 1024) : (iblk m c 6 t : Vec Ideal S1x1024 .f32) (ix2 0 q) = m ((c : Thread nD τ).loc main_arg3) (ix1 q) := by
  unfold iblk
  rw [View.read_apply]
  show (V m c main_v17 : Vec Ideal S1x1024 .f32) _ = _
  rw [V_v17]
  exact (whole_eq _ _ 0 q (win0_6.index t 0) (win0_6.index t 1) rfl rfl rfl rfl).trans (lift_at _ q)

theorem blk7 (q : Fin 1024) : (iblk m c 7 t : Vec Ideal S1x1024 .f32) (ix2 0 q) = m ((c : Thread nD τ).loc main_arg5) (ix1 q) := by
  unfold iblk
  rw [View.read_apply]
  show (V m c main_v18 : Vec Ideal S1x1024 .f32) _ = _
  rw [V_v18]
  exact (whole_eq _ _ 0 q (win0_7.index t 0) (win0_7.index t 1) rfl rfl rfl rfl).trans (lift_at _ q)

theorem blk8 (q : Fin 1024) : (iblk m c 8 t : Vec Ideal S1x1024 .f32) (ix2 0 q) = m ((c : Thread nD τ).loc main_arg8) (ix1 q) := by
  unfold iblk
  rw [View.read_apply]
  show (V m c main_v19 : Vec Ideal S1x1024 .f32) _ = _
  rw [V_v19]
  exact (whole_eq _ _ 0 q (win0_8.index t 0) (win0_8.index t 1) rfl rfl rfl rfl).trans (lift_at _ q)

theorem blk9 (q : Fin 1024) : (iblk m c 9 t : Vec Ideal S1x1024 .f32) (ix2 0 q) = m ((c : Thread nD τ).loc main_arg9) (ix1 q) := by
  unfold iblk
  rw [View.read_apply]
  show (V m c main_v20 : Vec Ideal S1x1024 .f32) _ = _
  rw [V_v20]
  exact (whole_eq _ _ 0 q (win0_9.index t 0) (win0_9.index t 1) rfl rfl rfl rfl).trans (lift_at _ q)

theorem blk10 (p : Fin 512) (q : Fin 1024) : (iblk m c 10 t : Vec Ideal S512x1024 .bf16) (ix2 p q) = Cert.Prep.padded 0 (fun l e => m ((c : Thread nD τ).loc main_arg4) (ix2 l e)) p q := by
  unfold iblk
  rw [View.read_apply]
  show (V m c main_v24 : Vec Ideal S512x1024 .bf16) _ = _
  rw [V_v24]
  exact (whole_eq _ _ p q (win0_10.index t 0) (win0_10.index t 1) rfl rfl rfl rfl).trans (placed96_at 0#32 0 (by decide) _ p q)

theorem blk11 (p : Fin 512) (q : Fin 1024) : (iblk m c 11 t : Vec Ideal S512x1024 .bf16) (ix2 p q) = Cert.Prep.padded 96 (fun l e => m ((c : Thread nD τ).loc main_arg6) (ix2 l e)) p q := by
  unfold iblk
  rw [View.read_apply]
  show (V m c main_v28 : Vec Ideal S512x1024 .bf16) _ = _
  rw [V_v28]
  exact (whole_eq _ _ p q (win0_11.index t 0) (win0_11.index t 1) rfl rfl rfl rfl).trans (placed96_at 96#32 96 (by decide) _ p q)

theorem blk12 (p : Fin 512) (q : Fin 1024) : (iblk m c 12 t : Vec Ideal S512x1024 .bf16) (ix2 p q) = Cert.Prep.padded 192 (fun l e => m ((c : Thread nD τ).loc main_arg7) (ix2 l e)) p q := by
  unfold iblk
  rw [View.read_apply]
  show (V m c main_v32 : Vec Ideal S512x1024 .bf16) _ = _
  rw [V_v32]
  exact (whole_eq _ _ p q (win0_12.index t 0) (win0_12.index t 1) rfl rfl rfl rfl).trans (placed256_at 192#32 192 (by decide) _ p q)

theorem blk13 (p : Fin 1024) (q : Fin 128) : (iblk m c 13 t : Vec Ideal S1024x128 .bf16) (ix2 p q) = Cert.Merge.member p q := by
  unfold iblk
  rw [View.read_apply]
  show (V m c main_v8 : Vec Ideal S1024x128 .bf16) _ = _
  rw [V_v8]
  exact (whole_eq _ _ p q (win0_13.index t 0) (win0_13.index t 1) rfl rfl rfl rfl).trans (Cert.Kernel4Ideal.Merge.heads_at p q)

end Cert.Kernel5Ideal.Prep

end
-- ==== Proof.PrepValue.lean ====
/-
  The recurrence preparation kernel's seven results, entry by entry, as the plain functions of the arguments.
-/
module

public import proofs.«01_k».proof.Proof.PrepBlocks

@[expose] public section

noncomputable section

open Idealize.ShloMosaic Idealize.ShloMosaic.TcCoe Idealize.SL.Sem

namespace Cert.Kernel5Ideal.Prep

open Cert.Kernel5Ideal Cert.Kernel5Ideal.Gen Cert.Kernel5Ideal.Value
open Cert.Mix (Real')

theorem mix_congr {a b : ℕ} {p : Fin 64 → Fin a → EReal} {s mu : Fin a → EReal} {p' : Fin 64 → Fin b → EReal} {s' mu' : Fin b → EReal}
    {e : Fin a} {e' : Fin b} (hp : ∀ r, p r e = p' r e') (hs : s e = s' e') (hm : mu e = mu' e') (r : Fin 64) :
    Cert.Prep.mix p s mu r e = Cert.Prep.mix p' s' mu' r e' := by
  unfold Cert.Prep.mix Cert.Prep.before
  rw [hs, hm]
  simp only [hp]

theorem col_val {n : ℕ} (o : ℕ) (e : Fin n) (h : o + e.val < 3520) : (Cert.Prep.col o e).val = o + e.val := Nat.mod_eq_of_lt h

variable (m : (ℓ : Loc nD τ sig) → Buf (Elt Ideal) ℓ) (c : Dev nD)

/-- A stream's mixed columns, of the three arguments they come from. -/
def X (I : Fin 32) : Fin 64 → Fin 3520 → EReal := Cert.Reference5Ideal.Prep.mixed (m ((c : Thread nD τ).loc main_arg0)) (m ((c : Thread nD τ).loc main_arg1)) (m ((c : Thread nD τ).loc main_arg2)) I

/-- A stream's scaled keys. -/
def keys (I : Fin 32) (r : Fin 64) : Fin 1024 → EReal := Cert.Reference5Ideal.Prep.keys (m ((c : Thread nD τ).loc main_arg0)) (m ((c : Thread nD τ).loc main_arg1)) (m ((c : Thread nD τ).loc main_arg2)) (m ((c : Thread nD τ).loc main_arg8)) I r

/-- A stream's in-context rates. -/
def icl (I : Fin 32) (r : Fin 64) (e : Fin 1024) : EReal :=
  Cert.Prep.icl (X m c I r) (fun e => (m ((c : Thread nD τ).loc main_arg5)) (ix1 e)) (fun l e => (m ((c : Thread nD τ).loc main_arg6)) (ix2 l e)) e

/-- What the keys are made of is finite. -/
structure Finite : Prop where
  p : ∀ (I : Fin 32) (r : Fin 64) (e : Fin 1024), Real' ((m ((c : Thread nD τ).loc main_arg0)) (ix3 I r ⟨4096 + e.val, by have := e.isLt; omega⟩) : EReal)
  s : ∀ (I : Fin 32) (e : Fin 1024), Real' ((m ((c : Thread nD τ).loc main_arg1)) (ix3 I 0 ⟨1024 + e.val, by have := e.isLt; omega⟩) : EReal)
  w : ∀ e : Fin 1024, Real' ((m ((c : Thread nD τ).loc main_arg2)) (ix1 ⟨1024 + e.val, by have := e.isLt; omega⟩) : EReal)
  k : ∀ e : Fin 1024, Real' ((m ((c : Thread nD τ).loc main_arg8)) (ix1 e) : EReal)

/-- The scaled keys are then finite too. -/
theorem keys_real (h : Finite m c) (I : Fin 32) (r : Fin 64) (e : Fin 1024) : Real' (keys m c I r e) := by
  have he := e.isLt
  have hc := col_val 1024 e (by omega)
  have hcol : Cert.Prep.col 1024 e = ⟨1024 + e.val, by omega⟩ := Fin.ext hc
  have hsrc : Cert.Prep.src (Cert.Prep.col 1024 e) = ⟨4096 + e.val, by omega⟩ :=
    Fin.ext (by rw [Cert.Prep.src_low (by rw [hc]; omega), hc]; show _ = 4096 + e.val; omega)
  unfold keys Cert.Reference5Ideal.Prep.keys Cert.Reference5Ideal.Prep.mixed
  refine (Cert.Prep.real_mix (fun r => ?_) ?_ ?_ r).mul (h.k e)
  · rw [hsrc]
    exact h.p I r e
  · rw [hcol]
    exact h.s I e
  · rw [hcol]
    exact h.w e

variable (t : Fin cfg0.N)

/-- The wide columns a point mixes. -/
theorem mixed_block (o : ℕ) (ho : o + 1024 ≤ 3072) (r : Fin 64) (e : Fin 1024) :
    mixed o ho (X0_0 m c t) (iblk m c 2 t) (iblk m c 4 t) (ix2 r e) = X m c (stream t) r (Cert.Prep.col o e) := by
  have he := e.isLt
  have hc := col_val o e (by omega)
  unfold mixed X Cert.Reference5Ideal.Prep.mixed
  rw [mix_at]
  refine mix_congr (fun r => ?_) ?_ ?_ r
  · refine (blk0 m c t r ⟨o + e.val, by omega⟩).trans (congrArg (fun q => (m ((c : Thread nD τ).loc main_arg0)) (ix3 (stream t) r q)) (Fin.ext ?_))
    rw [Cert.Prep.src_low (by rw [hc]; omega), hc]
  · refine (pay2_at (iblk m c 2 t) ⟨o + e.val, by omega⟩).trans ((blk2 m c t ⟨o + e.val, by omega⟩).trans (congrArg (fun q => (m ((c : Thread nD τ).loc main_arg1)) (ix3 (stream t) 0 q)) (Fin.ext ?_)))
    exact hc.symm
  · refine (blk4 m c t ⟨o + e.val, by omega⟩).trans (congrArg (fun q => (m ((c : Thread nD τ).loc main_arg2)) (ix1 q)) (Fin.ext ?_))
    exact hc.symm

/-- The low rank columns a point mixes. -/
theorem lora_block (r : Fin 64) (e : Fin 512) (he : e.val < 448) :
    lora (iblk m c 1 t) (iblk m c 3 t) (iblk m c 5 t) (ix2 r e) = X m c (stream t) r ⟨3072 + e.val, by omega⟩ := by
  unfold lora X Cert.Reference5Ideal.Prep.mixed
  rw [mixLora_at]
  refine mix_congr (fun r => ?_) ?_ ?_ r
  · refine (blk1 m c t r e).trans (congrArg (fun q => (m ((c : Thread nD τ).loc main_arg0)) (ix3 (stream t) r q)) (Fin.ext ?_))
    rw [Cert.Prep.src_high (show ¬ 3072 + e.val < 3072 by omega)]
    show 10240 + e.val = 7168 + (3072 + e.val)
    omega
  · exact (pay3_at (iblk m c 3 t) e).trans ((blk3 m c t e).trans (shiftPad_at _ _ e he))
  · exact (blk5 m c t e).trans (muPad_at _ e he)

/-- A product against a padded low rank map is the product of the columns the map takes. -/
theorem rank_at {n : ℕ} (f : EReal → EReal) (o : ℕ) (hn : o + n ≤ 448) (o' : ℕ) (ho : o' = 3072 + o) (w : Fin n → Fin 1024 → EReal)
    (b : Vec Ideal S512x1024 .bf16) (hb : ∀ p q, b (ix2 p q) = Cert.Prep.padded o w p q) (r : Fin 64) (e : Fin 1024) :
    ∑ j : Fin 512, f (lora (iblk m c 1 t) (iblk m c 3 t) (iblk m c 5 t) (ix2 r j)) * b (ix2 j e)
      = Cert.Prep.lowRank f o' (X m c (stream t) r) w e := by
  simp only [hb]
  refine (Cert.Prep.padded_sum o (by omega) (fun l => f (lora (iblk m c 1 t) (iblk m c 3 t) (iblk m c 5 t) (ix2 r l))) w e).trans ?_
  unfold Cert.Prep.lowRank
  refine Finset.sum_congr rfl fun l _ => ?_
  have hl := l.isLt
  refine congrArg (fun v => f v * w l e) ((lora_block m c t r ⟨o + l.val, by omega⟩ (show o + l.val < 448 by omega)).trans
    (congrArg (X m c (stream t) r) (Fin.ext ?_)))
  refine Eq.trans ?_ (col_val o' l (by omega)).symm
  show 3072 + (o + l.val) = o' + l.val
  omega

theorem keys_block (r : Fin 64) (e : Fin 1024) : (k0_pay24 (mixed 1024 (by norm_num) (X0_0 m c t) (iblk m c 2 t) (iblk m c 4 t)) (iblk m c 8 t)) (ix2 r e) = keys m c (stream t) r e := by
  rw [pay24_at, mixed_block, blk8]
  rfl

theorem icl_block (r : Fin 64) (e : Fin 1024) : k0_pay22 (lora (iblk m c 1 t) (iblk m c 3 t) (iblk m c 5 t)) (iblk m c 7 t) (iblk m c 11 t) (ix2 r e) = icl m c (stream t) r e := by
  have h := rank_at m c t id 96 (by norm_num) 3168 rfl _ _ (blk11 m c t) r e
  simp only [id] at h
  rw [pay22_at, h, blk7]
  rfl

/-! ## The seven results -/

theorem point (I : Fin 32) : ∃ t : Fin cfg0.N, stream t = I := ⟨⟨I.val, lt_of_lt_of_eq I.isLt N_0.symm⟩, rfl⟩

theorem at_stream (r : Fin 64) (e : Fin 1024) (y : Vec Ideal S32x64x1024 .f32) (i : S32x64x1024.Idx) (w0 w1 w2 : ℕ)
    (h0 : w0 = t.val) (h1 : w1 = 0) (h2 : w2 = 0) (g0 : (i 0).val = w0 * 1 + 1 * 0) (g1 : (i 1).val = w1 * 64 + 1 * r.val)
    (g2 : (i 2).val = w2 * 1024 + 1 * e.val) : y i = y (ix3 (stream t) r e) :=
  entry3_eq y i (stream t) r e (by rw [g0, h0]; show _ = t.val; omega) (by rw [g1, h1]; omega) (by rw [g2, h2]; omega)

/-- The reception vectors. -/
theorem wrote14 (t : Fin cfg0.N) : (dats m 0 c).flushed 14 t = (cfg0.win 14).cut (grid0.coords t)
    (k0_pay1 (mixed 0 (by norm_num) (X0_0 m c t) (iblk m c 2 t) (iblk m c 4 t))) := by
  rw [flushed14_A, out_14]

theorem result14 (I : Fin 32) (r : Fin 64) (e : Fin 1024) : ((dats m 0 c).arrAt 14 cfg0.N : Vec Ideal S32x64x1024 .f32) (ix3 I r e)
    = X m c I r (Cert.Prep.col 0 e) := by
  obtain ⟨t, rfl⟩ := point I
  have hb := congrFun (blocks14 m c t (flush0_14 t)) (ix3 0 r e)
  rw [View.read_apply, wrote14] at hb
  refine (at_stream t r e _ _ (win0_14.index t 0) (win0_14.index t 1) (win0_14.index t 2) (starts t).2.1 (seconds t).2.2.1 rfl rfl rfl rfl).symm.trans (hb.trans ?_)
  show (k0_pay1 (mixed 0 (by norm_num) (X0_0 m c t) (iblk m c 2 t) (iblk m c 4 t)) : FVec Ideal S1x64x1024 .f32) (ix3 0 r e) = _
  rw [pay1_at, mixed_block]

/-- The decay's rates. -/
theorem wrote15 (t : Fin cfg0.N) : (dats m 0 c).flushed 15 t = (cfg0.win 15).cut (grid0.coords t)
    (k0_pay21 (k0_pay20 (lora (iblk m c 1 t) (iblk m c 3 t) (iblk m c 5 t)) (iblk m c 6 t) (iblk m c 10 t))) := by
  rw [flushed15_A, out_15]

theorem result15 (I : Fin 32) (r : Fin 64) (e : Fin 1024) : ((dats m 0 c).arrAt 15 cfg0.N : Vec Ideal S32x64x1024 .f32) (ix3 I r e)
    = Cert.Prep.rate (@HAdd.hAdd EReal EReal EReal _ ((m ((c : Thread nD τ).loc main_arg3)) (ix1 e)) (Cert.Prep.lowRank Ideal.tanh 3072 (X m c I r) (fun l e => (m ((c : Thread nD τ).loc main_arg4)) (ix2 l e)) e)) := by
  obtain ⟨t, rfl⟩ := point I
  have hb := congrFun (blocks15 m c t (flush0_15 t)) (ix3 0 r e)
  rw [View.read_apply, wrote15] at hb
  refine (at_stream t r e _ _ (win0_15.index t 0) (win0_15.index t 1) (win0_15.index t 2) (starts t).2.2.1 (seconds t).2.2.2.1 rfl rfl rfl rfl).symm.trans (hb.trans ?_)
  show (k0_pay21 (k0_pay20 (lora (iblk m c 1 t) (iblk m c 3 t) (iblk m c 5 t)) (iblk m c 6 t) (iblk m c 10 t)) : FVec Ideal S1x64x1024 .f32) (ix3 0 r e) = _
  rw [pay21_at, pay20_at, rank_at m c t Ideal.tanh 0 (by norm_num) 3072 rfl _ _ (blk10 m c t), blk6]
  rfl

/-- The replaced keys. -/
theorem wrote16 (t : Fin cfg0.N) : (dats m 0 c).flushed 16 t = (cfg0.win 16).cut (grid0.coords t)
    (k0_pay27 (mixed 1024 (by norm_num) (X0_0 m c t) (iblk m c 2 t) (iblk m c 4 t)) (k0_pay25 (lora (iblk m c 1 t) (iblk m c 3 t) (iblk m c 5 t)) (iblk m c 7 t) (iblk m c 11 t)) (k0_pay26 (iblk m c 9 t))) := by
  rw [flushed16_A, out_16]

theorem result16 (I : Fin 32) (r : Fin 64) (e : Fin 1024) : ((dats m 0 c).arrAt 16 cfg0.N : Vec Ideal S32x64x1024 .f32) (ix3 I r e)
    = Cert.Prep.scaledKey (X m c I r (Cert.Prep.col 1024 e)) (icl m c I r e) ((m ((c : Thread nD τ).loc main_arg9)) (ix1 e)) := by
  obtain ⟨t, rfl⟩ := point I
  have hb := congrFun (blocks16 m c t (flush0_16 t)) (ix3 0 r e)
  rw [View.read_apply, wrote16] at hb
  refine (at_stream t r e _ _ (win0_16.index t 0) (win0_16.index t 1) (win0_16.index t 2) (starts t).2.2.2.1 (seconds t).2.2.2.2.1 rfl rfl rfl rfl).symm.trans (hb.trans ?_)
  show (k0_pay27 (mixed 1024 (by norm_num) (X0_0 m c t) (iblk m c 2 t) (iblk m c 4 t)) (k0_pay25 (lora (iblk m c 1 t) (iblk m c 3 t) (iblk m c 5 t)) (iblk m c 7 t) (iblk m c 11 t)) (k0_pay26 (iblk m c 9 t)) : FVec Ideal S1x64x1024 .f32) (ix3 0 r e) = _
  rw [show k0_pay25 (F := Ideal) (lora (iblk m c 1 t) (iblk m c 3 t) (iblk m c 5 t)) (iblk m c 7 t) (iblk m c 11 t) = subf (k0_pay22 (lora (iblk m c 1 t) (iblk m c 3 t) (iblk m c 5 t)) (iblk m c 7 t) (iblk m c 11 t))
    (broadcast S64x1024 (Scalar.ofBits (F := Ideal) .f32 0x3F800000#32)) from rfl, key_at, mixed_block, icl_block, blk9]

/-- The values. -/
theorem wrote17 (t : Fin cfg0.N) : (dats m 0 c).flushed 17 t = (cfg0.win 17).cut (grid0.coords t)
    (k0_pay1 (mixed 2048 (by norm_num) (X0_0 m c t) (iblk m c 2 t) (iblk m c 4 t))) := by
  rw [flushed17_A, out_17]

theorem result17 (I : Fin 32) (r : Fin 64) (e : Fin 1024) : ((dats m 0 c).arrAt 17 cfg0.N : Vec Ideal S32x64x1024 .f32) (ix3 I r e)
    = X m c I r (Cert.Prep.col 2048 e) := by
  obtain ⟨t, rfl⟩ := point I
  have hb := congrFun (blocks17 m c t (flush0_17 t)) (ix3 0 r e)
  rw [View.read_apply, wrote17] at hb
  refine (at_stream t r e _ _ (win0_17.index t 0) (win0_17.index t 1) (win0_17.index t 2) (starts t).2.2.2.2.1 (seconds t).2.2.2.2.2.1 rfl rfl rfl rfl).symm.trans (hb.trans ?_)
  show (k0_pay1 (mixed 2048 (by norm_num) (X0_0 m c t) (iblk m c 2 t) (iblk m c 4 t)) : FVec Ideal S1x64x1024 .f32) (ix3 0 r e) = _
  rw [pay1_at, mixed_block]

/-- The unit keys, negated. -/
theorem wrote18 (t : Fin cfg0.N) : (dats m 0 c).flushed 18 t = (cfg0.win 18).cut (grid0.coords t)
    (k0_pay29 (k0_pay24 (mixed 1024 (by norm_num) (X0_0 m c t) (iblk m c 2 t) (iblk m c 4 t)) (iblk m c 8 t)) (iblk m c 13 t)) := by
  rw [flushed18_A, out_18]

theorem result18 (h : Finite m c) (I : Fin 32) (r : Fin 64) (e : Fin 1024) : ((dats m 0 c).arrAt 18 cfg0.N : Vec Ideal S32x64x1024 .f32) (ix3 I r e)
    = -(Cert.Prep.unit (keys m c I r) e) := by
  obtain ⟨t, rfl⟩ := point I
  have hb := congrFun (blocks18 m c t (flush0_18 t)) (ix3 0 r e)
  rw [View.read_apply, wrote18] at hb
  refine (at_stream t r e _ _ (win0_18.index t 0) (win0_18.index t 1) (win0_18.index t 2) (starts t).2.2.2.2.2.1 (seconds t).2.2.2.2.2.2.1 rfl rfl rfl rfl).symm.trans (hb.trans ?_)
  show (k0_pay29 (k0_pay24 (mixed 1024 (by norm_num) (X0_0 m c t) (iblk m c 2 t) (iblk m c 4 t)) (iblk m c 8 t)) (iblk m c 13 t) : FVec Ideal S1x64x1024 .f32) (ix3 0 r e) = _
  rw [pay29_at, pay28_at _ _ (blk13 m c t) r e (fun l => by rw [keys_block]; exact keys_real m c h _ _ _)]
  simp only [keys_block]

/-- The unit keys times the in-context rates. -/
theorem wrote19 (t : Fin cfg0.N) : (dats m 0 c).flushed 19 t = (cfg0.win 19).cut (grid0.coords t)
    (k0_pay1 (k0_pay30 (k0_pay22 (lora (iblk m c 1 t) (iblk m c 3 t) (iblk m c 5 t)) (iblk m c 7 t) (iblk m c 11 t)) (k0_pay24 (mixed 1024 (by norm_num) (X0_0 m c t) (iblk m c 2 t) (iblk m c 4 t)) (iblk m c 8 t)) (iblk m c 13 t))) := by
  rw [flushed19_A, out_19]

theorem result19 (h : Finite m c) (I : Fin 32) (r : Fin 64) (e : Fin 1024) : ((dats m 0 c).arrAt 19 cfg0.N : Vec Ideal S32x64x1024 .f32) (ix3 I r e)
    = Cert.Prep.unit (keys m c I r) e * (icl m c I r e) := by
  obtain ⟨t, rfl⟩ := point I
  have hb := congrFun (blocks19 m c t (flush0_19 t)) (ix3 0 r e)
  rw [View.read_apply, wrote19] at hb
  refine (at_stream t r e _ _ (win0_19.index t 0) (win0_19.index t 1) (win0_19.index t 2) (starts t).2.2.2.2.2.2.1 (seconds t).2.2.2.2.2.2.2.1 rfl rfl rfl rfl).symm.trans (hb.trans ?_)
  show (k0_pay1 (k0_pay30 (k0_pay22 (lora (iblk m c 1 t) (iblk m c 3 t) (iblk m c 5 t)) (iblk m c 7 t) (iblk m c 11 t)) (k0_pay24 (mixed 1024 (by norm_num) (X0_0 m c t) (iblk m c 2 t) (iblk m c 4 t)) (iblk m c 8 t)) (iblk m c 13 t)) : FVec Ideal S1x64x1024 .f32) (ix3 0 r e) = _
  rw [pay1_at, pay30_at, icl_block, pay28_at _ _ (blk13 m c t) r e (fun l => by rw [keys_block]; exact keys_real m c h _ _ _)]
  simp only [keys_block]

/-- The gates. -/
theorem wrote20 (t : Fin cfg0.N) : (dats m 0 c).flushed 20 t = (cfg0.win 20).cut (grid0.coords t)
    (k0_pay23 (lora (iblk m c 1 t) (iblk m c 3 t) (iblk m c 5 t)) (iblk m c 12 t)) := by
  rw [flushed20_A, out_20]

theorem result20 (I : Fin 32) (r : Fin 64) (e : Fin 1024) : ((dats m 0 c).arrAt 20 cfg0.N : Vec Ideal S32x64x1024 .f32) (ix3 I r e)
    = Cert.Prep.lowRank Ideal.logistic 3264 (X m c I r) (fun l e => (m ((c : Thread nD τ).loc main_arg7)) (ix2 l e)) e := by
  obtain ⟨t, rfl⟩ := point I
  have hb := congrFun (blocks20 m c t (flush0_20 t)) (ix3 0 r e)
  rw [View.read_apply, wrote20] at hb
  refine (at_stream t r e _ _ (win0_20.index t 0) (win0_20.index t 1) (win0_20.index t 2) (starts t).2.2.2.2.2.2.2 (seconds t).2.2.2.2.2.2.2.2 rfl rfl rfl rfl).symm.trans (hb.trans ?_)
  show (k0_pay23 (lora (iblk m c 1 t) (iblk m c 3 t) (iblk m c 5 t)) (iblk m c 12 t) : FVec Ideal S1x64x1024 .f32) (ix3 0 r e) = _
  rw [pay23_at, rank_at m c t Ideal.logistic 192 (by norm_num) 3264 rfl _ _ (blk12 m c t)]

end Cert.Kernel5Ideal.Prep

end
-- ==== Proof.PrepClaim.lean ====
/-
  The claim for the recurrence's preparation: run from memories that agree on the arguments, finite in what the keys are made
  of, the kernel and the reference end with the same seven result arrays and leave the arguments as they were.
-/
module

public import proofs.«01_k».proof.Defs
public import proofs.«01_k».proof.Proof.PrepValue
public import proofs.«01_k».proof.Proof.PrepReference
public import proofs.«01_k».proof.Proof.SbClaim
public import proofs.«01_k».proof.Proof.Gen.Kernel5Ideal
public import proofs.«01_k».proof.Proof.Gen.Reference5Ideal
public import proofs.«01_k».proof.Proof.Gen.Reference5Ideal.Run

@[expose] public section

noncomputable section

open Idealize.ShloMosaic Idealize.ShloMosaic.TcCoe Idealize.SL.Sem

namespace Cert.PrepClaim

/-- The side conditions the precondition's function takes. -/
theorem pre_facts : Cert.Pre_finite_keys.Facts where
  slices_S32x64x10752_S32x64x1024_0_0_4096 := by decide
  bcast_S_S32x64x1024 := by decide
  slices_S32x1x3520_S32x1x1024_0_0_1024 := by decide
  bcast_S_S32x1x1024 := by decide
  slices_S3520_S1024_1024 := by decide
  bcast_S_S1024 := by decide

variable (m : (ℓ : Loc Cert.Kernel5Ideal.nD Cert.Kernel5Ideal.τ Cert.Kernel5Ideal.sig) → Buf (Elt Ideal) ℓ) (c : Dev Cert.Kernel5Ideal.nD)

/-- The precondition, read at an entry. -/
theorem finite (h : Cert.Pre_Kernel5Ideal_finite_keys (hPre_finite_keys := pre_facts) m) : Cert.Kernel5Ideal.Prep.Finite m c := by
  obtain ⟨h1, h2, h3, h4⟩ := h c
  refine ⟨fun I r e => ?_, fun I e => ?_, fun e => ?_, fun e => ?_⟩
  · have z := congrFun h1 (ix3 I r e)
    unfold Cert.Pre_finite_keys.fn at z
    pointwise at z
    exact Cert.Mix.real_of (Cert.SbClaim.finite_of _ z)
  · have z := congrFun h2 (ix3 I 0 e)
    unfold Cert.Pre_finite_keys.fn at z
    pointwise at z
    exact Cert.Mix.real_of (Cert.SbClaim.finite_of _ z)
  · have z := congrFun h3 (ix1 e)
    unfold Cert.Pre_finite_keys.fn at z
    pointwise at z
    exact Cert.Mix.real_of (Cert.SbClaim.finite_of _ z)
  · have z := congrFun h4 (ix1 e)
    unfold Cert.Pre_finite_keys.fn at z
    pointwise at z
    exact Cert.Mix.real_of (Cert.SbClaim.finite_of _ z)

theorem entry (j : (⟨3, ![32, 64, 1024]⟩ : Shape).Idx) : ∃ (I : Fin 32) (r : Fin 64) (e : Fin 1024), j = ix3 I r e := ⟨j 0, j 1, j 2, eq_ix3 j⟩

/-! ## The seven pairs of result arrays -/

theorem recept_eq : (Cert.Reference5Ideal.Read.val_main_v10 (F := Ideal)
      (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2)))
      = (Cert.Kernel5Ideal.Gen.dats (F := Ideal) m 0 c).arrAt 14 Cert.Kernel5Ideal.cfg0.N := by
  funext j
  obtain ⟨I, r, e, rfl⟩ := entry j
  rw [Cert.Reference5Ideal.Prep.recept_at]
  exact (Cert.Kernel5Ideal.Prep.result14 m c I r e).symm

theorem rate_eq : (Cert.Reference5Ideal.Read.val_main_v62 (F := Ideal)
      (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2))
      (m ((c.tc : Thread Cert.Kernel5Ideal.nD Cert.Kernel5Ideal.τ).loc Cert.Kernel5Ideal.main_arg3))
      (m ((c.tc : Thread Cert.Kernel5Ideal.nD Cert.Kernel5Ideal.τ).loc Cert.Kernel5Ideal.main_arg4)))
      = (Cert.Kernel5Ideal.Gen.dats (F := Ideal) m 0 c).arrAt 15 Cert.Kernel5Ideal.cfg0.N := by
  funext j
  obtain ⟨I, r, e, rfl⟩ := entry j
  rw [Cert.Reference5Ideal.Prep.rate_at]
  exact (Cert.Kernel5Ideal.Prep.result15 m c I r e).symm

theorem replaced_eq : (Cert.Reference5Ideal.Read.val_main_v54 (F := Ideal)
      (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2))
      (m ((c.tc : Thread Cert.Kernel5Ideal.nD Cert.Kernel5Ideal.τ).loc Cert.Kernel5Ideal.main_arg5))
      (m ((c.tc : Thread Cert.Kernel5Ideal.nD Cert.Kernel5Ideal.τ).loc Cert.Kernel5Ideal.main_arg6))
      (m ((c.tc : Thread Cert.Kernel5Ideal.nD Cert.Kernel5Ideal.τ).loc Cert.Kernel5Ideal.main_arg9)))
      = (Cert.Kernel5Ideal.Gen.dats (F := Ideal) m 0 c).arrAt 16 Cert.Kernel5Ideal.cfg0.N := by
  funext j
  obtain ⟨I, r, e, rfl⟩ := entry j
  rw [Cert.Reference5Ideal.Prep.replaced_at]
  exact (Cert.Kernel5Ideal.Prep.result16 m c I r e).symm

theorem value_eq : (Cert.Reference5Ideal.Read.val_main_v12 (F := Ideal)
      (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2)))
      = (Cert.Kernel5Ideal.Gen.dats (F := Ideal) m 0 c).arrAt 17 Cert.Kernel5Ideal.cfg0.N := by
  funext j
  obtain ⟨I, r, e, rfl⟩ := entry j
  rw [Cert.Reference5Ideal.Prep.value_at]
  exact (Cert.Kernel5Ideal.Prep.result17 m c I r e).symm

theorem negated_eq (h : Cert.Kernel5Ideal.Prep.Finite m c) : (Cert.Reference5Ideal.Read.val_main_v63 (F := Ideal)
      (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2))
      (m ((c.tc : Thread Cert.Kernel5Ideal.nD Cert.Kernel5Ideal.τ).loc Cert.Kernel5Ideal.main_arg8)))
      = (Cert.Kernel5Ideal.Gen.dats (F := Ideal) m 0 c).arrAt 18 Cert.Kernel5Ideal.cfg0.N := by
  funext j
  obtain ⟨I, r, e, rfl⟩ := entry j
  rw [Cert.Reference5Ideal.Prep.negated_at]
  exact (Cert.Kernel5Ideal.Prep.result18 m c h I r e).symm

theorem weighted_eq (h : Cert.Kernel5Ideal.Prep.Finite m c) : (Cert.Reference5Ideal.Read.val_main_v64 (F := Ideal)
      (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2))
      (m ((c.tc : Thread Cert.Kernel5Ideal.nD Cert.Kernel5Ideal.τ).loc Cert.Kernel5Ideal.main_arg5))
      (m ((c.tc : Thread Cert.Kernel5Ideal.nD Cert.Kernel5Ideal.τ).loc Cert.Kernel5Ideal.main_arg6))
      (m ((c.tc : Thread Cert.Kernel5Ideal.nD Cert.Kernel5Ideal.τ).loc Cert.Kernel5Ideal.main_arg8)))
      = (Cert.Kernel5Ideal.Gen.dats (F := Ideal) m 0 c).arrAt 19 Cert.Kernel5Ideal.cfg0.N := by
  funext j
  obtain ⟨I, r, e, rfl⟩ := entry j
  rw [Cert.Reference5Ideal.Prep.weighted_at]
  exact (Cert.Kernel5Ideal.Prep.result19 m c h I r e).symm

theorem gate_eq : (Cert.Reference5Ideal.Read.val_main_v42 (F := Ideal)
      (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2))
      (m ((c.tc : Thread Cert.Kernel5Ideal.nD Cert.Kernel5Ideal.τ).loc Cert.Kernel5Ideal.main_arg7)))
      = (Cert.Kernel5Ideal.Gen.dats (F := Ideal) m 0 c).arrAt 20 Cert.Kernel5Ideal.cfg0.N := by
  funext j
  obtain ⟨I, r, e, rfl⟩ := entry j
  rw [Cert.Reference5Ideal.Prep.gate_at]
  exact (Cert.Kernel5Ideal.Prep.result20 m c I r e).symm

set_option maxHeartbeats 2000000 in
/-- The value claim. -/
theorem algebraic : Cert.algebraic_Kernel5Ideal_Reference5Ideal_pre_finite_keys
    (hKernel5Ideal := Cert.Kernel5Ideal.Gen.facts) (hReference5Ideal := Cert.Reference5Ideal.Gen.facts) (hPre_finite_keys := pre_facts) := by
  intro m ρ m' ρ' hpre hagree
  refine ⟨fun c => (Cert.Kernel5Ideal.Gen.dats (F := Ideal) m 0 c).arrAt 14 Cert.Kernel5Ideal.cfg0.N,
    fun c => (Cert.Kernel5Ideal.Gen.dats (F := Ideal) m 0 c).arrAt 15 Cert.Kernel5Ideal.cfg0.N,
    fun c => (Cert.Kernel5Ideal.Gen.dats (F := Ideal) m 0 c).arrAt 16 Cert.Kernel5Ideal.cfg0.N,
    fun c => (Cert.Kernel5Ideal.Gen.dats (F := Ideal) m 0 c).arrAt 17 Cert.Kernel5Ideal.cfg0.N,
    fun c => (Cert.Kernel5Ideal.Gen.dats (F := Ideal) m 0 c).arrAt 18 Cert.Kernel5Ideal.cfg0.N,
    fun c => (Cert.Kernel5Ideal.Gen.dats (F := Ideal) m 0 c).arrAt 19 Cert.Kernel5Ideal.cfg0.N,
    fun c => (Cert.Kernel5Ideal.Gen.dats (F := Ideal) m 0 c).arrAt 20 Cert.Kernel5Ideal.cfg0.N, Cert.Kernel5Ideal.Value.run_blocks m ρ, ?_⟩
  refine (θ_run _ _ _).mono (fun r h c => ?_) (Cert.Reference5Ideal.Value.run (F := Ideal) m' ρ')
  obtain ⟨h0, h1, h2, h3, h4, h5, h6, h7, h8, h9⟩ := hagree c
  have hf := finite m c hpre
  obtain ⟨e0, e1, e2, e3, e4, e5, e6, e7⟩ := h c
  refine ⟨e0.trans ?_, e1.trans ?_, e2.trans ?_, e3.trans ?_, e4.trans ?_, e5.trans ?_, e6.trans ?_, e7⟩
  · have z := recept_eq m c
    rw [← h0, ← h1, ← h2] at z
    exact (Cert.Reference5Ideal.Read.val_main_v10_eq (F := Ideal) (m' ((c.tc : Thread Cert.Reference5Ideal.nD Cert.Reference5Ideal.τ).loc Cert.Reference5Ideal.main_arg0))
      (m' ((c.tc : Thread Cert.Reference5Ideal.nD Cert.Reference5Ideal.τ).loc Cert.Reference5Ideal.main_arg1))
      (m' ((c.tc : Thread Cert.Reference5Ideal.nD Cert.Reference5Ideal.τ).loc Cert.Reference5Ideal.main_arg2))).trans z
  · refine (Cert.Reference5Ideal.Read.val_main_v62_eq m' c).trans ?_
    rw [h0, h1, h2, h3, h4]
    exact rate_eq m c
  · refine (Cert.Reference5Ideal.Read.val_main_v54_eq m' c).trans ?_
    rw [h0, h1, h2, h5, h6, h9]
    exact replaced_eq m c
  · have z := value_eq m c
    rw [← h0, ← h1, ← h2] at z
    exact (Cert.Reference5Ideal.Read.val_main_v12_eq (F := Ideal) (m' ((c.tc : Thread Cert.Reference5Ideal.nD Cert.Reference5Ideal.τ).loc Cert.Reference5Ideal.main_arg0))
      (m' ((c.tc : Thread Cert.Reference5Ideal.nD Cert.Reference5Ideal.τ).loc Cert.Reference5Ideal.main_arg1))
      (m' ((c.tc : Thread Cert.Reference5Ideal.nD Cert.Reference5Ideal.τ).loc Cert.Reference5Ideal.main_arg2))).trans z
  · refine (Cert.Reference5Ideal.Read.val_main_v63_eq m' c).trans ?_
    rw [h0, h1, h2, h8]
    exact negated_eq m c hf
  · refine (Cert.Reference5Ideal.Read.val_main_v64_eq m' c).trans ?_
    rw [h0, h1, h2, h5, h6, h8]
    exact weighted_eq m c hf
  · have z := gate_eq m c
    rw [← h0, ← h1, ← h2, ← h7] at z
    exact (Cert.Reference5Ideal.Read.val_main_v42_eq (F := Ideal) (m' ((c.tc : Thread Cert.Reference5Ideal.nD Cert.Reference5Ideal.τ).loc Cert.Reference5Ideal.main_arg0))
      (m' ((c.tc : Thread Cert.Reference5Ideal.nD Cert.Reference5Ideal.τ).loc Cert.Reference5Ideal.main_arg1))
      (m' ((c.tc : Thread Cert.Reference5Ideal.nD Cert.Reference5Ideal.τ).loc Cert.Reference5Ideal.main_arg2))
      (m' ((c.tc : Thread Cert.Reference5Ideal.nD Cert.Reference5Ideal.τ).loc Cert.Reference5Ideal.main_arg7))).trans z

end Cert.PrepClaim

end
-- ==== Proof.lean ====
/-
  The claims, one after another: the frames are the generated ones (a reference's is read off its generated run), the
  attention's `preserves` is the named constants' statements, its value claim is SbClaim's, the feed-forward half's value
  claim is FfnClaim's, the input projection's is MixClaim's, the merge and output projection's is MergeClaim's and the
  recurrence preparation's is PrepClaim's.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.FfnClaim
public import proofs.«01_k».proof.Proof.SbClaim
public import proofs.«01_k».proof.Proof.MixClaim
public import proofs.«01_k».proof.Proof.MergeClaim
public import proofs.«01_k».proof.Proof.PrepClaim
public import Idealize.ShloMosaic.Adequacy
public import Idealize.ShloMosaic.Init

@[expose] public section

noncomputable section

namespace Cert.Proof

open Idealize.ShloMosaic Idealize.SL.Sem

/-- A reference's frame: its run read at the arguments; the program declares no semaphore. -/
theorem frame_ReferenceIdeal : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_Reference2Ideal : Cert.quiescent_Reference2Ideal (hReference2Ideal := Cert.Reference2Ideal.Gen.facts) := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem frame_Reference3Ideal : Cert.quiescent_Reference3Ideal (hReference3Ideal := Cert.Reference3Ideal.Gen.facts) := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem frame_Reference4Ideal : Cert.quiescent_Reference4Ideal (hReference4Ideal := Cert.Reference4Ideal.Gen.facts) := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem frame_Reference5Ideal : Cert.quiescent_Reference5Ideal (hReference5Ideal := Cert.Reference5Ideal.Gen.facts) := fun m ρ _ =>
  (θ_run Cert.Reference5Ideal.defs _ _).mono (fun r h => ⟨fun c => (h c).2.2.2.2.2.2.2, Idealize.ShloMosaic.sem_eq_zero_of_no_sems (by decide) r.2⟩)
    (Cert.Reference5Ideal.Value.run (F := Ideal) m ρ)

/-- The two named constants of the attention. -/
theorem preserves_attention : Cert.preserves_Kernel_KernelIdeal :=
  ⟨IdealRules.named_const.statement Cert.KernelIdeal.κ "scale" .f32 0x3E38AA3B#32 _ rfl,
    IdealRules.named_const.statement Cert.KernelIdeal.κ "log2e" .f32 0x3FB8AA3B#32 _ rfl⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.SbClaim.pre_facts, Cert.MixClaim.pre_facts, Cert.MergeClaim.pre_facts, Cert.PrepClaim.pre_facts,
  fun m ρ _ => Cert.Kernel.Gen.frame m ρ, fun m ρ _ => Cert.KernelIdeal.Gen.frame m ρ, fun m ρ _ => Cert.KernelIdeal.Gen.frame m ρ,
  frame_ReferenceIdeal, fun m ρ _ => frame_ReferenceIdeal m ρ trivial,
  fun m ρ _ => Cert.Kernel2.Gen.frame m ρ, fun m ρ _ => Cert.Kernel2Ideal.Gen.frame m ρ, frame_Reference2Ideal,
  fun m ρ _ => Cert.Kernel3.Gen.frame m ρ, fun m ρ _ => Cert.Kernel3Ideal.Gen.frame m ρ, fun m ρ _ => Cert.Kernel3Ideal.Gen.frame m ρ,
  frame_Reference3Ideal, fun m ρ _ => frame_Reference3Ideal m ρ trivial,
  fun m ρ _ => Cert.Kernel4.Gen.frame m ρ, fun m ρ _ => Cert.Kernel4Ideal.Gen.frame m ρ,
  fun m ρ _ => Cert.Kernel4Ideal.Gen.frame m ρ, frame_Reference4Ideal, fun m ρ _ => frame_Reference4Ideal m ρ trivial,
  fun m ρ _ => Cert.Kernel5.Gen.frame m ρ, fun m ρ _ => Cert.Kernel5Ideal.Gen.frame m ρ,
  fun m ρ _ => Cert.Kernel5Ideal.Gen.frame m ρ, frame_Reference5Ideal, fun m ρ _ => frame_Reference5Ideal m ρ trivial,
  preserves_attention, Cert.SbClaim.algebraic, trivial, Cert.FfnClaim.algebraic, trivial, Cert.MixClaim.algebraic, trivial, Cert.MergeClaim.algebraic,
  trivial, Cert.PrepClaim.algebraic⟩

end Cert.Proof

end
